-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_activations [hPre_finite_activations : Cert.Pre_finite_activations.Facts] (m : (ℓ : Loc Cert.KernelIdeal.nD Cert.KernelIdeal.τ Cert.KernelIdeal.sig) → Buf (Elt Ideal) ℓ) : Prop :=
  ∀ c : Dev Cert.KernelIdeal.nD,
    (Cert.Pre_finite_activations.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_activations [hPre_finite_activations : Cert.Pre_finite_activations.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_activations.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_activations [hKernelIdeal : Cert.KernelIdeal.Facts] [hPre_finite_activations : Cert.Pre_finite_activations.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_activations m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_activations [hReferenceIdeal : Cert.ReferenceIdeal.Facts] [hPre_finite_activations : Cert.Pre_finite_activations.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_activations m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_activations [hKernelIdeal : Cert.KernelIdeal.Facts] [hReferenceIdeal : Cert.ReferenceIdeal.Facts] [hPre_finite_activations : Cert.Pre_finite_activations.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_activations m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_activations : Cert.Pre_finite_activations.Facts),
    quiescent_Kernel (hKernel := hKernel)
    ∧ quiescent_KernelIdeal (hKernelIdeal := hKernelIdeal)
    ∧ quiescent_KernelIdeal_pre_finite_activations (hKernelIdeal := hKernelIdeal) (hPre_finite_activations := hPre_finite_activations)
    ∧ quiescent_ReferenceIdeal (hReferenceIdeal := hReferenceIdeal)
    ∧ quiescent_ReferenceIdeal_pre_finite_activations (hReferenceIdeal := hReferenceIdeal) (hPre_finite_activations := hPre_finite_activations)
    ∧ preserves_Kernel_KernelIdeal
    ∧ algebraic_KernelIdeal_ReferenceIdeal_pre_finite_activations (hKernelIdeal := hKernelIdeal) (hReferenceIdeal := hReferenceIdeal) (hPre_finite_activations := hPre_finite_activations)
-- ==== Pre_finite_activations.lean ====
abbrev S8x1x8192 : Shape := ⟨3, ![8, 1, 8192]⟩
abbrev S8192x11264 : Shape := ⟨2, ![8192, 11264]⟩
abbrev S64x88 : Shape := ⟨2, ![64, 88]⟩
abbrev S_ : Shape := ⟨0, ![]⟩

class Facts : Prop where
  bitsLt_bf16_f32 : FTy.bits .bf16 < FTy.bits .f32
  bcast_S_S8x1x8192 : S_.BroadcastsInDim S8x1x8192 (![] : Fin 0 → Fin S8x1x8192.rank)

variable [Facts]

def fn {F : FTy → Type} [FloatOps F] (main_arg0 : FVec F S8x1x8192 .bf16) (main_arg1 : FVec F S8192x11264 .fp8e4m3) (main_arg2 : FVec F S64x88 .f32) : IVec S8x1x8192 1 :=
  let main_v0 : FVec F S8x1x8192 .f32 := (extf .f32 · bitsLt_bf16_f32) main_arg0
  let main_v1 : FVec F S8x1x8192 .f32 := Host.absf main_v0
  let main_cst : FVec F S_ .f32 := constant S_ .f32 0x7F7F0000#32
  let main_v2 : FVec F S8x1x8192 .f32 := broadcastInDim S8x1x8192 ![] bcast_S_S8x1x8192 main_cst
  let main_v3 : IVec S8x1x8192 1 := cmpf .ole main_v1 main_v2
  main_v3
-- ==== Kernel.lean ====
abbrev S8x1x8192 : Shape := ⟨3, ![8, 1, 8192]⟩
abbrev S8192x11264 : Shape := ⟨2, ![8192, 11264]⟩
abbrev S64x88 : Shape := ⟨2, ![64, 88]⟩
abbrev S8x8192 : Shape := ⟨2, ![8, 8192]⟩
abbrev S8x11264 : Shape := ⟨2, ![8, 11264]⟩
abbrev S8x64 : Shape := ⟨2, ![8, 64]⟩
abbrev S16x512x5632 : Shape := ⟨3, ![16, 512, 5632]⟩
abbrev S16x32x512 : Shape := ⟨3, ![16, 32, 512]⟩
abbrev S64x8x128 : Shape := ⟨3, ![64, 8, 128]⟩
abbrev S2 : Shape := ⟨1, ![2]⟩
abbrev S16 : Shape := ⟨1, ![16]⟩
abbrev S1 : Shape := ⟨1, ![1]⟩
abbrev S_ : Shape := ⟨0, ![]⟩
abbrev S1x512x5632 : Shape := ⟨3, ![1, 512, 5632]⟩
abbrev S512x5632 : Shape := ⟨2, ![512, 5632]⟩
abbrev S8x128 : Shape := ⟨2, ![8, 128]⟩
abbrev S8 : Shape := ⟨1, ![8]⟩
abbrev S8x1 : Shape := ⟨2, ![8, 1]⟩
abbrev S8x256 : Shape := ⟨2, ![8, 256]⟩
abbrev S32x128 : Shape := ⟨2, ![32, 128]⟩
abbrev S1x32x128 : Shape := ⟨3, ![1, 32, 128]⟩
abbrev S1x8x128 : Shape := ⟨3, ![1, 8, 128]⟩
abbrev S1x32x512 : Shape := ⟨3, ![1, 32, 512]⟩
abbrev S32x512 : Shape := ⟨2, ![32, 512]⟩
abbrev S1x512x512 : Shape := ⟨3, ![1, 512, 512]⟩
abbrev S512x512 : Shape := ⟨2, ![512, 512]⟩
abbrev S1x1 : Shape := ⟨2, ![1, 1]⟩

abbrev nBuf : Space → Nat
  | .hbm => 7
  | .vmem => 8
  | .smem => 1
  | _ => 0

abbrev bufTy : (tb : Table) → Fin (tcTables nBuf tb) → BufTy
  | .hbm, ⟨0, _⟩ => ⟨S8x1x8192, .bf16⟩
  | .hbm, ⟨1, _⟩ => ⟨S8192x11264, .fp8e4m3⟩
  | .hbm, ⟨2, _⟩ => ⟨S64x88, .f32⟩
  | .hbm, ⟨3, _⟩ => ⟨S8x8192, .bf16⟩
  | .hbm, ⟨4, _⟩ => ⟨S8x11264, .bf16⟩
  | .hbm, ⟨5, _⟩ => ⟨S8x8192, .fp8e4m3⟩
  | .hbm, ⟨6, _⟩ => ⟨S8x64, .f32⟩
  | .local _ .vmem, ⟨0, _⟩ => ⟨S8x11264, .bf16⟩
  | .local _ .vmem, ⟨1, _⟩ => ⟨S8x8192, .fp8e4m3⟩
  | .local _ .vmem, ⟨2, _⟩ => ⟨S8x64, .f32⟩
  | .local _ .vmem, ⟨3, _⟩ => ⟨S8x8192, .bf16⟩
  | .local _ .vmem, ⟨4, _⟩ => ⟨S16x512x5632, .fp8e4m3⟩
  | .local _ .vmem, ⟨5, _⟩ => ⟨S16x32x512, .fp8e4m3⟩
  | .local _ .vmem, ⟨6, _⟩ => ⟨S64x8x128, .f32⟩
  | .local _ .vmem, ⟨7, _⟩ => ⟨S8x11264, .f32⟩
  | .local _ .smem, ⟨0, _⟩ => ⟨S64x88, .f32⟩
  | _, _ => ⟨S8x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch1 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32_1504 : BitVec 32 := 0#32
  let c16_i32_1505 : BitVec 32 := 16#32
  let v3744 : BitVec 32 := Scalar.addi c0_i32_1504 c16_i32_1505
  let c1_i32_1506 : BitVec 32 := 1#32
  ⟨c0_i32_1504, v3744, c1_i32_1506⟩
def k0_off1 (k0_t1 : Fin k0_t1_loop.trips) (c0_i32_1515 : BitVec 32) : Fin 1 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_1514 : BitVec 32 := 2#32
  let v3750 : BitVec 32 := Scalar.muli v3749 c2_i32_1514
  let v3751 : BitVec 32 := Scalar.addi v3750 c0_i32_1515
  let c16_i32_1516 : BitVec 32 := 16#32
  let v3752 : BitVec 32 := Scalar.remsi v3751 c16_i32_1516
  ![v3752.toNat]
def k0_off2 (k0_t1 : Fin k0_t1_loop.trips) (c0_i32_1515 : BitVec 32) : Fin 3 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_1514 : BitVec 32 := 2#32
  let v3750 : BitVec 32 := Scalar.muli v3749 c2_i32_1514
  let v3751 : BitVec 32 := Scalar.addi v3750 c0_i32_1515
  let c16_i32_1516 : BitVec 32 := 16#32
  let v3752 : BitVec 32 := Scalar.remsi v3751 c16_i32_1516
  let c0_i32_1518 : BitVec 32 := 0#32
  let c0_i32_1519 : BitVec 32 := 0#32
  ![v3752.toNat, 0, 0]
def k0_off3 (k0_t1 : Fin k0_t1_loop.trips) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c512_i32_1517 : BitVec 32 := 512#32
  let v3753 : BitVec 32 := Scalar.muli v3749 c512_i32_1517
  let c0_i32_1520 : BitVec 32 := 0#32
  ![v3753.toNat, 0]
def k0_off4 (k0_t1 : Fin k0_t1_loop.trips) : Fin 3 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let v3759 : Index := Scalar.indexCast v3749
  let c0_1521 : Index := 0#32
  let c0_1522 : Index := 0#32
  ![v3759.toNat, 0, 0]
def k0_off5 (k0_t1 : Fin k0_t1_loop.trips) (c0_i32_1524 : BitVec 32) : Fin 3 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1523 : BitVec 32 := 4#32
  let v3762 : BitVec 32 := Scalar.muli v3749 c4_i32_1523
  let v3763 : BitVec 32 := Scalar.addi v3762 c0_i32_1524
  let v3764 : Index := Scalar.indexCast v3763
  let c0_1525 : Index := 0#32
  let c0_1526 : Index := 0#32
  ![v3764.toNat, 0, 0]
def k0_off6 (k0_t1 : Fin k0_t1_loop.trips) (c0_i32_1515 : BitVec 32) : Fin 3 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_1514 : BitVec 32 := 2#32
  let v3750 : BitVec 32 := Scalar.muli v3749 c2_i32_1514
  let v3751 : BitVec 32 := Scalar.addi v3750 c0_i32_1515
  let c16_i32_1516 : BitVec 32 := 16#32
  let v3752 : BitVec 32 := Scalar.remsi v3751 c16_i32_1516
  let v3782 : Index := Scalar.indexCast v3752
  let c0_1539 : Index := 0#32
  let c0_1540 : Index := 0#32
  ![v3782.toNat, 0, 0]
def k0_off7 (k0_t1 : Fin k0_t1_loop.trips) (c0_i32_1545 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1544 : BitVec 32 := 4#32
  let v3787 : BitVec 32 := Scalar.muli v3749 c4_i32_1544
  let v3788 : BitVec 32 := Scalar.addi v3787 c0_i32_1545
  let v3789 : Index := Scalar.indexCast v3788
  let c0_1546 : Index := 0#32
  ![v3789.toNat, 0]
def k0_off8 (k0_t1 : Fin k0_t1_loop.trips) (c0_i32_1561 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1560 : BitVec 32 := 4#32
  let v3827 : BitVec 32 := Scalar.muli v3749 c4_i32_1560
  let v3828 : BitVec 32 := Scalar.addi v3827 c0_i32_1561
  let v3829 : Index := Scalar.indexCast v3828
  let c1_1562 : Index := 1#32
  ![v3829.toNat, 1]
def k0_off9 (k0_t1 : Fin k0_t1_loop.trips) (c0_i32_1577 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1576 : BitVec 32 := 4#32
  let v3867 : BitVec 32 := Scalar.muli v3749 c4_i32_1576
  let v3868 : BitVec 32 := Scalar.addi v3867 c0_i32_1577
  let v3869 : Index := Scalar.indexCast v3868
  let c2_1578 : Index := 2#32
  ![v3869.toNat, 2]
def k0_off10 (k0_t1 : Fin k0_t1_loop.trips) (c0_i32_1593 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1592 : BitVec 32 := 4#32
  let v3907 : BitVec 32 := Scalar.muli v3749 c4_i32_1592
  let v3908 : BitVec 32 := Scalar.addi v3907 c0_i32_1593
  let v3909 : Index := Scalar.indexCast v3908
  let c3_1594 : Index := 3#32
  ![v3909.toNat, 3]
def k0_off11 (k0_t1 : Fin k0_t1_loop.trips) (c0_i32_1515 : BitVec 32) : Fin 3 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_1514 : BitVec 32 := 2#32
  let v3750 : BitVec 32 := Scalar.muli v3749 c2_i32_1514
  let v3751 : BitVec 32 := Scalar.addi v3750 c0_i32_1515
  let c16_i32_1516 : BitVec 32 := 16#32
  let v3752 : BitVec 32 := Scalar.remsi v3751 c16_i32_1516
  let v3946 : Index := Scalar.indexCast v3752
  let c0_1606 : Index := 0#32
  let c512_1607 : Index := 512#32
  ![v3946.toNat, 0, 512]
def k0_off12 (k0_t1 : Fin k0_t1_loop.trips) (c0_i32_1612 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1611 : BitVec 32 := 4#32
  let v3951 : BitVec 32 := Scalar.muli v3749 c4_i32_1611
  let v3952 : BitVec 32 := Scalar.addi v3951 c0_i32_1612
  let v3953 : Index := Scalar.indexCast v3952
  let c4_1613 : Index := 4#32
  ![v3953.toNat, 4]
def k0_off13 (k0_t1 : Fin k0_t1_loop.trips) (c0_i32_1628 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1627 : BitVec 32 := 4#32
  let v3991 : BitVec 32 := Scalar.muli v3749 c4_i32_1627
  let v3992 : BitVec 32 := Scalar.addi v3991 c0_i32_1628
  let v3993 : Index := Scalar.indexCast v3992
  let c5_1629 : Index := 5#32
  ![v3993.toNat, 5]
def k0_off14 (k0_t1 : Fin k0_t1_loop.trips) (c0_i32_1644 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1643 : BitVec 32 := 4#32
  let v4031 : BitVec 32 := Scalar.muli v3749 c4_i32_1643
  let v4032 : BitVec 32 := Scalar.addi v4031 c0_i32_1644
  let v4033 : Index := Scalar.indexCast v4032
  let c6_1645 : Index := 6#32
  ![v4033.toNat, 6]
def k0_off15 (k0_t1 : Fin k0_t1_loop.trips) (c0_i32_1660 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1659 : BitVec 32 := 4#32
  let v4071 : BitVec 32 := Scalar.muli v3749 c4_i32_1659
  let v4072 : BitVec 32 := Scalar.addi v4071 c0_i32_1660
  let v4073 : Index := Scalar.indexCast v4072
  let c7_1661 : Index := 7#32
  ![v4073.toNat, 7]
def k0_off16 (k0_t1 : Fin k0_t1_loop.trips) (c0_i32_1515 : BitVec 32) : Fin 3 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_1514 : BitVec 32 := 2#32
  let v3750 : BitVec 32 := Scalar.muli v3749 c2_i32_1514
  let v3751 : BitVec 32 := Scalar.addi v3750 c0_i32_1515
  let c16_i32_1516 : BitVec 32 := 16#32
  let v3752 : BitVec 32 := Scalar.remsi v3751 c16_i32_1516
  let v4110 : Index := Scalar.indexCast v3752
  let c0_1673 : Index := 0#32
  let c1024_1674 : Index := 1024#32
  ![v4110.toNat, 0, 1024]
def k0_off17 (k0_t1 : Fin k0_t1_loop.trips) (c0_i32_1679 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1678 : BitVec 32 := 4#32
  let v4115 : BitVec 32 := Scalar.muli v3749 c4_i32_1678
  let v4116 : BitVec 32 := Scalar.addi v4115 c0_i32_1679
  let v4117 : Index := Scalar.indexCast v4116
  let c8_1680 : Index := 8#32
  ![v4117.toNat, 8]
def k0_off18 (k0_t1 : Fin k0_t1_loop.trips) (c0_i32_1695 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1694 : BitVec 32 := 4#32
  let v4155 : BitVec 32 := Scalar.muli v3749 c4_i32_1694
  let v4156 : BitVec 32 := Scalar.addi v4155 c0_i32_1695
  let v4157 : Index := Scalar.indexCast v4156
  let c9_1696 : Index := 9#32
  ![v4157.toNat, 9]
def k0_off19 (k0_t1 : Fin k0_t1_loop.trips) (c0_i32_1711 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1710 : BitVec 32 := 4#32
  let v4195 : BitVec 32 := Scalar.muli v3749 c4_i32_1710
  let v4196 : BitVec 32 := Scalar.addi v4195 c0_i32_1711
  let v4197 : Index := Scalar.indexCast v4196
  let c10_1712 : Index := 10#32
  ![v4197.toNat, 10]
def k0_off20 (k0_t1 : Fin k0_t1_loop.trips) (c0_i32_1727 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1726 : BitVec 32 := 4#32
  let v4235 : BitVec 32 := Scalar.muli v3749 c4_i32_1726
  let v4236 : BitVec 32 := Scalar.addi v4235 c0_i32_1727
  let v4237 : Index := Scalar.indexCast v4236
  let c11_1728 : Index := 11#32
  ![v4237.toNat, 11]
def k0_off21 (k0_t1 : Fin k0_t1_loop.trips) (c0_i32_1515 : BitVec 32) : Fin 3 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_1514 : BitVec 32 := 2#32
  let v3750 : BitVec 32 := Scalar.muli v3749 c2_i32_1514
  let v3751 : BitVec 32 := Scalar.addi v3750 c0_i32_1515
  let c16_i32_1516 : BitVec 32 := 16#32
  let v3752 : BitVec 32 := Scalar.remsi v3751 c16_i32_1516
  let v4274 : Index := Scalar.indexCast v3752
  let c0_1740 : Index := 0#32
  let c1536_1741 : Index := 1536#32
  ![v4274.toNat, 0, 1536]
def k0_off22 (k0_t1 : Fin k0_t1_loop.trips) (c0_i32_1746 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1745 : BitVec 32 := 4#32
  let v4279 : BitVec 32 := Scalar.muli v3749 c4_i32_1745
  let v4280 : BitVec 32 := Scalar.addi v4279 c0_i32_1746
  let v4281 : Index := Scalar.indexCast v4280
  let c12_1747 : Index := 12#32
  ![v4281.toNat, 12]
def k0_off23 (k0_t1 : Fin k0_t1_loop.trips) (c0_i32_1762 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1761 : BitVec 32 := 4#32
  let v4319 : BitVec 32 := Scalar.muli v3749 c4_i32_1761
  let v4320 : BitVec 32 := Scalar.addi v4319 c0_i32_1762
  let v4321 : Index := Scalar.indexCast v4320
  let c13_1763 : Index := 13#32
  ![v4321.toNat, 13]
def k0_off24 (k0_t1 : Fin k0_t1_loop.trips) (c0_i32_1778 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1777 : BitVec 32 := 4#32
  let v4359 : BitVec 32 := Scalar.muli v3749 c4_i32_1777
  let v4360 : BitVec 32 := Scalar.addi v4359 c0_i32_1778
  let v4361 : Index := Scalar.indexCast v4360
  let c14_1779 : Index := 14#32
  ![v4361.toNat, 14]
def k0_off25 (k0_t1 : Fin k0_t1_loop.trips) (c0_i32_1794 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1793 : BitVec 32 := 4#32
  let v4399 : BitVec 32 := Scalar.muli v3749 c4_i32_1793
  let v4400 : BitVec 32 := Scalar.addi v4399 c0_i32_1794
  let v4401 : Index := Scalar.indexCast v4400
  let c15_1795 : Index := 15#32
  ![v4401.toNat, 15]
def k0_off26 (k0_t1 : Fin k0_t1_loop.trips) (c0_i32_1515 : BitVec 32) : Fin 3 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_1514 : BitVec 32 := 2#32
  let v3750 : BitVec 32 := Scalar.muli v3749 c2_i32_1514
  let v3751 : BitVec 32 := Scalar.addi v3750 c0_i32_1515
  let c16_i32_1516 : BitVec 32 := 16#32
  let v3752 : BitVec 32 := Scalar.remsi v3751 c16_i32_1516
  let v4438 : Index := Scalar.indexCast v3752
  let c0_1807 : Index := 0#32
  let c2048_1808 : Index := 2048#32
  ![v4438.toNat, 0, 2048]
def k0_off27 (k0_t1 : Fin k0_t1_loop.trips) (c0_i32_1813 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1812 : BitVec 32 := 4#32
  let v4443 : BitVec 32 := Scalar.muli v3749 c4_i32_1812
  let v4444 : BitVec 32 := Scalar.addi v4443 c0_i32_1813
  let v4445 : Index := Scalar.indexCast v4444
  let c16_1814 : Index := 16#32
  ![v4445.toNat, 16]
def k0_off28 (k0_t1 : Fin k0_t1_loop.trips) (c0_i32_1829 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1828 : BitVec 32 := 4#32
  let v4483 : BitVec 32 := Scalar.muli v3749 c4_i32_1828
  let v4484 : BitVec 32 := Scalar.addi v4483 c0_i32_1829
  let v4485 : Index := Scalar.indexCast v4484
  let c17_1830 : Index := 17#32
  ![v4485.toNat, 17]
def k0_off29 (k0_t1 : Fin k0_t1_loop.trips) (c0_i32_1845 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1844 : BitVec 32 := 4#32
  let v4523 : BitVec 32 := Scalar.muli v3749 c4_i32_1844
  let v4524 : BitVec 32 := Scalar.addi v4523 c0_i32_1845
  let v4525 : Index := Scalar.indexCast v4524
  let c18_1846 : Index := 18#32
  ![v4525.toNat, 18]
def k0_off30 (k0_t1 : Fin k0_t1_loop.trips) (c0_i32_1861 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1860 : BitVec 32 := 4#32
  let v4563 : BitVec 32 := Scalar.muli v3749 c4_i32_1860
  let v4564 : BitVec 32 := Scalar.addi v4563 c0_i32_1861
  let v4565 : Index := Scalar.indexCast v4564
  let c19_1862 : Index := 19#32
  ![v4565.toNat, 19]
def k0_off31 (k0_t1 : Fin k0_t1_loop.trips) (c0_i32_1515 : BitVec 32) : Fin 3 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_1514 : BitVec 32 := 2#32
  let v3750 : BitVec 32 := Scalar.muli v3749 c2_i32_1514
  let v3751 : BitVec 32 := Scalar.addi v3750 c0_i32_1515
  let c16_i32_1516 : BitVec 32 := 16#32
  let v3752 : BitVec 32 := Scalar.remsi v3751 c16_i32_1516
  let v4602 : Index := Scalar.indexCast v3752
  let c0_1874 : Index := 0#32
  let c2560_1875 : Index := 2560#32
  ![v4602.toNat, 0, 2560]
def k0_off32 (k0_t1 : Fin k0_t1_loop.trips) (c0_i32_1880 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1879 : BitVec 32 := 4#32
  let v4607 : BitVec 32 := Scalar.muli v3749 c4_i32_1879
  let v4608 : BitVec 32 := Scalar.addi v4607 c0_i32_1880
  let v4609 : Index := Scalar.indexCast v4608
  let c20_1881 : Index := 20#32
  ![v4609.toNat, 20]
def k0_off33 (k0_t1 : Fin k0_t1_loop.trips) (c0_i32_1896 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1895 : BitVec 32 := 4#32
  let v4647 : BitVec 32 := Scalar.muli v3749 c4_i32_1895
  let v4648 : BitVec 32 := Scalar.addi v4647 c0_i32_1896
  let v4649 : Index := Scalar.indexCast v4648
  let c21_1897 : Index := 21#32
  ![v4649.toNat, 21]
def k0_off34 (k0_t1 : Fin k0_t1_loop.trips) (c0_i32_1912 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1911 : BitVec 32 := 4#32
  let v4687 : BitVec 32 := Scalar.muli v3749 c4_i32_1911
  let v4688 : BitVec 32 := Scalar.addi v4687 c0_i32_1912
  let v4689 : Index := Scalar.indexCast v4688
  let c22_1913 : Index := 22#32
  ![v4689.toNat, 22]
def k0_off35 (k0_t1 : Fin k0_t1_loop.trips) (c0_i32_1928 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1927 : BitVec 32 := 4#32
  let v4727 : BitVec 32 := Scalar.muli v3749 c4_i32_1927
  let v4728 : BitVec 32 := Scalar.addi v4727 c0_i32_1928
  let v4729 : Index := Scalar.indexCast v4728
  let c23_1929 : Index := 23#32
  ![v4729.toNat, 23]
def k0_off36 (k0_t1 : Fin k0_t1_loop.trips) (c0_i32_1515 : BitVec 32) : Fin 3 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_1514 : BitVec 32 := 2#32
  let v3750 : BitVec 32 := Scalar.muli v3749 c2_i32_1514
  let v3751 : BitVec 32 := Scalar.addi v3750 c0_i32_1515
  let c16_i32_1516 : BitVec 32 := 16#32
  let v3752 : BitVec 32 := Scalar.remsi v3751 c16_i32_1516
  let v4766 : Index := Scalar.indexCast v3752
  let c0_1941 : Index := 0#32
  let c3072_1942 : Index := 3072#32
  ![v4766.toNat, 0, 3072]
def k0_off37 (k0_t1 : Fin k0_t1_loop.trips) (c0_i32_1947 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1946 : BitVec 32 := 4#32
  let v4771 : BitVec 32 := Scalar.muli v3749 c4_i32_1946
  let v4772 : BitVec 32 := Scalar.addi v4771 c0_i32_1947
  let v4773 : Index := Scalar.indexCast v4772
  let c24_1948 : Index := 24#32
  ![v4773.toNat, 24]
def k0_off38 (k0_t1 : Fin k0_t1_loop.trips) (c0_i32_1963 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1962 : BitVec 32 := 4#32
  let v4811 : BitVec 32 := Scalar.muli v3749 c4_i32_1962
  let v4812 : BitVec 32 := Scalar.addi v4811 c0_i32_1963
  let v4813 : Index := Scalar.indexCast v4812
  let c25_1964 : Index := 25#32
  ![v4813.toNat, 25]
def k0_off39 (k0_t1 : Fin k0_t1_loop.trips) (c0_i32_1979 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1978 : BitVec 32 := 4#32
  let v4851 : BitVec 32 := Scalar.muli v3749 c4_i32_1978
  let v4852 : BitVec 32 := Scalar.addi v4851 c0_i32_1979
  let v4853 : Index := Scalar.indexCast v4852
  let c26_1980 : Index := 26#32
  ![v4853.toNat, 26]
def k0_off40 (k0_t1 : Fin k0_t1_loop.trips) (c0_i32_1995 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_1994 : BitVec 32 := 4#32
  let v4891 : BitVec 32 := Scalar.muli v3749 c4_i32_1994
  let v4892 : BitVec 32 := Scalar.addi v4891 c0_i32_1995
  let v4893 : Index := Scalar.indexCast v4892
  let c27_1996 : Index := 27#32
  ![v4893.toNat, 27]
def k0_off41 (k0_t1 : Fin k0_t1_loop.trips) (c0_i32_1515 : BitVec 32) : Fin 3 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_1514 : BitVec 32 := 2#32
  let v3750 : BitVec 32 := Scalar.muli v3749 c2_i32_1514
  let v3751 : BitVec 32 := Scalar.addi v3750 c0_i32_1515
  let c16_i32_1516 : BitVec 32 := 16#32
  let v3752 : BitVec 32 := Scalar.remsi v3751 c16_i32_1516
  let v4930 : Index := Scalar.indexCast v3752
  let c0_2008 : Index := 0#32
  let c3584_2009 : Index := 3584#32
  ![v4930.toNat, 0, 3584]
def k0_off42 (k0_t1 : Fin k0_t1_loop.trips) (c0_i32_2014 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2013 : BitVec 32 := 4#32
  let v4935 : BitVec 32 := Scalar.muli v3749 c4_i32_2013
  let v4936 : BitVec 32 := Scalar.addi v4935 c0_i32_2014
  let v4937 : Index := Scalar.indexCast v4936
  let c28_2015 : Index := 28#32
  ![v4937.toNat, 28]
def k0_off43 (k0_t1 : Fin k0_t1_loop.trips) (c0_i32_2030 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2029 : BitVec 32 := 4#32
  let v4975 : BitVec 32 := Scalar.muli v3749 c4_i32_2029
  let v4976 : BitVec 32 := Scalar.addi v4975 c0_i32_2030
  let v4977 : Index := Scalar.indexCast v4976
  let c29_2031 : Index := 29#32
  ![v4977.toNat, 29]
def k0_off44 (k0_t1 : Fin k0_t1_loop.trips) (c0_i32_2046 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2045 : BitVec 32 := 4#32
  let v5015 : BitVec 32 := Scalar.muli v3749 c4_i32_2045
  let v5016 : BitVec 32 := Scalar.addi v5015 c0_i32_2046
  let v5017 : Index := Scalar.indexCast v5016
  let c30_2047 : Index := 30#32
  ![v5017.toNat, 30]
def k0_off45 (k0_t1 : Fin k0_t1_loop.trips) (c0_i32_2062 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2061 : BitVec 32 := 4#32
  let v5055 : BitVec 32 := Scalar.muli v3749 c4_i32_2061
  let v5056 : BitVec 32 := Scalar.addi v5055 c0_i32_2062
  let v5057 : Index := Scalar.indexCast v5056
  let c31_2063 : Index := 31#32
  ![v5057.toNat, 31]
def k0_off46 (k0_t1 : Fin k0_t1_loop.trips) (c0_i32_1515 : BitVec 32) : Fin 3 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_1514 : BitVec 32 := 2#32
  let v3750 : BitVec 32 := Scalar.muli v3749 c2_i32_1514
  let v3751 : BitVec 32 := Scalar.addi v3750 c0_i32_1515
  let c16_i32_1516 : BitVec 32 := 16#32
  let v3752 : BitVec 32 := Scalar.remsi v3751 c16_i32_1516
  let v5094 : Index := Scalar.indexCast v3752
  let c0_2075 : Index := 0#32
  let c4096_2076 : Index := 4096#32
  ![v5094.toNat, 0, 4096]
def k0_off47 (k0_t1 : Fin k0_t1_loop.trips) (c0_i32_2081 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2080 : BitVec 32 := 4#32
  let v5099 : BitVec 32 := Scalar.muli v3749 c4_i32_2080
  let v5100 : BitVec 32 := Scalar.addi v5099 c0_i32_2081
  let v5101 : Index := Scalar.indexCast v5100
  let c32_2082 : Index := 32#32
  ![v5101.toNat, 32]
def k0_off48 (k0_t1 : Fin k0_t1_loop.trips) (c0_i32_2097 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2096 : BitVec 32 := 4#32
  let v5139 : BitVec 32 := Scalar.muli v3749 c4_i32_2096
  let v5140 : BitVec 32 := Scalar.addi v5139 c0_i32_2097
  let v5141 : Index := Scalar.indexCast v5140
  let c33_2098 : Index := 33#32
  ![v5141.toNat, 33]
def k0_off49 (k0_t1 : Fin k0_t1_loop.trips) (c0_i32_2113 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2112 : BitVec 32 := 4#32
  let v5179 : BitVec 32 := Scalar.muli v3749 c4_i32_2112
  let v5180 : BitVec 32 := Scalar.addi v5179 c0_i32_2113
  let v5181 : Index := Scalar.indexCast v5180
  let c34_2114 : Index := 34#32
  ![v5181.toNat, 34]
def k0_off50 (k0_t1 : Fin k0_t1_loop.trips) (c0_i32_2129 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2128 : BitVec 32 := 4#32
  let v5219 : BitVec 32 := Scalar.muli v3749 c4_i32_2128
  let v5220 : BitVec 32 := Scalar.addi v5219 c0_i32_2129
  let v5221 : Index := Scalar.indexCast v5220
  let c35_2130 : Index := 35#32
  ![v5221.toNat, 35]
def k0_off51 (k0_t1 : Fin k0_t1_loop.trips) (c0_i32_1515 : BitVec 32) : Fin 3 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_1514 : BitVec 32 := 2#32
  let v3750 : BitVec 32 := Scalar.muli v3749 c2_i32_1514
  let v3751 : BitVec 32 := Scalar.addi v3750 c0_i32_1515
  let c16_i32_1516 : BitVec 32 := 16#32
  let v3752 : BitVec 32 := Scalar.remsi v3751 c16_i32_1516
  let v5258 : Index := Scalar.indexCast v3752
  let c0_2142 : Index := 0#32
  let c4608_2143 : Index := 4608#32
  ![v5258.toNat, 0, 4608]
def k0_off52 (k0_t1 : Fin k0_t1_loop.trips) (c0_i32_2148 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2147 : BitVec 32 := 4#32
  let v5263 : BitVec 32 := Scalar.muli v3749 c4_i32_2147
  let v5264 : BitVec 32 := Scalar.addi v5263 c0_i32_2148
  let v5265 : Index := Scalar.indexCast v5264
  let c36_2149 : Index := 36#32
  ![v5265.toNat, 36]
def k0_off53 (k0_t1 : Fin k0_t1_loop.trips) (c0_i32_2164 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2163 : BitVec 32 := 4#32
  let v5303 : BitVec 32 := Scalar.muli v3749 c4_i32_2163
  let v5304 : BitVec 32 := Scalar.addi v5303 c0_i32_2164
  let v5305 : Index := Scalar.indexCast v5304
  let c37_2165 : Index := 37#32
  ![v5305.toNat, 37]
def k0_off54 (k0_t1 : Fin k0_t1_loop.trips) (c0_i32_2180 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2179 : BitVec 32 := 4#32
  let v5343 : BitVec 32 := Scalar.muli v3749 c4_i32_2179
  let v5344 : BitVec 32 := Scalar.addi v5343 c0_i32_2180
  let v5345 : Index := Scalar.indexCast v5344
  let c38_2181 : Index := 38#32
  ![v5345.toNat, 38]
def k0_off55 (k0_t1 : Fin k0_t1_loop.trips) (c0_i32_2196 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2195 : BitVec 32 := 4#32
  let v5383 : BitVec 32 := Scalar.muli v3749 c4_i32_2195
  let v5384 : BitVec 32 := Scalar.addi v5383 c0_i32_2196
  let v5385 : Index := Scalar.indexCast v5384
  let c39_2197 : Index := 39#32
  ![v5385.toNat, 39]
def k0_off56 (k0_t1 : Fin k0_t1_loop.trips) (c0_i32_1515 : BitVec 32) : Fin 3 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_1514 : BitVec 32 := 2#32
  let v3750 : BitVec 32 := Scalar.muli v3749 c2_i32_1514
  let v3751 : BitVec 32 := Scalar.addi v3750 c0_i32_1515
  let c16_i32_1516 : BitVec 32 := 16#32
  let v3752 : BitVec 32 := Scalar.remsi v3751 c16_i32_1516
  let v5422 : Index := Scalar.indexCast v3752
  let c0_2209 : Index := 0#32
  let c5120_2210 : Index := 5120#32
  ![v5422.toNat, 0, 5120]
def k0_off57 (k0_t1 : Fin k0_t1_loop.trips) (c0_i32_2215 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2214 : BitVec 32 := 4#32
  let v5427 : BitVec 32 := Scalar.muli v3749 c4_i32_2214
  let v5428 : BitVec 32 := Scalar.addi v5427 c0_i32_2215
  let v5429 : Index := Scalar.indexCast v5428
  let c40_2216 : Index := 40#32
  ![v5429.toNat, 40]
def k0_off58 (k0_t1 : Fin k0_t1_loop.trips) (c0_i32_2231 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2230 : BitVec 32 := 4#32
  let v5467 : BitVec 32 := Scalar.muli v3749 c4_i32_2230
  let v5468 : BitVec 32 := Scalar.addi v5467 c0_i32_2231
  let v5469 : Index := Scalar.indexCast v5468
  let c41_2232 : Index := 41#32
  ![v5469.toNat, 41]
def k0_off59 (k0_t1 : Fin k0_t1_loop.trips) (c0_i32_2247 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2246 : BitVec 32 := 4#32
  let v5507 : BitVec 32 := Scalar.muli v3749 c4_i32_2246
  let v5508 : BitVec 32 := Scalar.addi v5507 c0_i32_2247
  let v5509 : Index := Scalar.indexCast v5508
  let c42_2248 : Index := 42#32
  ![v5509.toNat, 42]
def k0_off60 (k0_t1 : Fin k0_t1_loop.trips) (c0_i32_2263 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2262 : BitVec 32 := 4#32
  let v5547 : BitVec 32 := Scalar.muli v3749 c4_i32_2262
  let v5548 : BitVec 32 := Scalar.addi v5547 c0_i32_2263
  let v5549 : Index := Scalar.indexCast v5548
  let c43_2264 : Index := 43#32
  ![v5549.toNat, 43]
def k0_cond1 (k0_t1 : Fin k0_t1_loop.trips) : BitVec 1 :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_2276 : BitVec 32 := 2#32
  let v5586 : BitVec 32 := Scalar.muli v3749 c2_i32_2276
  let c0_i32_2277 : BitVec 32 := 0#32
  let v5587 : BitVec 32 := Scalar.addi v5586 c0_i32_2277
  let c16_i32_2278 : BitVec 32 := 16#32
  let v5588 : BitVec 32 := Scalar.addi v5587 c16_i32_2278
  let c32_i32_2279 : BitVec 32 := 32#32
  let v5589 : BitVec 1 := Scalar.cmpi .slt v5588 c32_i32_2279
  let v5590 : BitVec 32 := Scalar.extui v5589
  let c0_i32_2280 : BitVec 32 := 0#32
  let v5591 : BitVec 1 := Scalar.cmpi .ne v5590 c0_i32_2280
  v5591

def k0_off61 (k0_t1 : Fin k0_t1_loop.trips) : Fin 1 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_1514 : BitVec 32 := 2#32
  let v3750 : BitVec 32 := Scalar.muli v3749 c2_i32_1514
  let c0_i32_1515 : BitVec 32 := 0#32
  let v3751 : BitVec 32 := Scalar.addi v3750 c0_i32_1515
  let c16_i32_1516 : BitVec 32 := 16#32
  let v3752 : BitVec 32 := Scalar.remsi v3751 c16_i32_1516
  ![v3752.toNat]
def k0_off62 (k0_t1 : Fin k0_t1_loop.trips) : Fin 3 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_1514 : BitVec 32 := 2#32
  let v3750 : BitVec 32 := Scalar.muli v3749 c2_i32_1514
  let c0_i32_1515 : BitVec 32 := 0#32
  let v3751 : BitVec 32 := Scalar.addi v3750 c0_i32_1515
  let c16_i32_1516 : BitVec 32 := 16#32
  let v3752 : BitVec 32 := Scalar.remsi v3751 c16_i32_1516
  let c0_i32_3002 : BitVec 32 := 0#32
  let c0_i32_3003 : BitVec 32 := 0#32
  ![v3752.toNat, 0, 0]
def k0_off63 (k0_t1 : Fin k0_t1_loop.trips) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c8_i32_3000 : BitVec 32 := 8#32
  let v7434 : BitVec 32 := Scalar.addi v3749 c8_i32_3000
  let c512_i32_3001 : BitVec 32 := 512#32
  let v7435 : BitVec 32 := Scalar.muli v7434 c512_i32_3001
  let c0_i32_3004 : BitVec 32 := 0#32
  ![v7435.toNat, 0]
def k0_off64 (k0_t1 : Fin k0_t1_loop.trips) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c512_i32_2284 : BitVec 32 := 512#32
  let v5595 : BitVec 32 := Scalar.muli v3749 c512_i32_2284
  let c5632_i32_2287 : BitVec 32 := 5632#32
  ![v5595.toNat, 5632]
def k0_off65 (k0_t1 : Fin k0_t1_loop.trips) (c0_i32_2312 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2311 : BitVec 32 := 4#32
  let v5629 : BitVec 32 := Scalar.muli v3749 c4_i32_2311
  let v5630 : BitVec 32 := Scalar.addi v5629 c0_i32_2312
  let v5631 : Index := Scalar.indexCast v5630
  let c44_2313 : Index := 44#32
  ![v5631.toNat, 44]
def k0_off66 (k0_t1 : Fin k0_t1_loop.trips) (c0_i32_2328 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2327 : BitVec 32 := 4#32
  let v5669 : BitVec 32 := Scalar.muli v3749 c4_i32_2327
  let v5670 : BitVec 32 := Scalar.addi v5669 c0_i32_2328
  let v5671 : Index := Scalar.indexCast v5670
  let c45_2329 : Index := 45#32
  ![v5671.toNat, 45]
def k0_off67 (k0_t1 : Fin k0_t1_loop.trips) (c0_i32_2344 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2343 : BitVec 32 := 4#32
  let v5709 : BitVec 32 := Scalar.muli v3749 c4_i32_2343
  let v5710 : BitVec 32 := Scalar.addi v5709 c0_i32_2344
  let v5711 : Index := Scalar.indexCast v5710
  let c46_2345 : Index := 46#32
  ![v5711.toNat, 46]
def k0_off68 (k0_t1 : Fin k0_t1_loop.trips) (c0_i32_2360 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2359 : BitVec 32 := 4#32
  let v5749 : BitVec 32 := Scalar.muli v3749 c4_i32_2359
  let v5750 : BitVec 32 := Scalar.addi v5749 c0_i32_2360
  let v5751 : Index := Scalar.indexCast v5750
  let c47_2361 : Index := 47#32
  ![v5751.toNat, 47]
def k0_off69 (k0_t1 : Fin k0_t1_loop.trips) (c0_i32_2379 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2378 : BitVec 32 := 4#32
  let v5793 : BitVec 32 := Scalar.muli v3749 c4_i32_2378
  let v5794 : BitVec 32 := Scalar.addi v5793 c0_i32_2379
  let v5795 : Index := Scalar.indexCast v5794
  let c48_2380 : Index := 48#32
  ![v5795.toNat, 48]
def k0_off70 (k0_t1 : Fin k0_t1_loop.trips) (c0_i32_2395 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2394 : BitVec 32 := 4#32
  let v5833 : BitVec 32 := Scalar.muli v3749 c4_i32_2394
  let v5834 : BitVec 32 := Scalar.addi v5833 c0_i32_2395
  let v5835 : Index := Scalar.indexCast v5834
  let c49_2396 : Index := 49#32
  ![v5835.toNat, 49]
def k0_off71 (k0_t1 : Fin k0_t1_loop.trips) (c0_i32_2411 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2410 : BitVec 32 := 4#32
  let v5873 : BitVec 32 := Scalar.muli v3749 c4_i32_2410
  let v5874 : BitVec 32 := Scalar.addi v5873 c0_i32_2411
  let v5875 : Index := Scalar.indexCast v5874
  let c50_2412 : Index := 50#32
  ![v5875.toNat, 50]
def k0_off72 (k0_t1 : Fin k0_t1_loop.trips) (c0_i32_2427 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2426 : BitVec 32 := 4#32
  let v5913 : BitVec 32 := Scalar.muli v3749 c4_i32_2426
  let v5914 : BitVec 32 := Scalar.addi v5913 c0_i32_2427
  let v5915 : Index := Scalar.indexCast v5914
  let c51_2428 : Index := 51#32
  ![v5915.toNat, 51]
def k0_off73 (k0_t1 : Fin k0_t1_loop.trips) (c0_i32_2446 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2445 : BitVec 32 := 4#32
  let v5957 : BitVec 32 := Scalar.muli v3749 c4_i32_2445
  let v5958 : BitVec 32 := Scalar.addi v5957 c0_i32_2446
  let v5959 : Index := Scalar.indexCast v5958
  let c52_2447 : Index := 52#32
  ![v5959.toNat, 52]
def k0_off74 (k0_t1 : Fin k0_t1_loop.trips) (c0_i32_2462 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2461 : BitVec 32 := 4#32
  let v5997 : BitVec 32 := Scalar.muli v3749 c4_i32_2461
  let v5998 : BitVec 32 := Scalar.addi v5997 c0_i32_2462
  let v5999 : Index := Scalar.indexCast v5998
  let c53_2463 : Index := 53#32
  ![v5999.toNat, 53]
def k0_off75 (k0_t1 : Fin k0_t1_loop.trips) (c0_i32_2478 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2477 : BitVec 32 := 4#32
  let v6037 : BitVec 32 := Scalar.muli v3749 c4_i32_2477
  let v6038 : BitVec 32 := Scalar.addi v6037 c0_i32_2478
  let v6039 : Index := Scalar.indexCast v6038
  let c54_2479 : Index := 54#32
  ![v6039.toNat, 54]
def k0_off76 (k0_t1 : Fin k0_t1_loop.trips) (c0_i32_2494 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2493 : BitVec 32 := 4#32
  let v6077 : BitVec 32 := Scalar.muli v3749 c4_i32_2493
  let v6078 : BitVec 32 := Scalar.addi v6077 c0_i32_2494
  let v6079 : Index := Scalar.indexCast v6078
  let c55_2495 : Index := 55#32
  ![v6079.toNat, 55]
def k0_off77 (k0_t1 : Fin k0_t1_loop.trips) (c0_i32_2513 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2512 : BitVec 32 := 4#32
  let v6121 : BitVec 32 := Scalar.muli v3749 c4_i32_2512
  let v6122 : BitVec 32 := Scalar.addi v6121 c0_i32_2513
  let v6123 : Index := Scalar.indexCast v6122
  let c56_2514 : Index := 56#32
  ![v6123.toNat, 56]
def k0_off78 (k0_t1 : Fin k0_t1_loop.trips) (c0_i32_2529 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2528 : BitVec 32 := 4#32
  let v6161 : BitVec 32 := Scalar.muli v3749 c4_i32_2528
  let v6162 : BitVec 32 := Scalar.addi v6161 c0_i32_2529
  let v6163 : Index := Scalar.indexCast v6162
  let c57_2530 : Index := 57#32
  ![v6163.toNat, 57]
def k0_off79 (k0_t1 : Fin k0_t1_loop.trips) (c0_i32_2545 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2544 : BitVec 32 := 4#32
  let v6201 : BitVec 32 := Scalar.muli v3749 c4_i32_2544
  let v6202 : BitVec 32 := Scalar.addi v6201 c0_i32_2545
  let v6203 : Index := Scalar.indexCast v6202
  let c58_2546 : Index := 58#32
  ![v6203.toNat, 58]
def k0_off80 (k0_t1 : Fin k0_t1_loop.trips) (c0_i32_2561 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2560 : BitVec 32 := 4#32
  let v6241 : BitVec 32 := Scalar.muli v3749 c4_i32_2560
  let v6242 : BitVec 32 := Scalar.addi v6241 c0_i32_2561
  let v6243 : Index := Scalar.indexCast v6242
  let c59_2562 : Index := 59#32
  ![v6243.toNat, 59]
def k0_off81 (k0_t1 : Fin k0_t1_loop.trips) (c0_i32_2580 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2579 : BitVec 32 := 4#32
  let v6285 : BitVec 32 := Scalar.muli v3749 c4_i32_2579
  let v6286 : BitVec 32 := Scalar.addi v6285 c0_i32_2580
  let v6287 : Index := Scalar.indexCast v6286
  let c60_2581 : Index := 60#32
  ![v6287.toNat, 60]
def k0_off82 (k0_t1 : Fin k0_t1_loop.trips) (c0_i32_2596 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2595 : BitVec 32 := 4#32
  let v6325 : BitVec 32 := Scalar.muli v3749 c4_i32_2595
  let v6326 : BitVec 32 := Scalar.addi v6325 c0_i32_2596
  let v6327 : Index := Scalar.indexCast v6326
  let c61_2597 : Index := 61#32
  ![v6327.toNat, 61]
def k0_off83 (k0_t1 : Fin k0_t1_loop.trips) (c0_i32_2612 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2611 : BitVec 32 := 4#32
  let v6365 : BitVec 32 := Scalar.muli v3749 c4_i32_2611
  let v6366 : BitVec 32 := Scalar.addi v6365 c0_i32_2612
  let v6367 : Index := Scalar.indexCast v6366
  let c62_2613 : Index := 62#32
  ![v6367.toNat, 62]
def k0_off84 (k0_t1 : Fin k0_t1_loop.trips) (c0_i32_2628 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2627 : BitVec 32 := 4#32
  let v6405 : BitVec 32 := Scalar.muli v3749 c4_i32_2627
  let v6406 : BitVec 32 := Scalar.addi v6405 c0_i32_2628
  let v6407 : Index := Scalar.indexCast v6406
  let c63_2629 : Index := 63#32
  ![v6407.toNat, 63]
def k0_off85 (k0_t1 : Fin k0_t1_loop.trips) (c0_i32_2646 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2645 : BitVec 32 := 4#32
  let v6449 : BitVec 32 := Scalar.muli v3749 c4_i32_2645
  let v6450 : BitVec 32 := Scalar.addi v6449 c0_i32_2646
  let v6451 : Index := Scalar.indexCast v6450
  let c64 : Index := 64#32
  ![v6451.toNat, 64]
def k0_off86 (k0_t1 : Fin k0_t1_loop.trips) (c0_i32_2660 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2659 : BitVec 32 := 4#32
  let v6489 : BitVec 32 := Scalar.muli v3749 c4_i32_2659
  let v6490 : BitVec 32 := Scalar.addi v6489 c0_i32_2660
  let v6491 : Index := Scalar.indexCast v6490
  let c65 : Index := 65#32
  ![v6491.toNat, 65]
def k0_off87 (k0_t1 : Fin k0_t1_loop.trips) (c0_i32_2674 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2673 : BitVec 32 := 4#32
  let v6529 : BitVec 32 := Scalar.muli v3749 c4_i32_2673
  let v6530 : BitVec 32 := Scalar.addi v6529 c0_i32_2674
  let v6531 : Index := Scalar.indexCast v6530
  let c66 : Index := 66#32
  ![v6531.toNat, 66]
def k0_off88 (k0_t1 : Fin k0_t1_loop.trips) (c0_i32_2688 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2687 : BitVec 32 := 4#32
  let v6569 : BitVec 32 := Scalar.muli v3749 c4_i32_2687
  let v6570 : BitVec 32 := Scalar.addi v6569 c0_i32_2688
  let v6571 : Index := Scalar.indexCast v6570
  let c67 : Index := 67#32
  ![v6571.toNat, 67]
def k0_off89 (k0_t1 : Fin k0_t1_loop.trips) (c0_i32_2705 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2704 : BitVec 32 := 4#32
  let v6613 : BitVec 32 := Scalar.muli v3749 c4_i32_2704
  let v6614 : BitVec 32 := Scalar.addi v6613 c0_i32_2705
  let v6615 : Index := Scalar.indexCast v6614
  let c68 : Index := 68#32
  ![v6615.toNat, 68]
def k0_off90 (k0_t1 : Fin k0_t1_loop.trips) (c0_i32_2719 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2718 : BitVec 32 := 4#32
  let v6653 : BitVec 32 := Scalar.muli v3749 c4_i32_2718
  let v6654 : BitVec 32 := Scalar.addi v6653 c0_i32_2719
  let v6655 : Index := Scalar.indexCast v6654
  let c69 : Index := 69#32
  ![v6655.toNat, 69]
def k0_off91 (k0_t1 : Fin k0_t1_loop.trips) (c0_i32_2733 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2732 : BitVec 32 := 4#32
  let v6693 : BitVec 32 := Scalar.muli v3749 c4_i32_2732
  let v6694 : BitVec 32 := Scalar.addi v6693 c0_i32_2733
  let v6695 : Index := Scalar.indexCast v6694
  let c70 : Index := 70#32
  ![v6695.toNat, 70]
def k0_off92 (k0_t1 : Fin k0_t1_loop.trips) (c0_i32_2747 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2746 : BitVec 32 := 4#32
  let v6733 : BitVec 32 := Scalar.muli v3749 c4_i32_2746
  let v6734 : BitVec 32 := Scalar.addi v6733 c0_i32_2747
  let v6735 : Index := Scalar.indexCast v6734
  let c71 : Index := 71#32
  ![v6735.toNat, 71]
def k0_off93 (k0_t1 : Fin k0_t1_loop.trips) (c0_i32_2764 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2763 : BitVec 32 := 4#32
  let v6777 : BitVec 32 := Scalar.muli v3749 c4_i32_2763
  let v6778 : BitVec 32 := Scalar.addi v6777 c0_i32_2764
  let v6779 : Index := Scalar.indexCast v6778
  let c72 : Index := 72#32
  ![v6779.toNat, 72]
def k0_off94 (k0_t1 : Fin k0_t1_loop.trips) (c0_i32_2778 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2777 : BitVec 32 := 4#32
  let v6817 : BitVec 32 := Scalar.muli v3749 c4_i32_2777
  let v6818 : BitVec 32 := Scalar.addi v6817 c0_i32_2778
  let v6819 : Index := Scalar.indexCast v6818
  let c73 : Index := 73#32
  ![v6819.toNat, 73]
def k0_off95 (k0_t1 : Fin k0_t1_loop.trips) (c0_i32_2792 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2791 : BitVec 32 := 4#32
  let v6857 : BitVec 32 := Scalar.muli v3749 c4_i32_2791
  let v6858 : BitVec 32 := Scalar.addi v6857 c0_i32_2792
  let v6859 : Index := Scalar.indexCast v6858
  let c74 : Index := 74#32
  ![v6859.toNat, 74]
def k0_off96 (k0_t1 : Fin k0_t1_loop.trips) (c0_i32_2806 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2805 : BitVec 32 := 4#32
  let v6897 : BitVec 32 := Scalar.muli v3749 c4_i32_2805
  let v6898 : BitVec 32 := Scalar.addi v6897 c0_i32_2806
  let v6899 : Index := Scalar.indexCast v6898
  let c75 : Index := 75#32
  ![v6899.toNat, 75]
def k0_off97 (k0_t1 : Fin k0_t1_loop.trips) (c0_i32_2823 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2822 : BitVec 32 := 4#32
  let v6941 : BitVec 32 := Scalar.muli v3749 c4_i32_2822
  let v6942 : BitVec 32 := Scalar.addi v6941 c0_i32_2823
  let v6943 : Index := Scalar.indexCast v6942
  let c76 : Index := 76#32
  ![v6943.toNat, 76]
def k0_off98 (k0_t1 : Fin k0_t1_loop.trips) (c0_i32_2837 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2836 : BitVec 32 := 4#32
  let v6981 : BitVec 32 := Scalar.muli v3749 c4_i32_2836
  let v6982 : BitVec 32 := Scalar.addi v6981 c0_i32_2837
  let v6983 : Index := Scalar.indexCast v6982
  let c77 : Index := 77#32
  ![v6983.toNat, 77]
def k0_off99 (k0_t1 : Fin k0_t1_loop.trips) (c0_i32_2851 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2850 : BitVec 32 := 4#32
  let v7021 : BitVec 32 := Scalar.muli v3749 c4_i32_2850
  let v7022 : BitVec 32 := Scalar.addi v7021 c0_i32_2851
  let v7023 : Index := Scalar.indexCast v7022
  let c78 : Index := 78#32
  ![v7023.toNat, 78]
def k0_off100 (k0_t1 : Fin k0_t1_loop.trips) (c0_i32_2865 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2864 : BitVec 32 := 4#32
  let v7061 : BitVec 32 := Scalar.muli v3749 c4_i32_2864
  let v7062 : BitVec 32 := Scalar.addi v7061 c0_i32_2865
  let v7063 : Index := Scalar.indexCast v7062
  let c79 : Index := 79#32
  ![v7063.toNat, 79]
def k0_off101 (k0_t1 : Fin k0_t1_loop.trips) (c0_i32_2882 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2881 : BitVec 32 := 4#32
  let v7105 : BitVec 32 := Scalar.muli v3749 c4_i32_2881
  let v7106 : BitVec 32 := Scalar.addi v7105 c0_i32_2882
  let v7107 : Index := Scalar.indexCast v7106
  let c80 : Index := 80#32
  ![v7107.toNat, 80]
def k0_off102 (k0_t1 : Fin k0_t1_loop.trips) (c0_i32_2896 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2895 : BitVec 32 := 4#32
  let v7145 : BitVec 32 := Scalar.muli v3749 c4_i32_2895
  let v7146 : BitVec 32 := Scalar.addi v7145 c0_i32_2896
  let v7147 : Index := Scalar.indexCast v7146
  let c81 : Index := 81#32
  ![v7147.toNat, 81]
def k0_off103 (k0_t1 : Fin k0_t1_loop.trips) (c0_i32_2910 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2909 : BitVec 32 := 4#32
  let v7185 : BitVec 32 := Scalar.muli v3749 c4_i32_2909
  let v7186 : BitVec 32 := Scalar.addi v7185 c0_i32_2910
  let v7187 : Index := Scalar.indexCast v7186
  let c82 : Index := 82#32
  ![v7187.toNat, 82]
def k0_off104 (k0_t1 : Fin k0_t1_loop.trips) (c0_i32_2924 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2923 : BitVec 32 := 4#32
  let v7225 : BitVec 32 := Scalar.muli v3749 c4_i32_2923
  let v7226 : BitVec 32 := Scalar.addi v7225 c0_i32_2924
  let v7227 : Index := Scalar.indexCast v7226
  let c83 : Index := 83#32
  ![v7227.toNat, 83]
def k0_off105 (k0_t1 : Fin k0_t1_loop.trips) (c0_i32_2941 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2940 : BitVec 32 := 4#32
  let v7269 : BitVec 32 := Scalar.muli v3749 c4_i32_2940
  let v7270 : BitVec 32 := Scalar.addi v7269 c0_i32_2941
  let v7271 : Index := Scalar.indexCast v7270
  let c84 : Index := 84#32
  ![v7271.toNat, 84]
def k0_off106 (k0_t1 : Fin k0_t1_loop.trips) (c0_i32_2955 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2954 : BitVec 32 := 4#32
  let v7309 : BitVec 32 := Scalar.muli v3749 c4_i32_2954
  let v7310 : BitVec 32 := Scalar.addi v7309 c0_i32_2955
  let v7311 : Index := Scalar.indexCast v7310
  let c85 : Index := 85#32
  ![v7311.toNat, 85]
def k0_off107 (k0_t1 : Fin k0_t1_loop.trips) (c0_i32_2969 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2968 : BitVec 32 := 4#32
  let v7349 : BitVec 32 := Scalar.muli v3749 c4_i32_2968
  let v7350 : BitVec 32 := Scalar.addi v7349 c0_i32_2969
  let v7351 : Index := Scalar.indexCast v7350
  let c86 : Index := 86#32
  ![v7351.toNat, 86]
def k0_off108 (k0_t1 : Fin k0_t1_loop.trips) (c0_i32_2983 : BitVec 32) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c4_i32_2982 : BitVec 32 := 4#32
  let v7389 : BitVec 32 := Scalar.muli v3749 c4_i32_2982
  let v7390 : BitVec 32 := Scalar.addi v7389 c0_i32_2983
  let v7391 : Index := Scalar.indexCast v7390
  let c87 : Index := 87#32
  ![v7391.toNat, 87]
def k0_cond2 (k0_t1 : Fin k0_t1_loop.trips) : BitVec 1 :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_2995 : BitVec 32 := 2#32
  let v7428 : BitVec 32 := Scalar.muli v3749 c2_i32_2995
  let c1_i32_2996 : BitVec 32 := 1#32
  let v7429 : BitVec 32 := Scalar.addi v7428 c1_i32_2996
  let c16_i32_2997 : BitVec 32 := 16#32
  let v7430 : BitVec 32 := Scalar.addi v7429 c16_i32_2997
  let c32_i32_2998 : BitVec 32 := 32#32
  let v7431 : BitVec 1 := Scalar.cmpi .slt v7430 c32_i32_2998
  let v7432 : BitVec 32 := Scalar.extui v7431
  let c0_i32_2999 : BitVec 32 := 0#32
  let v7433 : BitVec 1 := Scalar.cmpi .ne v7432 c0_i32_2999
  v7433

def k0_off109 (k0_t1 : Fin k0_t1_loop.trips) : Fin 1 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_2281 : BitVec 32 := 2#32
  let v5592 : BitVec 32 := Scalar.muli v3749 c2_i32_2281
  let c1_i32_2282 : BitVec 32 := 1#32
  let v5593 : BitVec 32 := Scalar.addi v5592 c1_i32_2282
  let c16_i32_2283 : BitVec 32 := 16#32
  let v5594 : BitVec 32 := Scalar.remsi v5593 c16_i32_2283
  ![v5594.toNat]
def k0_off110 (k0_t1 : Fin k0_t1_loop.trips) : Fin 3 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c2_i32_2281 : BitVec 32 := 2#32
  let v5592 : BitVec 32 := Scalar.muli v3749 c2_i32_2281
  let c1_i32_2282 : BitVec 32 := 1#32
  let v5593 : BitVec 32 := Scalar.addi v5592 c1_i32_2282
  let c16_i32_2283 : BitVec 32 := 16#32
  let v5594 : BitVec 32 := Scalar.remsi v5593 c16_i32_2283
  let c0_i32_3002 : BitVec 32 := 0#32
  let c0_i32_3003 : BitVec 32 := 0#32
  ![v5594.toNat, 0, 0]
def k0_off111 (k0_t1 : Fin k0_t1_loop.trips) : Fin 2 → Nat :=
  let c0_i32_1513 : BitVec 32 := 0#32
  let c0_i32_1504 : BitVec 32 := 0#32
  let c1_i32_1506 : BitVec 32 := 1#32
  let arg14 : BitVec 32 := Scf.iv c0_i32_1504 c1_i32_1506 k0_t1
  let c1_i32_1512 : BitVec 32 := 1#32
  let v3748 : BitVec 32 := Scalar.muli arg14 c1_i32_1512
  let v3749 : BitVec 32 := Scalar.addi c0_i32_1513 v3748
  let c8_i32_3000 : BitVec 32 := 8#32
  let v7434 : BitVec 32 := Scalar.addi v3749 c8_i32_3000
  let c512_i32_3001 : BitVec 32 := 512#32
  let v7435 : BitVec 32 := Scalar.muli v7434 c512_i32_3001
  let c5632_i32_3004 : BitVec 32 := 5632#32
  ![v7435.toNat, 5632]
abbrev stage0_0 : Fin 1 → Memref sig .tc .vmem S8x11264 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S8x1x8192 : Shape := ⟨3, ![8, 1, 8192]⟩
abbrev S8192x11264 : Shape := ⟨2, ![8192, 11264]⟩
abbrev S64x88 : Shape := ⟨2, ![64, 88]⟩
abbrev S8x8192 : Shape := ⟨2, ![8, 8192]⟩
abbrev S8x11264 : Shape := ⟨2, ![8, 11264]⟩
abbrev S8x64 : Shape := ⟨2, ![8, 64]⟩
abbrev S8x64x128 : Shape := ⟨3, ![8, 64, 128]⟩
abbrev S1x1x254 : Shape := ⟨3, ![1, 1, 254]⟩
abbrev S8x64x1 : Shape := ⟨3, ![8, 64, 1]⟩
abbrev S8x64x254 : Shape := ⟨3, ![8, 64, 254]⟩
abbrev S64x128x11264 : Shape := ⟨3, ![64, 128, 11264]⟩
abbrev S64x8x11264 : Shape := ⟨3, ![64, 8, 11264]⟩
abbrev S64x8x88x128 : Shape := ⟨4, ![64, 8, 88, 128]⟩
abbrev S64x8 : Shape := ⟨2, ![64, 8]⟩
abbrev S64x8x1x1 : Shape := ⟨4, ![64, 8, 1, 1]⟩
abbrev S64x1x88x1 : Shape := ⟨4, ![64, 1, 88, 1]⟩
abbrev S64x8x88x1 : Shape := ⟨4, ![64, 8, 88, 1]⟩
abbrev S8x88x128 : Shape := ⟨3, ![8, 88, 128]⟩

abbrev nBuf : Space → Nat
  | .hbm => 7
  | .vmem => 6
  | .smem => 0
  | _ => 0

abbrev bufTy : (tb : Table) → Fin (tcTables nBuf tb) → BufTy
  | .hbm, ⟨0, _⟩ => ⟨S8x1x8192, .bf16⟩
  | .hbm, ⟨1, _⟩ => ⟨S8192x11264, .fp8e4m3⟩
  | .hbm, ⟨2, _⟩ => ⟨S64x88, .f32⟩
  | .hbm, ⟨3, _⟩ => ⟨S8x8192, .bf16⟩
  | .hbm, ⟨4, _⟩ => ⟨S8x11264, .bf16⟩
  | .hbm, ⟨5, _⟩ => ⟨S8x8192, .fp8e4m3⟩
  | .hbm, ⟨6, _⟩ => ⟨S8x64, .f32⟩
  | .local _ .vmem, ⟨0, _⟩ => ⟨S8x8192, .bf16⟩
  | .local _ .vmem, ⟨1, _⟩ => ⟨S8192x11264, .fp8e4m3⟩
  | .local _ .vmem, ⟨2, _⟩ => ⟨S64x88, .f32⟩
  | .local _ .vmem, ⟨3, _⟩ => ⟨S8x11264, .bf16⟩
  | .local _ .vmem, ⟨4, _⟩ => ⟨S8x8192, .fp8e4m3⟩
  | .local _ .vmem, ⟨5, _⟩ => ⟨S8x64, .f32⟩
  | _, _ => ⟨S8x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x11264 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x88 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x11264 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Trip.lean ====
module

public import proofs.«01_k».proof.Proof.Gen.KernelIdeal.Skeleton
public import proofs.«01_k».proof.Proof.Gen.KernelIdeal.Loops
public import Idealize.ShloMosaic.Lib.Tactic
public import Idealize.ShloMosaic.Lib.Ring
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev cellM (arg13 : DmaSems sig S16) (off : Fin 1 → ℕ) (h : ∀ a, off a + S1.size a ≤ S16.size a) : SemLoc sig :=
  SemLoc.dma ((arg13.slice (Rect.unit (s := S16) off S1.size h)).squeeze S_ squeezes_S1_S_).sem

abbrev slotM (arg8 : Memref sig .tc .vmem S16x512x5632 .fp8e4m3) (off : Fin 3 → ℕ) (h : ∀ a, off a + S1x512x5632.size a ≤ S16x512x5632.size a) :
    Memref sig .tc .vmem S512x5632 .fp8e4m3 :=
  (arg8.slice (Rect.unit (s := S16x512x5632) off S1x512x5632.size h) (fun _ => rfl)).squeeze S512x5632 squeezes_S1x512x5632_S512x5632

abbrev srcM (arg1 : Memref sig .tc .hbm S8192x11264 .fp8e4m3) (off : Fin 2 → ℕ) (h : ∀ a, off a + S512x5632.size a ≤ S8192x11264.size a) :
    Memref sig .tc .hbm S512x5632 .fp8e4m3 :=
  arg1.slice (Rect.unit (s := S8192x11264) off S512x5632.size h) (fun _ => rfl)

/-- One transfer into a slot of the weight's ring, in flight. -/
abbrev fly (c : Dev nD) (arg1 : Memref sig .tc .hbm S8192x11264 .fp8e4m3) (arg8 : Memref sig .tc .vmem S16x512x5632 .fp8e4m3) (arg13 : DmaSems sig S16)
    (o : Fin 1 → ℕ) (ho : ∀ a, o a + S1.size a ≤ S16.size a)
    (p : Fin 3 → ℕ) (hp : ∀ a, p a + S1x512x5632.size a ≤ S16x512x5632.size a)
    (r : Fin 2 → ℕ) (hr : ∀ a, r a + S512x5632.size a ≤ S8192x11264.size a)
    (q : PosShare TreeShare) (W : Buf (Elt F) (arg1.view.loc (c : Thread nD τ))) (G : Buf (Elt F) (arg8.view.loc (c : Thread nD τ))) (N : ℕ) : sProp 𝕄 :=
  Transfers.Flight (countersEmb (U := Pipeline.UD sig nD τ)) (c : Thread nD τ) (cellM arg13 o ho) () N
    iprop(((slotM arg8 p hp).view.loc (c : Thread nD τ) ↦[(slotM arg8 p hp).view.set]{fullShare} G)
      ∗ ((srcM arg1 r hr).view.loc (c : Thread nD τ) ↦[(srcM arg1 r hr).view.set]{q} W))

/-- What a slot holds once block `r` of the weight has landed in it. -/
abbrev landed (c : Dev nD) (arg1 : Memref sig .tc .hbm S8192x11264 .fp8e4m3) (arg8 : Memref sig .tc .vmem S16x512x5632 .fp8e4m3)
    (p : Fin 3 → ℕ) (hp : ∀ a, p a + S1x512x5632.size a ≤ S16x512x5632.size a)
    (r : Fin 2 → ℕ) (hr : ∀ a, r a + S512x5632.size a ≤ S8192x11264.size a)
    (W : Buf (Elt F) (arg1.view.loc (c : Thread nD τ))) (G : Buf (Elt F) (arg8.view.loc (c : Thread nD τ))) :
    Buf (Elt F) (arg8.view.loc (c : Thread nD τ)) :=
  (slotM arg8 p hp).view.writes (Elt F) G [⟨Rect.whole S512x5632, ReadAs.same.apply ((srcM arg1 r hr).view.read (Elt F) W)⟩]

/-- A trip of the loop while there are blocks left to fetch: both slots are waited for, used and sent for again. -/
noncomputable def tripFed (c : Dev nD) (k : Fin k0_t1_loop.trips) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16) (c0 : BitVec 32)
    (q : PosShare TreeShare) (W : Buf (Elt F) (arg1.view.loc (c : Thread nD τ)))
    (WS : Buf (Elt F) (arg7.view.loc (c : Thread nD τ)))
    (L : Buf (Elt F) (arg9.view.loc (c : Thread nD τ)))
    (X : Buf (Elt F) (arg10.view.loc (c : Thread nD τ)))
    (A : Buf (Elt F) (arg11.view.loc (c : Thread nD τ)))
    (G0 G1 : Buf (Elt F) (arg8.view.loc (c : Thread nD τ)))
    (hk1 : k0_cond1 k = 1#1) (hk2 : k0_cond2 k = 1#1) :
    { P : List (View.Piece (Elt F) S8x11264 .f32) //
      ∀ (ws : Waits sig Unit) (Q : Unit → sProp 𝕄),
        iprop(fly c arg1 arg8 arg13 (k0_off1 k 0#32) (k0_off1_inb k 0) (k0_off2 k 0#32) (k0_off2_inb k 0) (k0_off3 k) (k0_off3_inb k) q W (G0) 90112
            ∗ fly c arg1 arg8 arg13 (k0_off1 k 1#32) (k0_off1_inb k 1) (k0_off2 k 1#32) (k0_off2_inb k 1) (k0_off64 k) (k0_off64_inb k) q W (G1) 90112
            ∗ ((srcM arg1 (k0_off63 k) (k0_off63_inb k hk1)).view.loc (c : Thread nD τ) ↦[(srcM arg1 (k0_off63 k) (k0_off63_inb k hk1)).view.set]{q} W)
            ∗ ((srcM arg1 (k0_off111 k) (k0_off111_inb k hk2)).view.loc (c : Thread nD τ) ↦[(srcM arg1 (k0_off111 k) (k0_off111_inb k hk2)).view.set]{q} W)
            ∗ (arg7.view.loc (c : Thread nD τ) ↦{fullShare} WS)
            ∗ (arg9.view.loc (c : Thread nD τ) ↦{fullShare} L)
            ∗ (arg10.view.loc (c : Thread nD τ) ↦{fullShare} X)
            ∗ (arg11.view.loc (c : Thread nD τ) ↦{fullShare} A)
            ∗ owes (c : Thread nD τ) 0 ws
            ∗ (iprop(fly c arg1 arg8 arg13 (k0_off1 k 0#32) (k0_off1_inb k 0) (k0_off2 k 0#32) (k0_off2_inb k 0) (k0_off63 k) (k0_off63_inb k hk1) q W (landed c arg1 arg8 (k0_off2 k 0#32) (k0_off2_inb k 0) (k0_off63 k) (k0_off63_inb k hk1) W G0) 90112
            ∗ fly c arg1 arg8 arg13 (k0_off1 k 1#32) (k0_off1_inb k 1) (k0_off2 k 1#32) (k0_off2_inb k 1) (k0_off111 k) (k0_off111_inb k hk2) q W (landed c arg1 arg8 (k0_off2 k 1#32) (k0_off2_inb k 1) (k0_off111 k) (k0_off111_inb k hk2) W G1) 90112
            ∗ ((srcM arg1 (k0_off3 k) (k0_off3_inb k)).view.loc (c : Thread nD τ) ↦[(srcM arg1 (k0_off3 k) (k0_off3_inb k)).view.set]{q} W)
            ∗ ((srcM arg1 (k0_off64 k) (k0_off64_inb k)).view.loc (c : Thread nD τ) ↦[(srcM arg1 (k0_off64 k) (k0_off64_inb k)).view.set]{q} W)
            ∗ (arg7.view.loc (c : Thread nD τ) ↦{fullShare} WS)
            ∗ (arg9.view.loc (c : Thread nD τ) ↦{fullShare} L)
            ∗ (arg10.view.loc (c : Thread nD τ) ↦{fullShare} X)
            ∗ (arg11.view.loc (c : Thread nD τ) ↦{fullShare} arg11.view.writes (Elt F) A P)
            ∗ (∃ ws', owes (c : Thread nD τ) 0 ws')) -∗ Q ⟨⟩))
      ⊢ wp frame (wpE (defs₀ (F := F)) Variants.none (c : Thread nD τ) none) Set.univ
         (k0_t1_body arg0 harg0 arg1 harg1 arg2 harg2 arg3 harg3 arg4 harg4 arg5 harg5 arg6 harg6 arg7 harg7 arg8 harg8 arg9 harg9 arg10 harg10 arg11 harg11 arg12 arg13 c0 k ⟨⟩) Q } := by
  refine ⟨?_, fun ws Q => ?run⟩
  case run =>
    unfold k0_t1_body
    iintro ⟨HA, HB, HS, HT, H7, H9, H10, H11, HO, Hk⟩
    sl_exec_parts
    sl_step
    iapply Hk
    isplitl [HA]; · iexact HA
    isplitl [HB]; · iexact HB
    isplitl [HA_src]; · iexact HA_src
    isplitl [HB_src]; · iexact HB_src
    isplitl [H7]; · iexact H7
    isplitl [H9]; · iexact H9
    isplitl [H10]; · iexact H10
    isplitl [H11]; · iexact H11
    iexists _; iexact HO

/-- A trip of the loop with nothing left to fetch: both slots are waited for, used and left free. -/
noncomputable def tripDry (c : Dev nD) (k : Fin k0_t1_loop.trips) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16) (c0 : BitVec 32)
    (q : PosShare TreeShare) (W : Buf (Elt F) (arg1.view.loc (c : Thread nD τ)))
    (WS : Buf (Elt F) (arg7.view.loc (c : Thread nD τ)))
    (L : Buf (Elt F) (arg9.view.loc (c : Thread nD τ)))
    (X : Buf (Elt F) (arg10.view.loc (c : Thread nD τ)))
    (A : Buf (Elt F) (arg11.view.loc (c : Thread nD τ)))
    (G0 G1 : Buf (Elt F) (arg8.view.loc (c : Thread nD τ)))
    (hk1 : ¬ k0_cond1 k = 1#1) (hk2 : ¬ k0_cond2 k = 1#1) :
    { P : List (View.Piece (Elt F) S8x11264 .f32) //
      ∀ (ws : Waits sig Unit) (Q : Unit → sProp 𝕄),
        iprop(fly c arg1 arg8 arg13 (k0_off1 k 0#32) (k0_off1_inb k 0) (k0_off2 k 0#32) (k0_off2_inb k 0) (k0_off3 k) (k0_off3_inb k) q W (G0) 90112
            ∗ fly c arg1 arg8 arg13 (k0_off1 k 1#32) (k0_off1_inb k 1) (k0_off2 k 1#32) (k0_off2_inb k 1) (k0_off64 k) (k0_off64_inb k) q W (G1) 90112
            ∗ (arg7.view.loc (c : Thread nD τ) ↦{fullShare} WS)
            ∗ (arg9.view.loc (c : Thread nD τ) ↦{fullShare} L)
            ∗ (arg10.view.loc (c : Thread nD τ) ↦{fullShare} X)
            ∗ (arg11.view.loc (c : Thread nD τ) ↦{fullShare} A)
            ∗ owes (c : Thread nD τ) 0 ws
            ∗ (iprop(semVal ((c : Thread nD τ), cellM arg13 (k0_off1 k 0#32) (k0_off1_inb k 0)) 0 ∗ ((slotM arg8 (k0_off2 k 0#32) (k0_off2_inb k 0)).view.loc (c : Thread nD τ) ↦[(slotM arg8 (k0_off2 k 0#32) (k0_off2_inb k 0)).view.set]{fullShare} G0)
            ∗ semVal ((c : Thread nD τ), cellM arg13 (k0_off1 k 1#32) (k0_off1_inb k 1)) 0 ∗ ((slotM arg8 (k0_off2 k 1#32) (k0_off2_inb k 1)).view.loc (c : Thread nD τ) ↦[(slotM arg8 (k0_off2 k 1#32) (k0_off2_inb k 1)).view.set]{fullShare} G1)
            ∗ ((srcM arg1 (k0_off3 k) (k0_off3_inb k)).view.loc (c : Thread nD τ) ↦[(srcM arg1 (k0_off3 k) (k0_off3_inb k)).view.set]{q} W)
            ∗ ((srcM arg1 (k0_off64 k) (k0_off64_inb k)).view.loc (c : Thread nD τ) ↦[(srcM arg1 (k0_off64 k) (k0_off64_inb k)).view.set]{q} W)
            ∗ (arg7.view.loc (c : Thread nD τ) ↦{fullShare} WS)
            ∗ (arg9.view.loc (c : Thread nD τ) ↦{fullShare} L)
            ∗ (arg10.view.loc (c : Thread nD τ) ↦{fullShare} X)
            ∗ (arg11.view.loc (c : Thread nD τ) ↦{fullShare} arg11.view.writes (Elt F) A P)
            ∗ (∃ ws', owes (c : Thread nD τ) 0 ws')) -∗ Q ⟨⟩))
      ⊢ wp frame (wpE (defs₀ (F := F)) Variants.none (c : Thread nD τ) none) Set.univ
         (k0_t1_body arg0 harg0 arg1 harg1 arg2 harg2 arg3 harg3 arg4 harg4 arg5 harg5 arg6 harg6 arg7 harg7 arg8 harg8 arg9 harg9 arg10 harg10 arg11 harg11 arg12 arg13 c0 k ⟨⟩) Q } := by
  refine ⟨?_, fun ws Q => ?run⟩
  case run =>
    unfold k0_t1_body
    iintro ⟨HA, HB, H7, H9, H10, H11, HO, Hk⟩
    sl_exec_parts
    sl_step
    iapply Hk
    isplitl [HA]; · iexact HA
    isplitl [HA_dst]; · iexact HA_dst
    isplitl [HB]; · iexact HB
    isplitl [HB_dst]; · iexact HB_dst
    isplitl [HA_src]; · iexact HA_src
    isplitl [HB_src]; · iexact HB_src
    isplitl [H7]; · iexact H7
    isplitl [H9]; · iexact H9
    isplitl [H10]; · iexact H10
    isplitl [H11]; · iexact H11
    iexists _; iexact HO

end Cert.KernelIdeal.Hand
end
-- ==== Proof.Ring.lean ====
module

public import proofs.«01_k».proof.Proof.Gen.KernelIdeal.Skeleton
public import proofs.«01_k».proof.Proof.Gen.KernelIdeal.Loops
public import Idealize.ShloMosaic.Lib.Tactic
public import proofs.«01_k».proof.Proof.Trip
public import Idealize.ShloMosaic.Lib.Ring
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev cellS (arg12 : DmaSems sig S2) (off : Fin 1 → ℕ) (h : ∀ a, off a + S1.size a ≤ S2.size a) : SemLoc sig :=
  SemLoc.dma ((arg12.slice (Rect.unit (s := S2) off S1.size h)).squeeze S_ squeezes_S1_S_).sem

/-- The two blocks of the weight that trip `t` uses, in HBM. -/
def home (c : Dev nD) (arg1 : Memref sig .tc .hbm S8192x11264 .fp8e4m3) (q : PosShare TreeShare)
    (W : Buf (Elt F) (arg1.view.loc (c : Thread nD τ))) (t : Fin k0_t1_loop.trips) : sProp 𝕄 :=
  iprop(((srcM arg1 (k0_off3 t) (k0_off3_inb t)).view.loc (c : Thread nD τ) ↦[(srcM arg1 (k0_off3 t) (k0_off3_inb t)).view.set]{q} W)
    ∗ ((srcM arg1 (k0_off64 t) (k0_off64_inb t)).view.loc (c : Thread nD τ) ↦[(srcM arg1 (k0_off64 t) (k0_off64_inb t)).view.set]{q} W))

/-- The two slots that trip `t` uses, free: their cells at zero. -/
def slots (c : Dev nD) (arg8 : Memref sig .tc .vmem S16x512x5632 .fp8e4m3) (arg13 : DmaSems sig S16) (t : Fin k0_t1_loop.trips) : sProp 𝕄 :=
  iprop(semVal ((c : Thread nD τ), cellM arg13 (k0_off1 t 0#32) (k0_off1_inb t 0)) 0
    ∗ (∃ G : Buf (Elt F) (arg8.view.loc (c : Thread nD τ)), (slotM arg8 (k0_off2 t 0#32) (k0_off2_inb t 0)).view.loc (c : Thread nD τ) ↦[(slotM arg8 (k0_off2 t 0#32) (k0_off2_inb t 0)).view.set]{fullShare} G)
    ∗ semVal ((c : Thread nD τ), cellM arg13 (k0_off1 t 1#32) (k0_off1_inb t 1)) 0
    ∗ (∃ G : Buf (Elt F) (arg8.view.loc (c : Thread nD τ)), (slotM arg8 (k0_off2 t 1#32) (k0_off2_inb t 1)).view.loc (c : Thread nD τ) ↦[(slotM arg8 (k0_off2 t 1#32) (k0_off2_inb t 1)).view.set]{fullShare} G))

abbrev tr (n : ℕ) (h : n < 16 := by decide) : Fin k0_t1_loop.trips := ⟨n, h⟩

/-- What the prologue fetches with: the first eight trips' blocks and their slots. -/
abbrev start (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ))) (t : Fin k0_t1_loop.trips) : sProp 𝕄 :=
  iprop(home c arg1 q W t ∗ slots c arg8 arg13 t)

/-- The two slots that trip `t` uses, each with its block of the weight on its way. -/
def flying (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ))) (t : Fin k0_t1_loop.trips) : sProp 𝕄 :=
  iprop((∃ G : Buf (Elt F) (arg8.view.loc (c : Thread nD τ)), fly c arg1 arg8 arg13 (k0_off1 t 0#32) (k0_off1_inb t 0) (k0_off2 t 0#32) (k0_off2_inb t 0) (k0_off3 t) (k0_off3_inb t) q W
        (landed c arg1 arg8 (k0_off2 t 0#32) (k0_off2_inb t 0) (k0_off3 t) (k0_off3_inb t) W G) 90112)
    ∗ (∃ G : Buf (Elt F) (arg8.view.loc (c : Thread nD τ)), fly c arg1 arg8 arg13 (k0_off1 t 1#32) (k0_off1_inb t 1) (k0_off2 t 1#32) (k0_off2_inb t 1) (k0_off64 t) (k0_off64_inb t) q W
        (landed c arg1 arg8 (k0_off2 t 1#32) (k0_off2_inb t 1) (k0_off64 t) (k0_off64_inb t) W G) 90112))

/-- What is left of the body after the prologue: the loop, and the result's rounding. -/
def rest (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16) : Prog (TpuEff nD τ sig (Elt F) Λ₀ .tc) PUnit := do
  Scf.Loop.for k0_t1_loop k0_t1_ok ⟨⟩ (k0_t1_body arg0 harg0 arg1 harg1 arg2 harg2 arg3 harg3 arg4 harg4 arg5 harg5 arg6 harg6 arg7 harg7 arg8 harg8 arg9 harg9 arg10 harg10 arg11 harg11 arg12 arg13 0#32)
  let v3745 : Vec F S8x11264 .f32 ← Prog.lift (.load arg11 (Rect.unit (s := S8x11264) ![0, 0] S8x11264.size inb_S8x11264_S8x11264_0_0).toLoadRect (View.loadsAt_vmem h_S8x11264))
  let v3747 : Vec F S8x11264 .bf16 ← Prog.lift (.load arg3 (Rect.unit (s := S8x11264) ![0, 0] S8x11264.size inb_S8x11264_S8x11264_0_0).toLoadRect (View.loadsAt_vmem h_S8x11264))
  Prog.lift (.store arg3 (Rect.unit (s := S8x11264) ![0, 0] S8x11264.size inb_S8x11264_S8x11264_0_0) (k0_pay1 v3745) Finset.univ (View.stores_vmem h_S8x11264 (harg3.storeExact_slice rfl _ packedbf16_S8x11264_S8x11264_0_0) (fun _ => rfl)) (.inl rfl))
  pure ⟨⟩

/-- The scales in scalar memory once their transfer has landed. -/
abbrev wsIn (c : Dev nD) (arg2 : Memref sig .tc .hbm S64x88 .f32) (arg7 : Memref sig .tc .smem S64x88 .f32)
    (S0 : Buf (Elt F) (arg2.view.loc (c : Thread nD τ))) (WS : Buf (Elt F) (arg7.view.loc (c : Thread nD τ))) : Buf (Elt F) (arg7.view.loc (c : Thread nD τ)) :=
  View.write (Elt F) arg7.view WS (ReadAs.same.apply (arg2.view.read (Elt F) S0)) Finset.univ

/-- The activations in vector memory once their transfer has landed. -/
abbrev xIn (c : Dev nD) (arg0 : Memref sig .tc .hbm S8x8192 .bf16) (arg6 : Memref sig .tc .vmem S8x8192 .bf16)
    (X0 : Buf (Elt F) (arg0.view.loc (c : Thread nD τ))) (XB : Buf (Elt F) (arg6.view.loc (c : Thread nD τ))) : Buf (Elt F) (arg6.view.loc (c : Thread nD τ)) :=
  View.write (Elt F) arg6.view XB (ReadAs.same.apply (arg0.view.read (Elt F) X0)) Finset.univ

end Cert.KernelIdeal.Hand
end
-- ==== Proof.Prologue.lean ====
module

public import proofs.«01_k».proof.Proof.Gen.KernelIdeal.Skeleton
public import proofs.«01_k».proof.Proof.Gen.KernelIdeal.Loops
public import Idealize.ShloMosaic.Lib.Tactic
public import proofs.«01_k».proof.Proof.Ring
public import Idealize.ShloMosaic.Lib.Ring
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The lists of writes the prologue leaves: to the codes, the scales, the left operand, the scales by lane, the sums. -/
abbrev Writes (F : FTy → Type) : Type :=
  List (View.Piece (Elt F) S8x8192 .fp8e4m3) × List (View.Piece (Elt F) S8x64 .f32) × List (View.Piece (Elt F) S16x32x512 .fp8e4m3)
    × List (View.Piece (Elt F) S64x8x128 .f32) × List (View.Piece (Elt F) S8x11264 .f32)

/-- The prologue: the transfers are sent for, and the activations are quantised group by group. -/
noncomputable def prologue (c : Dev nD) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16)
    (q q0 q2 : PosShare TreeShare) (W : Buf (Elt F) (arg1.view.loc (c : Thread nD τ)))
    (X0 : Buf (Elt F) (arg0.view.loc (c : Thread nD τ))) (S0 : Buf (Elt F) (arg2.view.loc (c : Thread nD τ)))
    (XB : Buf (Elt F) (arg6.view.loc (c : Thread nD τ)))
    (WS : Buf (Elt F) (arg7.view.loc (c : Thread nD τ))) :
    { P : Writes F // ∀
      (C : Buf (Elt F) (arg4.view.loc (c : Thread nD τ))) (S : Buf (Elt F) (arg5.view.loc (c : Thread nD τ)))
      (L : Buf (Elt F) (arg9.view.loc (c : Thread nD τ)))
      (X : Buf (Elt F) (arg10.view.loc (c : Thread nD τ)))
      (A : Buf (Elt F) (arg11.view.loc (c : Thread nD τ))) (ws : Waits sig Unit) (Q : PUnit → sProp 𝕄),
      iprop((arg0.view.loc (c : Thread nD τ) ↦{q0} X0) ∗ (arg2.view.loc (c : Thread nD τ) ↦{q2} S0)
        ∗ (arg4.view.loc (c : Thread nD τ) ↦{fullShare} C) ∗ (arg5.view.loc (c : Thread nD τ) ↦{fullShare} S)
        ∗ (arg6.view.loc (c : Thread nD τ) ↦{fullShare} XB) ∗ (arg7.view.loc (c : Thread nD τ) ↦{fullShare} WS)
        ∗ (arg9.view.loc (c : Thread nD τ) ↦{fullShare} L) ∗ (arg10.view.loc (c : Thread nD τ) ↦{fullShare} X) ∗ (arg11.view.loc (c : Thread nD τ) ↦{fullShare} A)
        ∗ semVal ((c : Thread nD τ), cellS arg12 ![0] inb_S2_S1_0) 0 ∗ semVal ((c : Thread nD τ), cellS arg12 ![1] inb_S2_S1_1) 0
        ∗ start c arg1 arg8 arg13 q W (tr 0)
            ∗ start c arg1 arg8 arg13 q W (tr 1)
            ∗ start c arg1 arg8 arg13 q W (tr 2)
            ∗ start c arg1 arg8 arg13 q W (tr 3)
            ∗ start c arg1 arg8 arg13 q W (tr 4)
            ∗ start c arg1 arg8 arg13 q W (tr 5)
            ∗ start c arg1 arg8 arg13 q W (tr 6)
            ∗ start c arg1 arg8 arg13 q W (tr 7)
        ∗ owes (c : Thread nD τ) 0 ws
        ∗ (iprop((arg0.view.loc (c : Thread nD τ) ↦{q0} X0) ∗ (arg2.view.loc (c : Thread nD τ) ↦{q2} S0)
            ∗ (arg4.view.loc (c : Thread nD τ) ↦{fullShare} arg4.view.writes (Elt F) arg4.view.junk P.1) ∗ (arg5.view.loc (c : Thread nD τ) ↦{fullShare} arg5.view.writes (Elt F) arg5.view.junk P.2.1)
            ∗ (arg6.view.loc (c : Thread nD τ) ↦{fullShare} xIn c arg0 arg6 X0 XB) ∗ (arg7.view.loc (c : Thread nD τ) ↦{fullShare} wsIn c arg2 arg7 S0 WS)
            ∗ (arg9.view.loc (c : Thread nD τ) ↦{fullShare} arg9.view.writes (Elt F) arg9.view.junk P.2.2.1) ∗ (arg10.view.loc (c : Thread nD τ) ↦{fullShare} arg10.view.writes (Elt F) arg10.view.junk P.2.2.2.1)
            ∗ (arg11.view.loc (c : Thread nD τ) ↦{fullShare} arg11.view.writes (Elt F) arg11.view.junk P.2.2.2.2)
            ∗ semVal ((c : Thread nD τ), cellS arg12 ![0] inb_S2_S1_0) 0 ∗ semVal ((c : Thread nD τ), cellS arg12 ![1] inb_S2_S1_1) 0
            ∗ flying c arg1 arg8 arg13 q W (tr 0)
            ∗ flying c arg1 arg8 arg13 q W (tr 1)
            ∗ flying c arg1 arg8 arg13 q W (tr 2)
            ∗ flying c arg1 arg8 arg13 q W (tr 3)
            ∗ flying c arg1 arg8 arg13 q W (tr 4)
            ∗ flying c arg1 arg8 arg13 q W (tr 5)
            ∗ flying c arg1 arg8 arg13 q W (tr 6)
            ∗ flying c arg1 arg8 arg13 q W (tr 7)
            ∗ (∃ ws', owes (c : Thread nD τ) 0 ws'))
           -∗ wp frame (wpE (defs₀ (F := F)) Variants.none (c : Thread nD τ) none) Set.univ (rest arg0 harg0 arg1 harg1 arg2 harg2 arg3 harg3 arg4 harg4 arg5 harg5 arg6 harg6 arg7 harg7 arg8 harg8 arg9 harg9 arg10 harg10 arg11 harg11 arg12 arg13) Q))
       ⊢ wp frame (wpE (defs₀ (F := F)) Variants.none (c : Thread nD τ) none) Set.univ
           (cc0_fp8_block_linear arg0 harg0 arg1 harg1 arg2 harg2 arg3 harg3 arg4 harg4 arg5 harg5 arg6 harg6 arg7 harg7 arg8 harg8 arg9 harg9 arg10 harg10 arg11 harg11 arg12 arg13) Q } := by
  refine ⟨⟨?p1, ?p2, ?p3, ?p4, ?p5⟩, fun C S L X A ws Q => ?run⟩
  case run =>
    simp only [cc0_fp8_block_linear_eq_skeleton]; unfold cc0_fp8_block_linear_skel
    unfold start home slots
    iintro ⟨H0, H2, H4, H5, H6, H7, H9, H10, H11, Hx, Hs,
      ⟨⟨Ha0, Hb0⟩, Hc0, ⟨%g0, Hd0⟩, He0, ⟨%h0, Hf0⟩⟩,
      ⟨⟨Ha1, Hb1⟩, Hc1, ⟨%g1, Hd1⟩, He1, ⟨%h1, Hf1⟩⟩,
      ⟨⟨Ha2, Hb2⟩, Hc2, ⟨%g2, Hd2⟩, He2, ⟨%h2, Hf2⟩⟩,
      ⟨⟨Ha3, Hb3⟩, Hc3, ⟨%g3, Hd3⟩, He3, ⟨%h3, Hf3⟩⟩,
      ⟨⟨Ha4, Hb4⟩, Hc4, ⟨%g4, Hd4⟩, He4, ⟨%h4, Hf4⟩⟩,
      ⟨⟨Ha5, Hb5⟩, Hc5, ⟨%g5, Hd5⟩, He5, ⟨%h5, Hf5⟩⟩,
      ⟨⟨Ha6, Hb6⟩, Hc6, ⟨%g6, Hd6⟩, He6, ⟨%h6, Hf6⟩⟩,
      ⟨⟨Ha7, Hb7⟩, Hc7, ⟨%g7, Hd7⟩, He7, ⟨%h7, Hf7⟩⟩, HO, Hk⟩
    sl_exec_parts
    unfold rest flying
    dsimp only
    iapply Hk
    isplitl [H0]; · iexact H0
    isplitl [H2]; · iexact H2
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [Hx]; · iexact Hx
    isplitl [Hs]; · iexact Hs
    isplitl [Hc0 He0]
    · isplitl [Hc0]
      · iexists _; iexact Hc0
      · iexists _; iexact He0
    isplitl [Hc1 He1]
    · isplitl [Hc1]
      · iexists _; iexact Hc1
      · iexists _; iexact He1
    isplitl [Hc2 He2]
    · isplitl [Hc2]
      · iexists _; iexact Hc2
      · iexists _; iexact He2
    isplitl [Hc3 He3]
    · isplitl [Hc3]
      · iexists _; iexact Hc3
      · iexists _; iexact He3
    isplitl [Hc4 He4]
    · isplitl [Hc4]
      · iexists _; iexact Hc4
      · iexists _; iexact He4
    isplitl [Hc5 He5]
    · isplitl [Hc5]
      · iexists _; iexact Hc5
      · iexists _; iexact He5
    isplitl [Hc6 He6]
    · isplitl [Hc6]
      · iexists _; iexact Hc6
      · iexists _; iexact He6
    isplitl [Hc7 He7]
    · isplitl [Hc7]
      · iexists _; iexact Hc7
      · iexists _; iexact He7
    iexists _; iexact HO

end Cert.KernelIdeal.Hand
end
-- ==== Proof.Loop.lean ====
module

public import proofs.«01_k».proof.Proof.Gen.KernelIdeal.Skeleton
public import proofs.«01_k».proof.Proof.Gen.KernelIdeal.Loops
public import Idealize.ShloMosaic.Lib.Tactic
public import proofs.«01_k».proof.Proof.Prologue
public import Idealize.ShloMosaic.Lib.Ring
public import Idealize.ShloMosaic.Lib.Ring.Pair
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Where a trip's two blocks are: in HBM and not sent for, on their way, or back in HBM with their slots free. -/
inductive Stage | home | flying | freed
  deriving DecidableEq

/-- What the kernel holds for the two blocks of trip `t`. -/
def pair (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ))) (t : Fin k0_t1_loop.trips) : Stage → sProp 𝕄
  | .home => home c arg1 q W t
  | .flying => flying c arg1 arg8 arg13 q W t
  | .freed => iprop(home c arg1 q W t ∗ slots c arg8 arg13 t)

/-- Before trip `k` the blocks of the trips `k … k + 7` are on their way. -/
def stageAt (k : ℕ) (t : Fin k0_t1_loop.trips) : Stage :=
  if t.val < k then (if t.val < 8 then .home else .freed) else if t.val < k + 8 then .flying else .home

/-- The blocks of all trips, at stages `st`. -/
abbrev pairs (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ))) (st : Fin k0_t1_loop.trips → Stage) : sProp 𝕄 :=
  Ring.AtW (σ := fun _ => Stage) (pair c arg1 arg8 arg13 q W) st

theorem cond1_iff : ∀ k : Fin k0_t1_loop.trips, k0_cond1 k = 1#1 ↔ k.val < 8 := by decide
theorem cond2_iff : ∀ k : Fin k0_t1_loop.trips, k0_cond2 k = 1#1 ↔ k.val < 8 := by decide

/-- Trip `k`'s slots are trip `k + 8`'s. -/
theorem off1_again (k t : Fin k0_t1_loop.trips) (h : t.val = k.val + 8) (p : Fin 2) :
    k0_off1 k (BitVec.ofNat 32 p.val) = k0_off1 t (BitVec.ofNat 32 p.val) := by revert p; revert h; revert t; revert k; decide +kernel
theorem off2_again (k t : Fin k0_t1_loop.trips) (h : t.val = k.val + 8) (p : Fin 2) :
    k0_off2 k (BitVec.ofNat 32 p.val) = k0_off2 t (BitVec.ofNat 32 p.val) := by revert p; revert h; revert t; revert k; decide +kernel
theorem off63_next (k t : Fin k0_t1_loop.trips) (h : t.val = k.val + 8) : k0_off63 k = k0_off3 t := by revert h; revert t; revert k; decide +kernel
theorem off111_next (k t : Fin k0_t1_loop.trips) (h : t.val = k.val + 8) : k0_off111 k = k0_off64 t := by revert h; revert t; revert k; decide +kernel

/-- A transfer depends on its offsets alone. -/
theorem fly_congr (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ)))
    {o o' : Fin 1 → ℕ} (eo : o = o') {p p' : Fin 3 → ℕ} (ep : p = p') {r r' : Fin 2 → ℕ} (er : r = r')
    (ho : ∀ a, o a + S1.size a ≤ S16.size a) (ho' : ∀ a, o' a + S1.size a ≤ S16.size a)
    (hp : ∀ a, p a + S1x512x5632.size a ≤ S16x512x5632.size a) (hp' : ∀ a, p' a + S1x512x5632.size a ≤ S16x512x5632.size a)
    (hr : ∀ a, r a + S512x5632.size a ≤ S8192x11264.size a) (hr' : ∀ a, r' a + S512x5632.size a ≤ S8192x11264.size a)
    (G : Buf (Elt F) (arg8.view.loc (c : Thread nD τ))) :
    fly c arg1 arg8 arg13 o ho p hp r hr q W (landed c arg1 arg8 p hp r hr W G) 90112
      ⊢ fly c arg1 arg8 arg13 o' ho' p' hp' r' hr' q W (landed c arg1 arg8 p' hp' r' hr' W G) 90112 := by
  subst eo; subst ep; subst er; exact Laws.entails_refl _

/-- A block in HBM depends on its offset alone. -/
theorem src_congr (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ))) {r r' : Fin 2 → ℕ} (er : r = r')
    (hr : ∀ a, r a + S512x5632.size a ≤ S8192x11264.size a) (hr' : ∀ a, r' a + S512x5632.size a ≤ S8192x11264.size a) :
    (iprop(((srcM arg1 r hr).view.loc (c : Thread nD τ) ↦[(srcM arg1 r hr).view.set]{q} W)) : sProp 𝕄)
      ⊢ iprop(((srcM arg1 r' hr').view.loc (c : Thread nD τ) ↦[(srcM arg1 r' hr').view.set]{q} W)) := by
  subst er; exact Laws.entails_refl _

/-- The loop's invariant: the sums are `Good`, the eight next trips' blocks are on their way. -/
def inv (c : Dev nD) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16) (q : PosShare TreeShare) (W : Buf (Elt F) (arg1.view.loc (c : Thread nD τ)))
    (WS : Buf (Elt F) (arg7.view.loc (c : Thread nD τ)))
    (L : Buf (Elt F) (arg9.view.loc (c : Thread nD τ)))
    (X : Buf (Elt F) (arg10.view.loc (c : Thread nD τ)))
    (Good : ℕ → Buf (Elt F) (arg11.view.loc (c : Thread nD τ)) → Prop) (k : ℕ) (_ : Unit) : sProp 𝕄 :=
  iprop(∃ A : Buf (Elt F) (arg11.view.loc (c : Thread nD τ)), ⌜Good k A⌝ ∗ pairs c arg1 arg8 arg13 q W (stageAt k)
    ∗ (arg7.view.loc (c : Thread nD τ) ↦{fullShare} WS) ∗ (arg9.view.loc (c : Thread nD τ) ↦{fullShare} L)
    ∗ (arg10.view.loc (c : Thread nD τ) ↦{fullShare} X) ∗ (arg11.view.loc (c : Thread nD τ) ↦{fullShare} A)
    ∗ ∃ ws, owes (c : Thread nD τ) 0 ws)

/-- A trip keeps the sums good, whatever the slots held before their blocks landed. -/
structure Keeps (c : Dev nD) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16) (q : PosShare TreeShare) (W : Buf (Elt F) (arg1.view.loc (c : Thread nD τ)))
    (WS : Buf (Elt F) (arg7.view.loc (c : Thread nD τ)))
    (L : Buf (Elt F) (arg9.view.loc (c : Thread nD τ)))
    (X : Buf (Elt F) (arg10.view.loc (c : Thread nD τ)))
    (Good : ℕ → Buf (Elt F) (arg11.view.loc (c : Thread nD τ)) → Prop) : Prop where
  fed : ∀ (k : Fin k0_t1_loop.trips) A G0 G1 hk1 hk2, Good k A → Good (k + 1) (arg11.view.writes (Elt F) A
    (tripFed c k arg0 harg0 arg1 harg1 arg2 harg2 arg3 harg3 arg4 harg4 arg5 harg5 arg6 harg6 arg7 harg7 arg8 harg8 arg9 harg9 arg10 harg10 arg11 harg11 arg12 arg13 0#32 q W WS L X A (landed c arg1 arg8 (k0_off2 k 0#32) (k0_off2_inb k 0) (k0_off3 k) (k0_off3_inb k) W G0) (landed c arg1 arg8 (k0_off2 k 1#32) (k0_off2_inb k 1) (k0_off64 k) (k0_off64_inb k) W G1) hk1 hk2).1)
  dry : ∀ (k : Fin k0_t1_loop.trips) A G0 G1 hk1 hk2, Good k A → Good (k + 1) (arg11.view.writes (Elt F) A
    (tripDry c k arg0 harg0 arg1 harg1 arg2 harg2 arg3 harg3 arg4 harg4 arg5 harg5 arg6 harg6 arg7 harg7 arg8 harg8 arg9 harg9 arg10 harg10 arg11 harg11 arg12 arg13 0#32 q W WS L X A (landed c arg1 arg8 (k0_off2 k 0#32) (k0_off2_inb k 0) (k0_off3 k) (k0_off3_inb k) W G0) (landed c arg1 arg8 (k0_off2 k 1#32) (k0_off2_inb k 1) (k0_off64 k) (k0_off64_inb k) W G1) hk1 hk2).1)

theorem trip (c : Dev nD) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16) (q : PosShare TreeShare) (W : Buf (Elt F) (arg1.view.loc (c : Thread nD τ)))
    (WS : Buf (Elt F) (arg7.view.loc (c : Thread nD τ)))
    (L : Buf (Elt F) (arg9.view.loc (c : Thread nD τ)))
    (X : Buf (Elt F) (arg10.view.loc (c : Thread nD τ)))
    (Good : ℕ → Buf (Elt F) (arg11.view.loc (c : Thread nD τ)) → Prop) (keep : Keeps c arg0 harg0 arg1 harg1 arg2 harg2 arg3 harg3 arg4 harg4 arg5 harg5 arg6 harg6 arg7 harg7 arg8 harg8 arg9 harg9 arg10 harg10 arg11 harg11 arg12 arg13 q W WS L X Good) (k : Fin k0_t1_loop.trips) (a : Unit) :
    inv c arg0 harg0 arg1 harg1 arg2 harg2 arg3 harg3 arg4 harg4 arg5 harg5 arg6 harg6 arg7 harg7 arg8 harg8 arg9 harg9 arg10 harg10 arg11 harg11 arg12 arg13 q W WS L X Good k a ⊢ wp frame (wpE (defs₀ (F := F)) Variants.none (c : Thread nD τ) none) Set.univ
      (k0_t1_body arg0 harg0 arg1 harg1 arg2 harg2 arg3 harg3 arg4 harg4 arg5 harg5 arg6 harg6 arg7 harg7 arg8 harg8 arg9 harg9 arg10 harg10 arg11 harg11 arg12 arg13 0#32 k a) (inv c arg0 harg0 arg1 harg1 arg2 harg2 arg3 harg3 arg4 harg4 arg5 harg5 arg6 harg6 arg7 harg7 arg8 harg8 arg9 harg9 arg10 harg10 arg11 harg11 arg12 arg13 q W WS L X Good (k + 1)) := by
  by_cases hk : k.val < 8
  · have hk1 := (cond1_iff k).2 hk
    have hk2 := (cond2_iff k).2 hk
    obtain ⟨t, ht⟩ : ∃ t : Fin k0_t1_loop.trips, t.val = k.val + 8 := ⟨⟨k.val + 8, show _ < 16 by omega⟩, rfl⟩
    have hne : t ≠ k := fun e => by rw [e] at ht; omega
    have hst : stageAt (k + 1) = Function.update (Function.update (stageAt k) k .home) t .flying := by
      funext s; simp only [Function.update_apply, stageAt, Fin.ext_iff]
      split_ifs <;> first | rfl | omega
    have hk' : stageAt k k = .flying := by simp [stageAt]
    have ht' : stageAt k t = .home := by simp [stageAt, ht]
    unfold inv pairs
    rw [Ring.AtW_focus2 (pair c arg1 arg8 arg13 q W) (stageAt k) hne, hk', ht', hst]
    iintro ⟨%A, %hA, ⟨HK, HT, HR⟩, H7, H9, H10, H11, %ws, HO⟩
    simp only [pair]
    unfold flying home
    icases HK with ⟨⟨%G0, HA⟩, ⟨%G1, HB⟩⟩
    icases HT with ⟨HS, HU⟩
    iapply ((tripFed c k arg0 harg0 arg1 harg1 arg2 harg2 arg3 harg3 arg4 harg4 arg5 harg5 arg6 harg6 arg7 harg7 arg8 harg8 arg9 harg9 arg10 harg10 arg11 harg11 arg12 arg13 0#32 q W WS L X A (landed c arg1 arg8 (k0_off2 k 0#32) (k0_off2_inb k 0) (k0_off3 k) (k0_off3_inb k) W G0) (landed c arg1 arg8 (k0_off2 k 1#32) (k0_off2_inb k 1) (k0_off64 k) (k0_off64_inb k) W G1) hk1 hk2).2 ws)
    isplitl [HA]; · iexact HA
    isplitl [HB]; · iexact HB
    isplitl [HS]; · iapply (src_congr c arg1 arg8 arg13 q W (off63_next k t ht).symm (k0_off3_inb t) (k0_off63_inb k hk1)); iexact HS
    isplitl [HU]; · iapply (src_congr c arg1 arg8 arg13 q W (off111_next k t ht).symm (k0_off64_inb t) (k0_off111_inb k hk2)); iexact HU
    isplitl [H7]; · iexact H7
    isplitl [H9]; · iexact H9
    isplitl [H10]; · iexact H10
    isplitl [H11]; · iexact H11
    isplitl [HO]; · iexact HO
    iintro ⟨HA, HB, HS, HU, H7, H9, H10, H11, HO⟩
    iexists _
    isplitr [HA HB HS HU HR H7 H9 H10 H11 HO]
    · ipureintro; exact keep.fed k A G0 G1 hk1 hk2 hA
    isplitl [HA HB HS HU HR]
    · iapply (Ring.AtW_update2 (pair c arg1 arg8 arg13 q W) (stageAt k) hne .home .flying)
      simp only [pair]
      unfold flying home
      isplitl [HS HU]
      · isplitl [HS]; · iexact HS
        iexact HU
      isplitr [HR]
      · isplitl [HA]
        · iexists _
          iapply (fly_congr c arg1 arg8 arg13 q W (off1_again k t ht 0) (off2_again k t ht 0) (off63_next k t ht) _ _ _ _ (k0_off63_inb k hk1) _ _)
          iexact HA
        · iexists _
          iapply (fly_congr c arg1 arg8 arg13 q W (off1_again k t ht 1) (off2_again k t ht 1) (off111_next k t ht) _ _ _ _ (k0_off111_inb k hk2) _ _)
          iexact HB
      · iexact HR
    isplitl [H7]; · iexact H7
    isplitl [H9]; · iexact H9
    isplitl [H10]; · iexact H10
    isplitl [H11]; · iexact H11
    iexact HO
  · have hk1 := mt (cond1_iff k).1 hk
    have hk2 := mt (cond2_iff k).1 hk
    have hst : stageAt (k + 1) = Function.update (stageAt k) k .freed := by
      have := k.isLt
      have e : k0_t1_loop.trips = 16 := rfl
      funext s; simp only [Function.update_apply, stageAt, Fin.ext_iff]
      have := s.isLt
      split_ifs <;> first | rfl | omega
    have hk' : stageAt k k = .flying := by simp [stageAt]
    unfold inv pairs
    rw [Ring.AtW_focus (σ := fun _ => Stage) (pair c arg1 arg8 arg13 q W) (stageAt k) k, hk', hst]
    iintro ⟨%A, %hA, ⟨HK, HR⟩, H7, H9, H10, H11, %ws, HO⟩
    simp only [pair]
    unfold flying
    icases HK with ⟨⟨%G0, HA⟩, ⟨%G1, HB⟩⟩
    iapply ((tripDry c k arg0 harg0 arg1 harg1 arg2 harg2 arg3 harg3 arg4 harg4 arg5 harg5 arg6 harg6 arg7 harg7 arg8 harg8 arg9 harg9 arg10 harg10 arg11 harg11 arg12 arg13 0#32 q W WS L X A (landed c arg1 arg8 (k0_off2 k 0#32) (k0_off2_inb k 0) (k0_off3 k) (k0_off3_inb k) W G0) (landed c arg1 arg8 (k0_off2 k 1#32) (k0_off2_inb k 1) (k0_off64 k) (k0_off64_inb k) W G1) hk1 hk2).2 ws)
    isplitl [HA]; · iexact HA
    isplitl [HB]; · iexact HB
    isplitl [H7]; · iexact H7
    isplitl [H9]; · iexact H9
    isplitl [H10]; · iexact H10
    isplitl [H11]; · iexact H11
    isplitl [HO]; · iexact HO
    iintro ⟨HA, HAs, HB, HBs, HS, HU, H7, H9, H10, H11, HO⟩
    iexists _
    isplitr [HA HAs HB HBs HS HU HR H7 H9 H10 H11 HO]
    · ipureintro; exact keep.dry k A G0 G1 hk1 hk2 hA
    isplitl [HA HAs HB HBs HS HU HR]
    · iapply (Ring.AtW_update (σ := fun _ => Stage) (pair c arg1 arg8 arg13 q W) (stageAt k) k .freed)
      simp only [pair]
      isplitr [HR]
      · unfold slots home
        isplitl [HS HU]
        · isplitl [HS]; · iexact HS
          iexact HU
        isplitl [HA]; · iexact HA
        isplitl [HAs]; · iexists _; iexact HAs
        isplitl [HB]; · iexact HB
        iexists _; iexact HBs
      · iexact HR
    isplitl [H7]; · iexact H7
    isplitl [H9]; · iexact H9
    isplitl [H10]; · iexact H10
    isplitl [H11]; · iexact H11
    iexact HO

/-- The loop and the rounding of its sums. -/
theorem rest_run (c : Dev nD) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16) (q : PosShare TreeShare) (W : Buf (Elt F) (arg1.view.loc (c : Thread nD τ)))
    (WS : Buf (Elt F) (arg7.view.loc (c : Thread nD τ)))
    (L : Buf (Elt F) (arg9.view.loc (c : Thread nD τ)))
    (X : Buf (Elt F) (arg10.view.loc (c : Thread nD τ)))
    (Good : ℕ → Buf (Elt F) (arg11.view.loc (c : Thread nD τ)) → Prop) (keep : Keeps c arg0 harg0 arg1 harg1 arg2 harg2 arg3 harg3 arg4 harg4 arg5 harg5 arg6 harg6 arg7 harg7 arg8 harg8 arg9 harg9 arg10 harg10 arg11 harg11 arg12 arg13 q W WS L X Good)
    (A : Buf (Elt F) (arg11.view.loc (c : Thread nD τ))) (hA : Good 0 A)
    (Y : Buf (Elt F) (arg3.view.loc (c : Thread nD τ))) (ws : Waits sig Unit) (Q : PUnit → sProp 𝕄) :
    iprop(pairs c arg1 arg8 arg13 q W (stageAt 0) ∗ (arg3.view.loc (c : Thread nD τ) ↦{fullShare} Y)
        ∗ (arg7.view.loc (c : Thread nD τ) ↦{fullShare} WS) ∗ (arg9.view.loc (c : Thread nD τ) ↦{fullShare} L)
        ∗ (arg10.view.loc (c : Thread nD τ) ↦{fullShare} X) ∗ (arg11.view.loc (c : Thread nD τ) ↦{fullShare} A)
        ∗ owes (c : Thread nD τ) 0 ws
        ∗ (iprop(∃ A : Buf (Elt F) (arg11.view.loc (c : Thread nD τ)), ⌜Good 16 A⌝ ∗ pairs c arg1 arg8 arg13 q W (stageAt 16)
            ∗ (arg3.view.loc (c : Thread nD τ) ↦{fullShare} arg3.view.writes (Elt F) Y
                [⟨Rect.unit (s := S8x11264) ![0, 0] S8x11264.size inb_S8x11264_S8x11264_0_0,
                  k0_pay1 (arg11.view.readAt (Elt F) (Rect.unit (s := S8x11264) ![0, 0] S8x11264.size inb_S8x11264_S8x11264_0_0).toLoadRect A)⟩])
            ∗ (arg7.view.loc (c : Thread nD τ) ↦{fullShare} WS) ∗ (arg9.view.loc (c : Thread nD τ) ↦{fullShare} L)
            ∗ (arg10.view.loc (c : Thread nD τ) ↦{fullShare} X) ∗ (arg11.view.loc (c : Thread nD τ) ↦{fullShare} A)
            ∗ ∃ ws, owes (c : Thread nD τ) 0 ws) -∗ Q ⟨⟩))
      ⊢ wp frame (wpE (defs₀ (F := F)) Variants.none (c : Thread nD τ) none) Set.univ (rest arg0 harg0 arg1 harg1 arg2 harg2 arg3 harg3 arg4 harg4 arg5 harg5 arg6 harg6 arg7 harg7 arg8 harg8 arg9 harg9 arg10 harg10 arg11 harg11 arg12 arg13) Q := by
  unfold rest
  iintro ⟨HP, H3, H7, H9, H10, H11, HO, Hk⟩
  sl_for (inv c arg0 harg0 arg1 harg1 arg2 harg2 arg3 harg3 arg4 harg4 arg5 harg5 arg6 harg6 arg7 harg7 arg8 harg8 arg9 harg9 arg10 harg10 arg11 harg11 arg12 arg13 q W WS L X Good) $$ [HP H7 H9 H10 H11 HO]
  case region =>
    intro k a
    unfold rest_run.sl.prog.body_1
    iintro HI
    iapply (trip c arg0 harg0 arg1 harg1 arg2 harg2 arg3 harg3 arg4 harg4 arg5 harg5 arg6 harg6 arg7 harg7 arg8 harg8 arg9 harg9 arg10 harg10 arg11 harg11 arg12 arg13 q W WS L X Good keep k a)
    iexact HI
  · unfold inv
    iexists A
    isplitr [HP H7 H9 H10 H11 HO]
    · ipureintro; exact hA
    isplitl [HP]; · iexact HP
    isplitl [H7]; · iexact H7
    isplitl [H9]; · iexact H9
    isplitl [H10]; · iexact H10
    isplitl [H11]; · iexact H11
    iexists ws; iexact HO
  iintro %a HI
  have e : Scf.trips k0_t1_loop.lb k0_t1_loop.ub k0_t1_loop.st = 16 := by decide
  unfold inv
  icases HI with ⟨%B, %hB, HP, H7, H9, H10, H11, %ws', HO⟩
  replace hB : Good 16 B := by rw [e] at hB; exact hB
  rw [e]
  sl_exec
  sl_step
  iapply Hk
  iexists B
  isplitr [HP H3 H7 H9 H10 H11 HO]
  · ipureintro; exact hB
  isplitl [HP]; · iexact HP
  isplitl [H3]; · iexact H3
  isplitl [H7]; · iexact H7
  isplitl [H9]; · iexact H9
  isplitl [H10]; · iexact H10
  isplitl [H11]; · iexact H11
  iexists _; iexact HO

end Cert.KernelIdeal.Hand
end
-- ==== Proof.Whole.lean ====
module

public import proofs.«01_k».proof.Proof.Gen.KernelIdeal.Skeleton
public import proofs.«01_k».proof.Proof.Gen.KernelIdeal.Loops
public import Idealize.ShloMosaic.Lib.Tactic
public import proofs.«01_k».proof.Proof.Loop
public import Idealize.ShloMosaic.Lib.Ring
public import Idealize.ShloMosaic.Lib.Ring.Pair
public import Idealize.ShloMosaic.Lib.Ring.FamCut
public import Idealize.ShloMosaic.Lib.ViewIndex
public import Idealize.ShloMosaic.Lib.Exec.Geometry
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The weight and the ring of slots, whole and in pieces -/

theorem off3_eq : ∀ t : Fin k0_t1_loop.trips, k0_off3 t = ![512 * t.val, 0] := by decide +kernel
theorem off64_eq : ∀ t : Fin k0_t1_loop.trips, k0_off64 t = ![512 * t.val, 5632] := by decide +kernel
theorem off2_eq0 : ∀ t : Fin k0_t1_loop.trips, k0_off2 t 0#32 = ![(2 * t.val) % 16, 0, 0] := by decide +kernel
theorem off2_eq1 : ∀ t : Fin k0_t1_loop.trips, k0_off2 t 1#32 = ![(2 * t.val + 1) % 16, 0, 0] := by decide +kernel

theorem disjoint_pairs {α : Type} {inst : DecidableEq α} {A B C D : Finset α} (h1 : Disjoint A C) (h2 : Disjoint A D) (h3 : Disjoint B C) (h4 : Disjoint B D) :
    Disjoint (A ∪ B) (C ∪ D) :=
  Finset.disjoint_union_left.mpr ⟨Finset.disjoint_union_right.mpr ⟨h1, h2⟩, Finset.disjoint_union_right.mpr ⟨h3, h4⟩⟩

/-- Blocks of the weight apart on one axis share no element. -/
theorem src_apart (arg1 : Memref sig .tc .hbm S8192x11264 .fp8e4m3) {r r' : Fin 2 → ℕ} (hr : ∀ a, r a + S512x5632.size a ≤ S8192x11264.size a)
    (hr' : ∀ a, r' a + S512x5632.size a ≤ S8192x11264.size a) (a : Fin 2)
    (h : r a + S512x5632.size a ≤ r' a ∨ r' a + S512x5632.size a ≤ r a) :
    Disjoint (srcM arg1 r hr).view.set (srcM arg1 r' hr').view.set :=
  View.disjoint_slice (Rect.unit_disjoint a h)

/-- Slots apart on the leading axis share no element. -/
theorem slot_apart (arg8 : Memref sig .tc .vmem S16x512x5632 .fp8e4m3) {p p' : Fin 3 → ℕ} (hp : ∀ a, p a + S1x512x5632.size a ≤ S16x512x5632.size a)
    (hp' : ∀ a, p' a + S1x512x5632.size a ≤ S16x512x5632.size a) (h : p 0 + 1 ≤ p' 0 ∨ p' 0 + 1 ≤ p 0) :
    Disjoint (slotM arg8 p hp).view.set (slotM arg8 p' hp').view.set := by
  rw [show (slotM arg8 p hp).view.set = _ from Memref.set_view_squeeze _ _, show (slotM arg8 p' hp').view.set = _ from Memref.set_view_squeeze _ _]
  exact View.disjoint_slice (Rect.unit_disjoint (0 : Fin 3) h)

/-- The elements of one block of the weight, and of one slot. -/
abbrev srcSet (c : Dev nD) (arg1 : Memref sig .tc .hbm S8192x11264 .fp8e4m3) (r : Fin 2 → ℕ) (hr : ∀ a, r a + S512x5632.size a ≤ S8192x11264.size a) :
    Finset (Idx (arg1.view.loc (c : Thread nD τ))) := (srcM arg1 r hr).view.set
abbrev winSet (c : Dev nD) (arg8 : Memref sig .tc .vmem S16x512x5632 .fp8e4m3) (p : Fin 3 → ℕ) (hp : ∀ a, p a + S1x512x5632.size a ≤ S16x512x5632.size a) :
    Finset (Idx (arg8.view.loc (c : Thread nD τ))) := (slotM arg8 p hp).view.set

/-- The elements of the weight that trip `t` uses. -/
abbrev homeSet (c : Dev nD) (arg1 : Memref sig .tc .hbm S8192x11264 .fp8e4m3) (t : Fin k0_t1_loop.trips) : Finset (Idx (arg1.view.loc (c : Thread nD τ))) :=
  srcSet c arg1 (k0_off3 t) (k0_off3_inb t) ∪ srcSet c arg1 (k0_off64 t) (k0_off64_inb t)

theorem home_halves (arg1 : Memref sig .tc .hbm S8192x11264 .fp8e4m3) (t : Fin k0_t1_loop.trips) :
    Disjoint (srcM arg1 (k0_off3 t) (k0_off3_inb t)).view.set (srcM arg1 (k0_off64 t) (k0_off64_inb t)).view.set :=
  src_apart arg1 _ _ 1 (.inl ((by decide +kernel : ∀ t : Fin k0_t1_loop.trips, k0_off3 t 1 + S512x5632.size 1 ≤ k0_off64 t 1) t))

theorem homeSet_apart (c : Dev nD) (arg1 : Memref sig .tc .hbm S8192x11264 .fp8e4m3) (t t' : Fin k0_t1_loop.trips) (h : t ≠ t') :
    Disjoint (homeSet c arg1 t) (homeSet c arg1 t') := by
  have hv : 512 * t.val + 512 ≤ 512 * t'.val ∨ 512 * t'.val + 512 ≤ 512 * t.val := by
    have : t.val ≠ t'.val := fun e => h (Fin.ext e)
    omega
  have e3 : ∀ t : Fin k0_t1_loop.trips, k0_off3 t 0 = 512 * t.val := by decide +kernel
  have e64 : ∀ t : Fin k0_t1_loop.trips, k0_off64 t 0 = 512 * t.val := by decide +kernel
  have e : S512x5632.size 0 = 512 := rfl
  exact disjoint_pairs (src_apart arg1 _ _ 0 (by rw [e3, e3, e]; exact hv)) (src_apart arg1 _ _ 0 (by rw [e3, e64, e]; exact hv))
    (src_apart arg1 _ _ 0 (by rw [e64, e3, e]; exact hv)) (src_apart arg1 _ _ 0 (by rw [e64, e64, e]; exact hv))

/-- The weight is the sixteen trips' blocks and what they leave of it. -/
theorem weight_split (c : Dev nD) (arg1 : Memref sig .tc .hbm S8192x11264 .fp8e4m3) (q : PosShare TreeShare) (W : Buf (Elt F) (arg1.view.loc (c : Thread nD τ))) :
    ((arg1.view.loc (c : Thread nD τ) ↦{q} W : sProp 𝕄))
      ⊢ iprop(bigSep Finset.univ (fun t => home c arg1 q W t) ∗ (arg1.view.loc (c : Thread nD τ) ↦[Ring.restOf (homeSet c arg1)]{q} W)) := by
  refine (Ring.fam_split (homeSet c arg1) (homeSet_apart c arg1) W).trans (sep_mono (bigSep_mono fun t _ => ?_) .rfl)
  exact (pointsTo_union (home_halves arg1 t)).1

theorem weight_join (c : Dev nD) (arg1 : Memref sig .tc .hbm S8192x11264 .fp8e4m3) (q : PosShare TreeShare) (W : Buf (Elt F) (arg1.view.loc (c : Thread nD τ))) :
    iprop(bigSep Finset.univ (fun t => home c arg1 q W t) ∗ (arg1.view.loc (c : Thread nD τ) ↦[Ring.restOf (homeSet c arg1)]{q} W))
      ⊢ ((arg1.view.loc (c : Thread nD τ) ↦{q} W : sProp 𝕄)) := by
  have h : (bigSep Finset.univ (fun t => home c arg1 q W t) : sProp 𝕄) ⊢ bigSep Finset.univ (fun t => (arg1.view.loc (c : Thread nD τ) ↦[homeSet c arg1 t]{q} W : sProp 𝕄)) :=
    bigSep_mono fun t _ => (pointsTo_union (home_halves arg1 t)).2
  refine (sep_mono h .rfl).trans ?_
  rw [← pointsTo_biUnion Finset.univ (homeSet c arg1) (fun b _ b' _ h => homeSet_apart c arg1 b b' h)]
  exact (pointsTo_split_subset (Finset.subset_univ _)).2

abbrev tr8 (n : Fin 8) : Fin k0_t1_loop.trips := ⟨n.val, by have := n.isLt; show n.val < 16; omega⟩

/-- The ring's elements in the two slots of the trips `n` and `n + 8`. -/
abbrev slotSet (c : Dev nD) (arg8 : Memref sig .tc .vmem S16x512x5632 .fp8e4m3) (n : Fin 8) : Finset (Idx (arg8.view.loc (c : Thread nD τ))) :=
  winSet c arg8 (k0_off2 (tr8 n) 0#32) (k0_off2_inb _ 0) ∪ winSet c arg8 (k0_off2 (tr8 n) 1#32) (k0_off2_inb _ 1)

theorem slot_halves (arg8 : Memref sig .tc .vmem S16x512x5632 .fp8e4m3) (n : Fin 8) :
    Disjoint (slotM arg8 (k0_off2 (tr8 n) 0#32) (k0_off2_inb _ 0)).view.set (slotM arg8 (k0_off2 (tr8 n) 1#32) (k0_off2_inb _ 1)).view.set :=
  slot_apart arg8 _ _ (.inl ((by decide +kernel : ∀ n : Fin 8, k0_off2 (tr8 n) 0#32 0 + 1 ≤ k0_off2 (tr8 n) 1#32 0) n))

theorem slotSet_apart (c : Dev nD) (arg8 : Memref sig .tc .vmem S16x512x5632 .fp8e4m3) (n n' : Fin 8) (h : n ≠ n') :
    Disjoint (slotSet c arg8 n) (slotSet c arg8 n') := by
  have hv : ∀ n n' : Fin 8, n ≠ n' → ∀ p p' : Fin 2, k0_off2 (tr8 n) (BitVec.ofNat 32 p.val) 0 + 1 ≤ k0_off2 (tr8 n') (BitVec.ofNat 32 p'.val) 0
      ∨ k0_off2 (tr8 n') (BitVec.ofNat 32 p'.val) 0 + 1 ≤ k0_off2 (tr8 n) (BitVec.ofNat 32 p.val) 0 := by decide +kernel
  exact disjoint_pairs (slot_apart arg8 _ _ (hv n n' h 0 0)) (slot_apart arg8 _ _ (hv n n' h 0 1))
    (slot_apart arg8 _ _ (hv n n' h 1 0)) (slot_apart arg8 _ _ (hv n n' h 1 1))

/-- The two slots of a trip, each holding anything. -/
abbrev windows (c : Dev nD) (arg8 : Memref sig .tc .vmem S16x512x5632 .fp8e4m3) (t : Fin k0_t1_loop.trips) : sProp 𝕄 :=
  iprop((∃ G : Buf (Elt F) (arg8.view.loc (c : Thread nD τ)), (slotM arg8 (k0_off2 t 0#32) (k0_off2_inb t 0)).view.loc (c : Thread nD τ) ↦[(slotM arg8 (k0_off2 t 0#32) (k0_off2_inb t 0)).view.set]{fullShare} G)
    ∗ (∃ G : Buf (Elt F) (arg8.view.loc (c : Thread nD τ)), (slotM arg8 (k0_off2 t 1#32) (k0_off2_inb t 1)).view.loc (c : Thread nD τ) ↦[(slotM arg8 (k0_off2 t 1#32) (k0_off2_inb t 1)).view.set]{fullShare} G))

theorem windows_of (c : Dev nD) (arg8 : Memref sig .tc .vmem S16x512x5632 .fp8e4m3) (n : Fin 8) :
    (iprop(∃ G : Buf (Elt F) (arg8.view.loc (c : Thread nD τ)), arg8.view.loc (c : Thread nD τ) ↦[slotSet c arg8 n]{fullShare} G) : sProp 𝕄)
      ⊢ windows (F := F) c arg8 (tr8 n) := by
  iintro ⟨%G, H⟩
  ihave H := (pointsTo_union (slot_halves arg8 n)).1 $$ H
  icases H with ⟨H0, H1⟩
  isplitl [H0]
  · iexists G; iexact H0
  · iexists G; iexact H1

theorem of_windows (c : Dev nD) (arg8 : Memref sig .tc .vmem S16x512x5632 .fp8e4m3) (n : Fin 8) :
    windows (F := F) c arg8 (tr8 n) ⊢
    (iprop(∃ G : Buf (Elt F) (arg8.view.loc (c : Thread nD τ)), arg8.view.loc (c : Thread nD τ) ↦[slotSet c arg8 n]{fullShare} G) : sProp 𝕄) := by
  iintro ⟨⟨%G0, H0⟩, ⟨%G1, H1⟩⟩
  ihave H := (pointsTo_join (ℓ := arg8.view.loc (c : Thread nD τ)) (slot_halves arg8 n)) $$ [H0 H1]
  · isplitl [H0]
    · iexact H0
    · iexact H1
  iexists _; iexact H

theorem ring_split (c : Dev nD) (arg8 : Memref sig .tc .vmem S16x512x5632 .fp8e4m3) :
    (iprop(∃ G : Buf (Elt F) (arg8.view.loc (c : Thread nD τ)), arg8.view.loc (c : Thread nD τ) ↦{fullShare} G) : sProp 𝕄)
      ⊢ iprop(bigSep Finset.univ (fun n : Fin 8 => windows (F := F) c arg8 (tr8 n))
          ∗ ∃ G : Buf (Elt F) (arg8.view.loc (c : Thread nD τ)), arg8.view.loc (c : Thread nD τ) ↦[Ring.restOf (slotSet c arg8)]{fullShare} G) :=
  (Ring.fam_split_ex (slotSet c arg8) (slotSet_apart c arg8)).trans (sep_mono (bigSep_mono fun n _ => windows_of c arg8 n) .rfl)

theorem ring_join (c : Dev nD) (arg8 : Memref sig .tc .vmem S16x512x5632 .fp8e4m3) :
    iprop(bigSep Finset.univ (fun n : Fin 8 => windows (F := F) c arg8 (tr8 n))
          ∗ ∃ G : Buf (Elt F) (arg8.view.loc (c : Thread nD τ)), arg8.view.loc (c : Thread nD τ) ↦[Ring.restOf (slotSet c arg8)]{fullShare} G)
      ⊢ (iprop(∃ G : Buf (Elt F) (arg8.view.loc (c : Thread nD τ)), arg8.view.loc (c : Thread nD τ) ↦{fullShare} G) : sProp 𝕄) :=
  (sep_mono (bigSep_mono fun n _ => of_windows c arg8 n) .rfl).trans
    (Ring.fam_join (slotSet c arg8) (slotSet_apart c arg8) (arg8.view.junk : Buf (Elt F) (arg8.view.loc (c : Thread nD τ))))

/-- A trip's slots are those of the trip eight later. -/
theorem cell_congr (c : Dev nD) (arg13 : DmaSems sig S16) {o o' : Fin 1 → ℕ} (e : o = o')
    (ho : ∀ a, o a + S1.size a ≤ S16.size a) (ho' : ∀ a, o' a + S1.size a ≤ S16.size a) :
    (semVal ((c : Thread nD τ), cellM arg13 o ho) 0 : sProp 𝕄) ⊢ semVal ((c : Thread nD τ), cellM arg13 o' ho') 0 := by
  subst e; exact Laws.entails_refl _

theorem window_congr (c : Dev nD) (arg8 : Memref sig .tc .vmem S16x512x5632 .fp8e4m3) {p p' : Fin 3 → ℕ} (e : p = p')
    (hp : ∀ a, p a + S1x512x5632.size a ≤ S16x512x5632.size a) (hp' : ∀ a, p' a + S1x512x5632.size a ≤ S16x512x5632.size a) :
    (iprop(∃ G : Buf (Elt F) (arg8.view.loc (c : Thread nD τ)), (slotM arg8 p hp).view.loc (c : Thread nD τ) ↦[(slotM arg8 p hp).view.set]{fullShare} G) : sProp 𝕄)
      ⊢ iprop(∃ G : Buf (Elt F) (arg8.view.loc (c : Thread nD τ)), (slotM arg8 p' hp').view.loc (c : Thread nD τ) ↦[(slotM arg8 p' hp').view.set]{fullShare} G) := by
  subst e; exact Laws.entails_refl _

theorem slots_again (c : Dev nD) (arg8 : Memref sig .tc .vmem S16x512x5632 .fp8e4m3) (arg13 : DmaSems sig S16) (k t : Fin k0_t1_loop.trips) (h : t.val = k.val + 8) :
    (slots c arg8 arg13 t : sProp 𝕄) ⊢ slots c arg8 arg13 k := by
  unfold slots
  iintro ⟨H0, H1, H2, H3⟩
  isplitl [H0]; · iapply (cell_congr c arg13 (off1_again k t h 0).symm (k0_off1_inb t 0) (k0_off1_inb k 0)); iexact H0
  isplitl [H1]; · iapply (window_congr c arg8 (off2_again k t h 0).symm (k0_off2_inb t 0) (k0_off2_inb k 0)); iexact H1
  isplitl [H2]; · iapply (cell_congr c arg13 (off1_again k t h 1).symm (k0_off1_inb t 1) (k0_off1_inb k 1)); iexact H2
  iapply (window_congr c arg8 (off2_again k t h 1).symm (k0_off2_inb t 1) (k0_off2_inb k 1)); iexact H3

/-- The sixteen trips one by one. -/
theorem trips_list (Φ : Fin k0_t1_loop.trips → sProp 𝕄) : bigSep Finset.univ Φ
    = bigSepL [tr 0, tr 1, tr 2, tr 3, tr 4, tr 5, tr 6, tr 7, tr 8, tr 9, tr 10, tr 11, tr 12, tr 13, tr 14, tr 15] Φ :=
  bigSep_univ_eq_bigSepL _ (by decide +kernel) (by decide +kernel) Φ

end Cert.KernelIdeal.Hand
end
-- ==== Proof.Run.lean ====
module

public import proofs.«01_k».proof.Proof.Gen.KernelIdeal.Skeleton
public import proofs.«01_k».proof.Proof.Gen.KernelIdeal.Loops
public import Idealize.ShloMosaic.Lib.Tactic
public import proofs.«01_k».proof.Proof.Whole
public import Idealize.ShloMosaic.Lib.Ring
public import Idealize.ShloMosaic.Lib.Ring.Pair
public import Idealize.ShloMosaic.Lib.Ring.FamCut
public import Idealize.ShloMosaic.Lib.ViewIndex
public import Idealize.ShloMosaic.Lib.Exec.Geometry
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The whole body -/

theorem eight_list (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem sixteen_list (Φ : Fin k0_t1_loop.trips → sProp 𝕄) : bigSep Finset.univ Φ = iprop(Φ (tr 0) ∗ Φ (tr 1) ∗ Φ (tr 2) ∗ Φ (tr 3) ∗ Φ (tr 4) ∗ Φ (tr 5) ∗ Φ (tr 6) ∗ Φ (tr 7) ∗ Φ (tr 8) ∗ Φ (tr 9) ∗ Φ (tr 10) ∗ Φ (tr 11) ∗ Φ (tr 12) ∗ Φ (tr 13) ∗ Φ (tr 14) ∗ Φ (tr 15)) :=
  trips_list Φ

/-- The two cells of a trip's slots, at zero. -/
abbrev cells (c : Dev nD) (arg13 : DmaSems sig S16) (t : Fin k0_t1_loop.trips) : sProp 𝕄 :=
  iprop(semVal ((c : Thread nD τ), cellM arg13 (k0_off1 t 0#32) (k0_off1_inb t 0)) 0 ∗ semVal ((c : Thread nD τ), cellM arg13 (k0_off1 t 1#32) (k0_off1_inb t 1)) 0)

theorem lt8 {n : ℕ} (h : decide (n < 8) = true) : n < 8 := of_decide_eq_true h
theorem lt16 {n : ℕ} (h : decide (n < 8) = true) : n < 16 := (lt8 h).trans (by decide)
theorem lt16' {n : ℕ} (h : decide (n < 8) = true) : n + 8 < 16 := Nat.add_lt_add_right (lt8 h) 8

/-- Before the loop the first eight trips' blocks are on their way, the last eight's home. -/
theorem pair_of_flying (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ))) (n : ℕ) (h : decide (n < 8) = true) :
    flying c arg1 arg8 arg13 q W (tr n (lt16 h)) ⊢ pair c arg1 arg8 arg13 q W (tr n (lt16 h)) (stageAt 0 (tr n (lt16 h))) := by
  have e : stageAt 0 (tr n (lt16 h)) = .flying := by have := lt8 h; unfold stageAt; rw [if_neg (by simp), if_pos (by simpa using this)]
  rw [e]; exact Laws.entails_refl _

theorem pair_of_home (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ))) (n : ℕ) (h : decide (n < 8) = true) :
    home c arg1 q W (tr (n + 8) (lt16' h)) ⊢ pair c arg1 arg8 arg13 q W (tr (n + 8) (lt16' h)) (stageAt 0 (tr (n + 8) (lt16' h))) := by
  have e : stageAt 0 (tr (n + 8) (lt16' h)) = .home := by unfold stageAt; rw [if_neg (by simp), if_neg (by simp)]
  rw [e]; exact Laws.entails_refl _

/-- After the loop the first eight trips' blocks are home, and the last eight's with their slots free. -/
theorem home_of_first (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ))) (n : ℕ) (h : decide (n < 8) = true) :
    pair c arg1 arg8 arg13 q W (tr n (lt16 h)) (stageAt 16 (tr n (lt16 h))) ⊢ home c arg1 q W (tr n (lt16 h)) := by
  have e : stageAt 16 (tr n (lt16 h)) = .home := by have := lt8 h; unfold stageAt; rw [if_pos (lt16 h), if_pos this]
  rw [e]; exact Laws.entails_refl _

theorem freed_of_last (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ))) (n : ℕ) (h : decide (n < 8) = true) :
    pair c arg1 arg8 arg13 q W (tr (n + 8) (lt16' h)) (stageAt 16 (tr (n + 8) (lt16' h))) ⊢ iprop(home c arg1 q W (tr (n + 8) (lt16' h))
      ∗ semVal ((c : Thread nD τ), cellM arg13 (k0_off1 (tr n (lt16 h)) 0#32) (k0_off1_inb (tr n (lt16 h)) 0)) 0
      ∗ (∃ G : Buf (Elt F) (arg8.view.loc (c : Thread nD τ)), (slotM arg8 (k0_off2 (tr n (lt16 h)) 0#32) (k0_off2_inb (tr n (lt16 h)) 0)).view.loc (c : Thread nD τ) ↦[(slotM arg8 (k0_off2 (tr n (lt16 h)) 0#32) (k0_off2_inb (tr n (lt16 h)) 0)).view.set]{fullShare} G)
      ∗ semVal ((c : Thread nD τ), cellM arg13 (k0_off1 (tr n (lt16 h)) 1#32) (k0_off1_inb (tr n (lt16 h)) 1)) 0
      ∗ (∃ G : Buf (Elt F) (arg8.view.loc (c : Thread nD τ)), (slotM arg8 (k0_off2 (tr n (lt16 h)) 1#32) (k0_off2_inb (tr n (lt16 h)) 1)).view.loc (c : Thread nD τ) ↦[(slotM arg8 (k0_off2 (tr n (lt16 h)) 1#32) (k0_off2_inb (tr n (lt16 h)) 1)).view.set]{fullShare} G)) := by
  have e : stageAt 16 (tr (n + 8) (lt16' h)) = .freed := by unfold stageAt; rw [if_pos (lt16' h), if_neg (by simp)]
  rw [e]
  simp only [pair]
  iintro ⟨H, HS⟩
  isplitl [H]; · iexact H
  ihave HS := (slots_again c arg8 arg13 (tr n (lt16 h)) (tr (n + 8) (lt16' h)) rfl) $$ HS
  unfold slots
  iexact HS

/-- The kernel's body: from its operands, its scratch and its cells at zero back to them, the results written. -/
theorem body_run (c : Dev nD) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16)
    (q q0 q2 : PosShare TreeShare) (W : Buf (Elt F) (arg1.view.loc (c : Thread nD τ))) (X0 : Buf (Elt F) (arg0.view.loc (c : Thread nD τ))) (S0 : Buf (Elt F) (arg2.view.loc (c : Thread nD τ)))
    (XB : Buf (Elt F) (arg6.view.loc (c : Thread nD τ))) (WS : Buf (Elt F) (arg7.view.loc (c : Thread nD τ)))
    (Good : ℕ → Buf (Elt F) (arg11.view.loc (c : Thread nD τ)) → Prop)
    (keep : Keeps c arg0 harg0 arg1 harg1 arg2 harg2 arg3 harg3 arg4 harg4 arg5 harg5 arg6 harg6 arg7 harg7 arg8 harg8 arg9 harg9 arg10 harg10 arg11 harg11 arg12 arg13 q W (wsIn c arg2 arg7 S0 WS) (arg9.view.writes (Elt F) arg9.view.junk (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.2.2.1) (arg10.view.writes (Elt F) arg10.view.junk (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.2.2.2.1) Good)
    (hA : Good 0 (arg11.view.writes (Elt F) arg11.view.junk (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.2.2.2.2))
    (Y : Buf (Elt F) (arg3.view.loc (c : Thread nD τ))) (C : Buf (Elt F) (arg4.view.loc (c : Thread nD τ))) (S : Buf (Elt F) (arg5.view.loc (c : Thread nD τ))) (L : Buf (Elt F) (arg9.view.loc (c : Thread nD τ))) (X : Buf (Elt F) (arg10.view.loc (c : Thread nD τ))) (A : Buf (Elt F) (arg11.view.loc (c : Thread nD τ)))
    (ws : Waits sig Unit) (Q : PUnit → sProp 𝕄) :
    iprop((arg0.view.loc (c : Thread nD τ) ↦{q0} X0) ∗ (arg1.view.loc (c : Thread nD τ) ↦{q} W) ∗ (arg2.view.loc (c : Thread nD τ) ↦{q2} S0)
        ∗ (arg3.view.loc (c : Thread nD τ) ↦{fullShare} Y) ∗ (arg4.view.loc (c : Thread nD τ) ↦{fullShare} C) ∗ (arg5.view.loc (c : Thread nD τ) ↦{fullShare} S) ∗ (arg6.view.loc (c : Thread nD τ) ↦{fullShare} XB) ∗ (arg7.view.loc (c : Thread nD τ) ↦{fullShare} WS)
        ∗ (∃ G : Buf (Elt F) (arg8.view.loc (c : Thread nD τ)), (arg8.view.loc (c : Thread nD τ) ↦{fullShare} G)) ∗ (arg9.view.loc (c : Thread nD τ) ↦{fullShare} L) ∗ (arg10.view.loc (c : Thread nD τ) ↦{fullShare} X) ∗ (arg11.view.loc (c : Thread nD τ) ↦{fullShare} A)
        ∗ semVal ((c : Thread nD τ), cellS arg12 ![0] inb_S2_S1_0) 0 ∗ semVal ((c : Thread nD τ), cellS arg12 ![1] inb_S2_S1_1) 0
        ∗ cells c arg13 (tr 0) ∗ cells c arg13 (tr 1) ∗ cells c arg13 (tr 2) ∗ cells c arg13 (tr 3) ∗ cells c arg13 (tr 4) ∗ cells c arg13 (tr 5) ∗ cells c arg13 (tr 6) ∗ cells c arg13 (tr 7)
        ∗ owes (c : Thread nD τ) 0 ws
        ∗ (iprop((arg0.view.loc (c : Thread nD τ) ↦{q0} X0) ∗ (arg1.view.loc (c : Thread nD τ) ↦{q} W) ∗ (arg2.view.loc (c : Thread nD τ) ↦{q2} S0)
            ∗ (∃ A : Buf (Elt F) (arg11.view.loc (c : Thread nD τ)), ⌜Good 16 A⌝ ∗ (arg3.view.loc (c : Thread nD τ) ↦{fullShare} arg3.view.writes (Elt F) Y
                [⟨Rect.unit (s := S8x11264) ![0, 0] S8x11264.size inb_S8x11264_S8x11264_0_0,
                  k0_pay1 (arg11.view.readAt (Elt F) (Rect.unit (s := S8x11264) ![0, 0] S8x11264.size inb_S8x11264_S8x11264_0_0).toLoadRect A)⟩]))
            ∗ (arg4.view.loc (c : Thread nD τ) ↦{fullShare} arg4.view.writes (Elt F) arg4.view.junk (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.1) ∗ (arg5.view.loc (c : Thread nD τ) ↦{fullShare} arg5.view.writes (Elt F) arg5.view.junk (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.2.1)
            ∗ (∃ f : Buf (Elt F) (arg6.view.loc (c : Thread nD τ)), (arg6.view.loc (c : Thread nD τ) ↦{fullShare} f)) ∗ (∃ f : Buf (Elt F) (arg7.view.loc (c : Thread nD τ)), (arg7.view.loc (c : Thread nD τ) ↦{fullShare} f))
            ∗ (∃ G : Buf (Elt F) (arg8.view.loc (c : Thread nD τ)), (arg8.view.loc (c : Thread nD τ) ↦{fullShare} G))
            ∗ (∃ f : Buf (Elt F) (arg9.view.loc (c : Thread nD τ)), (arg9.view.loc (c : Thread nD τ) ↦{fullShare} f)) ∗ (∃ f : Buf (Elt F) (arg10.view.loc (c : Thread nD τ)), (arg10.view.loc (c : Thread nD τ) ↦{fullShare} f)) ∗ (∃ f : Buf (Elt F) (arg11.view.loc (c : Thread nD τ)), (arg11.view.loc (c : Thread nD τ) ↦{fullShare} f))
            ∗ semVal ((c : Thread nD τ), cellS arg12 ![0] inb_S2_S1_0) 0 ∗ semVal ((c : Thread nD τ), cellS arg12 ![1] inb_S2_S1_1) 0
            ∗ cells c arg13 (tr 0) ∗ cells c arg13 (tr 1) ∗ cells c arg13 (tr 2) ∗ cells c arg13 (tr 3) ∗ cells c arg13 (tr 4) ∗ cells c arg13 (tr 5) ∗ cells c arg13 (tr 6) ∗ cells c arg13 (tr 7)
            ∗ ∃ ws', owes (c : Thread nD τ) 0 ws') -∗ Q ⟨⟩))
      ⊢ wp frame (wpE (defs₀ (F := F)) Variants.none (c : Thread nD τ) none) Set.univ (cc0_fp8_block_linear arg0 harg0 arg1 harg1 arg2 harg2 arg3 harg3 arg4 harg4 arg5 harg5 arg6 harg6 arg7 harg7 arg8 harg8 arg9 harg9 arg10 harg10 arg11 harg11 arg12 arg13) Q := by
  iintro ⟨H0, H1, H2, H3, H4, H5, H6, H7, H8, H9, H10, H11, Hx, Hs, ⟨Hc0, He0⟩, ⟨Hc1, He1⟩, ⟨Hc2, He2⟩, ⟨Hc3, He3⟩, ⟨Hc4, He4⟩, ⟨Hc5, He5⟩, ⟨Hc6, He6⟩, ⟨Hc7, He7⟩, HO, Hk⟩
  ihave H1 := (weight_split c arg1 q W) $$ H1
  icases H1 with ⟨HH, HR⟩
  ihave H8 := (ring_split (F := F) c arg8) $$ H8
  icases H8 with ⟨HW, HS⟩
  ihave HH := (Entails.of_eq (sixteen_list (fun t => home c arg1 q W t))) $$ HH
  ihave HW := (Entails.of_eq (eight_list (fun n : Fin 8 => windows (F := F) c arg8 (tr8 n)))) $$ HW
  icases HH with ⟨Hh0, Hh1, Hh2, Hh3, Hh4, Hh5, Hh6, Hh7, Hh8, Hh9, Hh10, Hh11, Hh12, Hh13, Hh14, Hh15⟩
  icases HW with ⟨⟨Hd0, Hf0⟩, ⟨Hd1, Hf1⟩, ⟨Hd2, Hf2⟩, ⟨Hd3, Hf3⟩, ⟨Hd4, Hf4⟩, ⟨Hd5, Hf5⟩, ⟨Hd6, Hf6⟩, ⟨Hd7, Hf7⟩⟩
  iapply ((prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).2 C S L X A ws Q)
  isplitl [H0]; · iexact H0
  isplitl [H2]; · iexact H2
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [Hx]; · iexact Hx
  isplitl [Hs]; · iexact Hs
  isplitl [Hh0 Hc0 Hd0 He0 Hf0]
  · unfold start slots
    isplitl [Hh0]; · iexact Hh0
    isplitl [Hc0]; · iexact Hc0
    isplitl [Hd0]; · iexact Hd0
    isplitl [He0]; · iexact He0
    iexact Hf0
  isplitl [Hh1 Hc1 Hd1 He1 Hf1]
  · unfold start slots
    isplitl [Hh1]; · iexact Hh1
    isplitl [Hc1]; · iexact Hc1
    isplitl [Hd1]; · iexact Hd1
    isplitl [He1]; · iexact He1
    iexact Hf1
  isplitl [Hh2 Hc2 Hd2 He2 Hf2]
  · unfold start slots
    isplitl [Hh2]; · iexact Hh2
    isplitl [Hc2]; · iexact Hc2
    isplitl [Hd2]; · iexact Hd2
    isplitl [He2]; · iexact He2
    iexact Hf2
  isplitl [Hh3 Hc3 Hd3 He3 Hf3]
  · unfold start slots
    isplitl [Hh3]; · iexact Hh3
    isplitl [Hc3]; · iexact Hc3
    isplitl [Hd3]; · iexact Hd3
    isplitl [He3]; · iexact He3
    iexact Hf3
  isplitl [Hh4 Hc4 Hd4 He4 Hf4]
  · unfold start slots
    isplitl [Hh4]; · iexact Hh4
    isplitl [Hc4]; · iexact Hc4
    isplitl [Hd4]; · iexact Hd4
    isplitl [He4]; · iexact He4
    iexact Hf4
  isplitl [Hh5 Hc5 Hd5 He5 Hf5]
  · unfold start slots
    isplitl [Hh5]; · iexact Hh5
    isplitl [Hc5]; · iexact Hc5
    isplitl [Hd5]; · iexact Hd5
    isplitl [He5]; · iexact He5
    iexact Hf5
  isplitl [Hh6 Hc6 Hd6 He6 Hf6]
  · unfold start slots
    isplitl [Hh6]; · iexact Hh6
    isplitl [Hc6]; · iexact Hc6
    isplitl [Hd6]; · iexact Hd6
    isplitl [He6]; · iexact He6
    iexact Hf6
  isplitl [Hh7 Hc7 Hd7 He7 Hf7]
  · unfold start slots
    isplitl [Hh7]; · iexact Hh7
    isplitl [Hc7]; · iexact Hc7
    isplitl [Hd7]; · iexact Hd7
    isplitl [He7]; · iexact He7
    iexact Hf7
  isplitl [HO]; · iexact HO
  iintro ⟨H0, H2, H4, H5, H6, H7, H9, H10, H11, Hx, Hs, Hp0, Hp1, Hp2, Hp3, Hp4, Hp5, Hp6, Hp7, %ws', HO⟩
  iapply (rest_run c arg0 harg0 arg1 harg1 arg2 harg2 arg3 harg3 arg4 harg4 arg5 harg5 arg6 harg6 arg7 harg7 arg8 harg8 arg9 harg9 arg10 harg10 arg11 harg11 arg12 arg13 q W (wsIn c arg2 arg7 S0 WS) (arg9.view.writes (Elt F) arg9.view.junk (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.2.2.1) (arg10.view.writes (Elt F) arg10.view.junk (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.2.2.2.1) Good keep (arg11.view.writes (Elt F) arg11.view.junk (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.2.2.2.2) hA Y ws' Q)
  isplitl [Hp0 Hp1 Hp2 Hp3 Hp4 Hp5 Hp6 Hp7 Hh8 Hh9 Hh10 Hh11 Hh12 Hh13 Hh14 Hh15]
  · unfold pairs Ring.AtW
    iapply (Entails.of_eq (sixteen_list (fun t => pair c arg1 arg8 arg13 q W t (stageAt 0 t))).symm)
    isplitl [Hp0]; · iapply (pair_of_flying c arg1 arg8 arg13 q W 0 rfl); iexact Hp0
    isplitl [Hp1]; · iapply (pair_of_flying c arg1 arg8 arg13 q W 1 rfl); iexact Hp1
    isplitl [Hp2]; · iapply (pair_of_flying c arg1 arg8 arg13 q W 2 rfl); iexact Hp2
    isplitl [Hp3]; · iapply (pair_of_flying c arg1 arg8 arg13 q W 3 rfl); iexact Hp3
    isplitl [Hp4]; · iapply (pair_of_flying c arg1 arg8 arg13 q W 4 rfl); iexact Hp4
    isplitl [Hp5]; · iapply (pair_of_flying c arg1 arg8 arg13 q W 5 rfl); iexact Hp5
    isplitl [Hp6]; · iapply (pair_of_flying c arg1 arg8 arg13 q W 6 rfl); iexact Hp6
    isplitl [Hp7]; · iapply (pair_of_flying c arg1 arg8 arg13 q W 7 rfl); iexact Hp7
    isplitl [Hh8]; · iapply (pair_of_home c arg1 arg8 arg13 q W 0 rfl); iexact Hh8
    isplitl [Hh9]; · iapply (pair_of_home c arg1 arg8 arg13 q W 1 rfl); iexact Hh9
    isplitl [Hh10]; · iapply (pair_of_home c arg1 arg8 arg13 q W 2 rfl); iexact Hh10
    isplitl [Hh11]; · iapply (pair_of_home c arg1 arg8 arg13 q W 3 rfl); iexact Hh11
    isplitl [Hh12]; · iapply (pair_of_home c arg1 arg8 arg13 q W 4 rfl); iexact Hh12
    isplitl [Hh13]; · iapply (pair_of_home c arg1 arg8 arg13 q W 5 rfl); iexact Hh13
    isplitl [Hh14]; · iapply (pair_of_home c arg1 arg8 arg13 q W 6 rfl); iexact Hh14
    iapply (pair_of_home c arg1 arg8 arg13 q W 7 rfl); iexact Hh15
  isplitl [H3]; · iexact H3
  isplitl [H7]; · iexact H7
  isplitl [H9]; · iexact H9
  isplitl [H10]; · iexact H10
  isplitl [H11]; · iexact H11
  isplitl [HO]; · iexact HO
  iintro ⟨%B, %hB, HP, H3, H7, H9, H10, H11, %ws'', HO⟩
  unfold pairs Ring.AtW
  ihave HP := (Entails.of_eq (sixteen_list (fun t => pair c arg1 arg8 arg13 q W t (stageAt 16 t)))) $$ HP
  icases HP with ⟨Hp0, Hp1, Hp2, Hp3, Hp4, Hp5, Hp6, Hp7, Hp8, Hp9, Hp10, Hp11, Hp12, Hp13, Hp14, Hp15⟩
  ihave Hp0 := (home_of_first c arg1 arg8 arg13 q W 0 rfl) $$ Hp0
  ihave Hp1 := (home_of_first c arg1 arg8 arg13 q W 1 rfl) $$ Hp1
  ihave Hp2 := (home_of_first c arg1 arg8 arg13 q W 2 rfl) $$ Hp2
  ihave Hp3 := (home_of_first c arg1 arg8 arg13 q W 3 rfl) $$ Hp3
  ihave Hp4 := (home_of_first c arg1 arg8 arg13 q W 4 rfl) $$ Hp4
  ihave Hp5 := (home_of_first c arg1 arg8 arg13 q W 5 rfl) $$ Hp5
  ihave Hp6 := (home_of_first c arg1 arg8 arg13 q W 6 rfl) $$ Hp6
  ihave Hp7 := (home_of_first c arg1 arg8 arg13 q W 7 rfl) $$ Hp7
  ihave Hp8 := (freed_of_last c arg1 arg8 arg13 q W 0 rfl) $$ Hp8
  icases Hp8 with ⟨Hp8, Hc8, Hd8, He8, Hf8⟩
  ihave Hp9 := (freed_of_last c arg1 arg8 arg13 q W 1 rfl) $$ Hp9
  icases Hp9 with ⟨Hp9, Hc9, Hd9, He9, Hf9⟩
  ihave Hp10 := (freed_of_last c arg1 arg8 arg13 q W 2 rfl) $$ Hp10
  icases Hp10 with ⟨Hp10, Hc10, Hd10, He10, Hf10⟩
  ihave Hp11 := (freed_of_last c arg1 arg8 arg13 q W 3 rfl) $$ Hp11
  icases Hp11 with ⟨Hp11, Hc11, Hd11, He11, Hf11⟩
  ihave Hp12 := (freed_of_last c arg1 arg8 arg13 q W 4 rfl) $$ Hp12
  icases Hp12 with ⟨Hp12, Hc12, Hd12, He12, Hf12⟩
  ihave Hp13 := (freed_of_last c arg1 arg8 arg13 q W 5 rfl) $$ Hp13
  icases Hp13 with ⟨Hp13, Hc13, Hd13, He13, Hf13⟩
  ihave Hp14 := (freed_of_last c arg1 arg8 arg13 q W 6 rfl) $$ Hp14
  icases Hp14 with ⟨Hp14, Hc14, Hd14, He14, Hf14⟩
  ihave Hp15 := (freed_of_last c arg1 arg8 arg13 q W 7 rfl) $$ Hp15
  icases Hp15 with ⟨Hp15, Hc15, Hd15, He15, Hf15⟩
  iapply Hk
  isplitl [H0]; · iexact H0
  isplitl [Hp0 Hp1 Hp2 Hp3 Hp4 Hp5 Hp6 Hp7 Hp8 Hp9 Hp10 Hp11 Hp12 Hp13 Hp14 Hp15 HR]
  · iapply (weight_join c arg1 q W)
    isplitl [Hp0 Hp1 Hp2 Hp3 Hp4 Hp5 Hp6 Hp7 Hp8 Hp9 Hp10 Hp11 Hp12 Hp13 Hp14 Hp15]
    · iapply (Entails.of_eq (sixteen_list (fun t => home c arg1 q W t)).symm)
      isplitl [Hp0]; · iexact Hp0
      isplitl [Hp1]; · iexact Hp1
      isplitl [Hp2]; · iexact Hp2
      isplitl [Hp3]; · iexact Hp3
      isplitl [Hp4]; · iexact Hp4
      isplitl [Hp5]; · iexact Hp5
      isplitl [Hp6]; · iexact Hp6
      isplitl [Hp7]; · iexact Hp7
      isplitl [Hp8]; · iexact Hp8
      isplitl [Hp9]; · iexact Hp9
      isplitl [Hp10]; · iexact Hp10
      isplitl [Hp11]; · iexact Hp11
      isplitl [Hp12]; · iexact Hp12
      isplitl [Hp13]; · iexact Hp13
      isplitl [Hp14]; · iexact Hp14
      iexact Hp15
    iexact HR
  isplitl [H2]; · iexact H2
  isplitl [H3]
  · iexists B
    isplitr [H3]
    · ipureintro; exact hB
    iexact H3
  isplitl [H4]; · iexact H4
  isplitl [H5]; · iexact H5
  isplitl [H6]; · iexists _; iexact H6
  isplitl [H7]; · iexists _; iexact H7
  isplitl [Hd8 Hf8 Hd9 Hf9 Hd10 Hf10 Hd11 Hf11 Hd12 Hf12 Hd13 Hf13 Hd14 Hf14 Hd15 Hf15 HS]
  · iapply (ring_join (F := F) c arg8)
    isplitl [Hd8 Hf8 Hd9 Hf9 Hd10 Hf10 Hd11 Hf11 Hd12 Hf12 Hd13 Hf13 Hd14 Hf14 Hd15 Hf15]
    · iapply (Entails.of_eq (eight_list (fun n : Fin 8 => windows (F := F) c arg8 (tr8 n))).symm)
      isplitl [Hd8 Hf8]
      · isplitl [Hd8]; · iexact Hd8
        iexact Hf8
      isplitl [Hd9 Hf9]
      · isplitl [Hd9]; · iexact Hd9
        iexact Hf9
      isplitl [Hd10 Hf10]
      · isplitl [Hd10]; · iexact Hd10
        iexact Hf10
      isplitl [Hd11 Hf11]
      · isplitl [Hd11]; · iexact Hd11
        iexact Hf11
      isplitl [Hd12 Hf12]
      · isplitl [Hd12]; · iexact Hd12
        iexact Hf12
      isplitl [Hd13 Hf13]
      · isplitl [Hd13]; · iexact Hd13
        iexact Hf13
      isplitl [Hd14 Hf14]
      · isplitl [Hd14]; · iexact Hd14
        iexact Hf14
      isplitl [Hd15]; · iexact Hd15
      iexact Hf15
    iexact HS
  isplitl [H9]; · iexists _; iexact H9
  isplitl [H10]; · iexists _; iexact H10
  isplitl [H11]; · iexists _; iexact H11
  isplitl [Hx]; · iexact Hx
  isplitl [Hs]; · iexact Hs
  isplitl [Hc8 He8]
  · isplitl [Hc8]; · iexact Hc8
    iexact He8
  isplitl [Hc9 He9]
  · isplitl [Hc9]; · iexact Hc9
    iexact He9
  isplitl [Hc10 He10]
  · isplitl [Hc10]; · iexact Hc10
    iexact He10
  isplitl [Hc11 He11]
  · isplitl [Hc11]; · iexact Hc11
    iexact He11
  isplitl [Hc12 He12]
  · isplitl [Hc12]; · iexact Hc12
    iexact He12
  isplitl [Hc13 He13]
  · isplitl [Hc13]; · iexact Hc13
    iexact He13
  isplitl [Hc14 He14]
  · isplitl [Hc14]; · iexact Hc14
    iexact He14
  isplitl [Hc15 He15]
  · isplitl [Hc15]; · iexact Hc15
    iexact He15
  iexists _; iexact HO

end Cert.KernelIdeal.Hand
end
-- ==== Proof.Frame.lean ====
module

public import proofs.«01_k».proof.Proof.Gen.KernelIdeal.Skeleton
public import proofs.«01_k».proof.Proof.Gen.KernelIdeal.Loops
public import Idealize.ShloMosaic.Lib.Tactic
public import proofs.«01_k».proof.Proof.Run
public import proofs.«01_k».proof.Proof.Gen.KernelIdeal.Frame
public import Idealize.ShloMosaic.Lib.Ring
public import Idealize.ShloMosaic.Lib.Ring.Pair
public import Idealize.ShloMosaic.Lib.Ring.FamCut
public import Idealize.ShloMosaic.Lib.ViewIndex
public import Idealize.ShloMosaic.Lib.Exec.Geometry
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch: @main up to the region, the kernel's cells, the arrays it reads -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

abbrev osem0 : Fin 18 → SemLoc sig := fun j => (![SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20] : Fin 18 → SemLoc sig) j
theorem ownSemFacts0 : Pipeline.OwnSemFacts spec0 osem0 := by decide
theorem ownSems0_list (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) := by
  rw [Pipeline.ownSems0_eq_of_list c osem0 [0, 1, 2, 3, 4, 5, 6, 7, 8, 9, 10, 11, 12, 13, 14, 15, 16, 17] (by decide) (by decide)]; rfl

/-- The arrays the kernel reads by transfers of its own. -/
def H0 : Finset (Ref sig .tc) := {main_v0, main_arg1, main_arg2}
theorem H0_sub : H0 ⊆ Pipeline.restRefs sig spec0 := by decide
theorem hbm_list (c : Dev nD) :
    (bigSep H0 (fun b => ((c : Thread nD τ).loc b) ↦{fullShare} V m c b) : sProp 𝕄)
      = iprop(((c : Thread nD τ).loc main_v0 ↦{fullShare} V m c main_v0) ∗ ((c : Thread nD τ).loc main_arg1 ↦{fullShare} V m c main_arg1) ∗ ((c : Thread nD τ).loc main_arg2 ↦{fullShare} V m c main_arg2)) := by
  rw [BI.bigSep_eq_bigSepL_of_eq [main_v0, main_arg1, main_arg2] (by decide) (by decide)]; rfl

theorem PhiD_list (c : Dev nD) :
    (Pipeline.ΦD osem0 spec0 H0 (V m) c : sProp 𝕄)
      = iprop(iprop((∃ f : Buf (Elt F) ((c : Thread nD τ).loc cc0_scratch0), ((c : Thread nD τ).loc cc0_scratch0 ↦{fullShare} f)) ∗ (∃ f : Buf (Elt F) ((c : Thread nD τ).loc cc0_scratch2), ((c : Thread nD τ).loc cc0_scratch2 ↦{fullShare} f)) ∗ (∃ f : Buf (Elt F) ((c : Thread nD τ).loc cc0_scratch3), ((c : Thread nD τ).loc cc0_scratch3 ↦{fullShare} f)) ∗ (∃ f : Buf (Elt F) ((c : Thread nD τ).loc cc0_scratch4), ((c : Thread nD τ).loc cc0_scratch4 ↦{fullShare} f)) ∗ (∃ f : Buf (Elt F) ((c : Thread nD τ).loc cc0_scratch5), ((c : Thread nD τ).loc cc0_scratch5 ↦{fullShare} f)) ∗ (∃ f : Buf (Elt F) ((c : Thread nD τ).loc cc0_scratch1), ((c : Thread nD τ).loc cc0_scratch1 ↦{fullShare} f))) ∗ (∃ r, prngReg c r) ∗ iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(((c : Thread nD τ).loc main_v0 ↦{fullShare} V m c main_v0) ∗ ((c : Thread nD τ).loc main_arg1 ↦{fullShare} V m c main_arg1) ∗ ((c : Thread nD τ).loc main_arg2 ↦{fullShare} V m c main_arg2))) := by
  rw [Pipeline.ΦD_eq, scopedRest0_eq, ownSems0_list, hbm_list]

/-- A whole buffer's contents, read through its view. -/
theorem owns_of {sp : Space} {sh : Shape} {e : EltTy} (c : Dev nD) (M : Memref sig .tc sp sh e) (h : M.IsWhole) (f : Buf (Elt F) (M.view.loc (c : Thread nD τ))) :
    (M.view.loc (c : Thread nD τ) ↦{fullShare} f : sProp 𝕄) ⊢ owns (c : Thread nD τ) M fullShare (M.view.read (Elt F) f) := by
  unfold owns
  iintro H
  iexists f
  isplitr [H]
  · ipureintro; rfl
  rw [h.set_eq_univ]
  iexact H

theorem of_owns {sp : Space} {sh : Shape} {e : EltTy} (c : Dev nD) (M : Memref sig .tc sp sh e) (h : M.IsWhole) (X : sh.Idx → Elt F e) :
    owns (c : Thread nD τ) M fullShare X ⊢ (iprop(∃ f : Buf (Elt F) (M.view.loc (c : Thread nD τ)), M.view.loc (c : Thread nD τ) ↦{fullShare} f) : sProp 𝕄) := by
  unfold owns
  rw [h.set_eq_univ]
  iintro ⟨%f, -, H⟩
  iexists f
  iexact H

/-- What the results must satisfy, of the three arrays the body leaves, whatever its scratch held. -/
structure Right (c : Dev nD) (t : Fin cfg0.N) (O0 : (S8x11264.Idx → Elt F .bf16) → Prop) (O1 : (S8x8192.Idx → Elt F .fp8e4m3) → Prop) (O2 : (S8x64.Idx → Elt F .f32) → Prop)
    (XB : Buf (Elt F) ((c : Thread nD τ).loc cc0_scratch0)) (WS : Buf (Elt F) ((c : Thread nD τ).loc cc0_scratch1))
    (Good : ℕ → Buf (Elt F) ((c : Thread nD τ).loc cc0_scratch5) → Prop) : Prop where
  keep : Keeps c (Memref.whole main_v0) (Memref.isWhole_whole _) (Memref.whole main_arg1) (Memref.isWhole_whole _) (Memref.whole main_arg2) (Memref.isWhole_whole _) (st0_0 t) (hstage0_0 0) (st0_1 t) (hstage0_1 0) (st0_2 t) (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 fullShare (V m c main_arg1) (wsIn c (Memref.whole main_arg2) (Memref.whole cc0_scratch1) (V m c main_arg2) WS) ((Memref.whole cc0_scratch3).view.writes (Elt F) (Memref.whole cc0_scratch3).view.junk (prologue c (Memref.whole main_v0) (Memref.isWhole_whole _) (Memref.whole main_arg1) (Memref.isWhole_whole _) (Memref.whole main_arg2) (Memref.isWhole_whole _) (st0_0 t) (hstage0_0 0) (st0_1 t) (hstage0_1 0) (st0_2 t) (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 fullShare fullShare fullShare (V m c main_arg1) (V m c main_v0) (V m c main_arg2) XB WS).1.2.2.1) ((Memref.whole cc0_scratch4).view.writes (Elt F) (Memref.whole cc0_scratch4).view.junk (prologue c (Memref.whole main_v0) (Memref.isWhole_whole _) (Memref.whole main_arg1) (Memref.isWhole_whole _) (Memref.whole main_arg2) (Memref.isWhole_whole _) (st0_0 t) (hstage0_0 0) (st0_1 t) (hstage0_1 0) (st0_2 t) (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 fullShare fullShare fullShare (V m c main_arg1) (V m c main_v0) (V m c main_arg2) XB WS).1.2.2.2.1) Good
  first : Good 0 ((Memref.whole cc0_scratch5).view.writes (Elt F) (Memref.whole cc0_scratch5).view.junk (prologue c (Memref.whole main_v0) (Memref.isWhole_whole _) (Memref.whole main_arg1) (Memref.isWhole_whole _) (Memref.whole main_arg2) (Memref.isWhole_whole _) (st0_0 t) (hstage0_0 0) (st0_1 t) (hstage0_1 0) (st0_2 t) (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 fullShare fullShare fullShare (V m c main_arg1) (V m c main_v0) (V m c main_arg2) XB WS).1.2.2.2.2)
  y : ∀ A, Good 16 A → ∀ Y, O0 ((st0_0 t).view.read (Elt F) ((st0_0 t).view.writes (Elt F) Y
    [⟨Rect.unit (s := S8x11264) ![0, 0] S8x11264.size inb_S8x11264_S8x11264_0_0,
      k0_pay1 ((Memref.whole cc0_scratch5).view.readAt (Elt F) (Rect.unit (s := S8x11264) ![0, 0] S8x11264.size inb_S8x11264_S8x11264_0_0).toLoadRect A)⟩]))
  codes : O1 ((st0_1 t).view.read (Elt F) ((st0_1 t).view.writes (Elt F) (st0_1 t).view.junk (prologue c (Memref.whole main_v0) (Memref.isWhole_whole _) (Memref.whole main_arg1) (Memref.isWhole_whole _) (Memref.whole main_arg2) (Memref.isWhole_whole _) (st0_0 t) (hstage0_0 0) (st0_1 t) (hstage0_1 0) (st0_2 t) (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 fullShare fullShare fullShare (V m c main_arg1) (V m c main_v0) (V m c main_arg2) XB WS).1.1))
  scales : O2 ((st0_2 t).view.read (Elt F) ((st0_2 t).view.writes (Elt F) (st0_2 t).view.junk (prologue c (Memref.whole main_v0) (Memref.isWhole_whole _) (Memref.whole main_arg1) (Memref.isWhole_whole _) (Memref.whole main_arg2) (Memref.isWhole_whole _) (st0_0 t) (hstage0_0 0) (st0_1 t) (hstage0_1 0) (st0_2 t) (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 fullShare fullShare fullShare (V m c main_arg1) (V m c main_v0) (V m c main_arg2) XB WS).1.2.1))

/-- The body as the pipeline calls it. -/
theorem sound (c : Dev nD) (t : Fin cfg0.N) (O0 : (S8x11264.Idx → Elt F .bf16) → Prop) (O1 : (S8x8192.Idx → Elt F .fp8e4m3) → Prop) (O2 : (S8x64.Idx → Elt F .f32) → Prop)
    (hR : ∀ XB WS, ∃ Good, Right m c t O0 O1 O2 XB WS Good) (Q : PUnit → sProp 𝕄) :
    iprop(Pipeline.ΦD osem0 spec0 H0 (V m) c ∗ (∃ ws, owes (c : Thread nD τ) 0 ws)
        ∗ (∃ X, owns (c : Thread nD τ) (st0_0 t) fullShare X) ∗ (∃ X, owns (c : Thread nD τ) (st0_1 t) fullShare X) ∗ (∃ X, owns (c : Thread nD τ) (st0_2 t) fullShare X)
        ∗ (iprop(Pipeline.ΦD osem0 spec0 H0 (V m) c ∗ (∃ ws, owes (c : Thread nD τ) 0 ws)
          ∗ (∃ X, ⌜O0 X⌝ ∗ owns (c : Thread nD τ) (st0_0 t) fullShare X) ∗ (∃ X, ⌜O1 X⌝ ∗ owns (c : Thread nD τ) (st0_1 t) fullShare X) ∗ (∃ X, ⌜O2 X⌝ ∗ owns (c : Thread nD τ) (st0_2 t) fullShare X)) -∗ Q ⟨⟩))
      ⊢ wp frame (wpE (defs₀ (F := F)) Variants.none (c : Thread nD τ) none) Set.univ (bodyAt0 t) Q := by
  unfold bodyAt0
  rw [PhiD_list]
  iintro ⟨⟨⟨⟨%f0, Hs0⟩, Hs2, ⟨%f3, Hs3⟩, ⟨%f4, Hs4⟩, ⟨%f5, Hs5⟩, ⟨%f1, Hs1⟩⟩, Hg, ⟨Hq0, Hq1, Hq2, Hq3, Hq4, Hq5, Hq6, Hq7, Hq8, Hq9, Hq10, Hq11, Hq12, Hq13, Hq14, Hq15, Hq16, Hq17⟩, ⟨Hh0, Hh1, Hh2⟩⟩, ⟨%ws, HO⟩, ⟨%X0, H0⟩, ⟨%X1, H1⟩, ⟨%X2, H2⟩, Hk⟩
  obtain ⟨Good, R⟩ := hR f0 f1
  ihave H0 := (of_owns c (st0_0 t) (hstage0_0 0) X0) $$ H0
  ihave H1 := (of_owns c (st0_1 t) (hstage0_1 0) X1) $$ H1
  ihave H2 := (of_owns c (st0_2 t) (hstage0_2 0) X2) $$ H2
  icases H0 with ⟨%g0, H0⟩
  icases H1 with ⟨%g1, H1⟩
  icases H2 with ⟨%g2, H2⟩
  iapply (body_run c (Memref.whole main_v0) (Memref.isWhole_whole _) (Memref.whole main_arg1) (Memref.isWhole_whole _) (Memref.whole main_arg2) (Memref.isWhole_whole _) (st0_0 t) (hstage0_0 0) (st0_1 t) (hstage0_1 0) (st0_2 t) (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 fullShare fullShare fullShare (V m c main_arg1) (V m c main_v0) (V m c main_arg2) f0 f1 Good R.keep R.first g0 g1 g2 f3 f4 f5 ws Q)
  isplitl [Hh0]; · iexact Hh0
  isplitl [Hh1]; · iexact Hh1
  isplitl [Hh2]; · iexact Hh2
  isplitl [H0]; · iexact H0
  isplitl [H1]; · iexact H1
  isplitl [H2]; · iexact H2
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hq0]; · iexact Hq0
  isplitl [Hq1]; · iexact Hq1
  isplitl [Hq2 Hq3]
  · isplitl [Hq2]; · iexact Hq2
    iexact Hq3
  isplitl [Hq4 Hq5]
  · isplitl [Hq4]; · iexact Hq4
    iexact Hq5
  isplitl [Hq6 Hq7]
  · isplitl [Hq6]; · iexact Hq6
    iexact Hq7
  isplitl [Hq8 Hq9]
  · isplitl [Hq8]; · iexact Hq8
    iexact Hq9
  isplitl [Hq10 Hq11]
  · isplitl [Hq10]; · iexact Hq10
    iexact Hq11
  isplitl [Hq12 Hq13]
  · isplitl [Hq12]; · iexact Hq12
    iexact Hq13
  isplitl [Hq14 Hq15]
  · isplitl [Hq14]; · iexact Hq14
    iexact Hq15
  isplitl [Hq16 Hq17]
  · isplitl [Hq16]; · iexact Hq16
    iexact Hq17
  isplitl [HO]; · iexact HO
  iintro ⟨Hh0, Hh1, Hh2, ⟨%A, %hA, H0⟩, H1, H2, Hs0, Hs1, Hs2, Hs3, Hs4, Hs5, Hq0, Hq1, ⟨Hq2, Hq3⟩, ⟨Hq4, Hq5⟩, ⟨Hq6, Hq7⟩, ⟨Hq8, Hq9⟩, ⟨Hq10, Hq11⟩, ⟨Hq12, Hq13⟩, ⟨Hq14, Hq15⟩, ⟨Hq16, Hq17⟩, HO⟩
  iapply Hk
  isplitl [Hs0 Hs1 Hs2 Hs3 Hs4 Hs5 Hg Hq0 Hq1 Hq2 Hq3 Hq4 Hq5 Hq6 Hq7 Hq8 Hq9 Hq10 Hq11 Hq12 Hq13 Hq14 Hq15 Hq16 Hq17 Hh0 Hh1 Hh2]
  · isplitl [Hs0 Hs1 Hs2 Hs3 Hs4 Hs5]
    · isplitl [Hs0]; · iexact Hs0
      isplitl [Hs2]; · iexact Hs2
      isplitl [Hs3]; · iexact Hs3
      isplitl [Hs4]; · iexact Hs4
      isplitl [Hs5]; · iexact Hs5
      iexact Hs1
    isplitl [Hg]; · iexact Hg
    isplitl [Hq0 Hq1 Hq2 Hq3 Hq4 Hq5 Hq6 Hq7 Hq8 Hq9 Hq10 Hq11 Hq12 Hq13 Hq14 Hq15 Hq16 Hq17]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      iexact Hq17
    isplitl [Hh0]; · iexact Hh0
    isplitl [Hh1]; · iexact Hh1
    iexact Hh2
  isplitl [HO]; · iexact HO
  isplitl [H0]
  · iexists _
    isplitr [H0]
    swap; · iapply (owns_of c (st0_0 t) (hstage0_0 0)); iexact H0
    ipureintro; exact R.y A hA g0
  isplitl [H1]
  · iexists _
    isplitr [H1]
    swap; · iapply (owns_of c (st0_1 t) (hstage0_1 0)); iexact H1
    ipureintro; exact R.codes
  iexists _
  isplitr [H2]
  swap; · iapply (owns_of c (st0_2 t) (hstage0_2 0)); iexact H2
  ipureintro; exact R.scales

theorem defs₀_row (t : Fin cfg0.N) :
    defs₀ (F := F) .tc cfg0.body (cfg0.bodyArgs t (cfg0.slots t)) = bodyAt0 t := by
  unfold defs₀; rw [Defs.onTc_tc]

/-! ## The frame: nothing said of the results -/

def dats (_ : Fin 1) (c : Dev nD) : Dat τ (Elt F) Unit ℕ (Pipeline.UD sig nD τ) ℕ cfg0 c where
  A w := V m c (Pipeline.arrRef spec0 w)
  after w t := (cfg0.win w).stage (cfg0.slots t w) |>.view.read (Elt F) ((cfg0.win w).stage (cfg0.slots t w)).view.junk
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

def forgets : Fin 3 → Bool := fun _ => true

theorem right_any (c : Dev nD) (t : Fin cfg0.N) (XB WS) :
    Right m c t (fun _ => True) (fun _ => True) (fun _ => True) XB WS (fun _ _ => True) where
  keep := ⟨fun _ _ _ _ _ _ _ => trivial, fun _ _ _ _ _ _ _ => trivial⟩
  first := trivial
  y := fun _ _ _ => trivial
  codes := trivial
  scales := trivial

theorem sound_body (c : Dev nD) (t : Fin cfg0.N) :
    iprop((dats m 0 c).Φ t.castSucc ∗ (dats m 0 c).owesAt () t.castSucc
        ∗ (∃ X, owns (c : Thread nD τ) (st0_0 t) fullShare X) ∗ (∃ X, owns (c : Thread nD τ) (st0_1 t) fullShare X) ∗ (∃ X, owns (c : Thread nD τ) (st0_2 t) fullShare X))
      ⊢ wp frame (wpE (defs₀ (F := F)) Variants.none (c : Thread nD τ) none) Set.univ (bodyAt0 t) (fun _ =>
        iprop((dats m 0 c).Φ t.succ ∗ (dats m 0 c).owesAt () t.succ
        ∗ (∃ X, owns (c : Thread nD τ) (st0_0 t) fullShare X) ∗ (∃ X, owns (c : Thread nD τ) (st0_1 t) fullShare X) ∗ (∃ X, owns (c : Thread nD τ) (st0_2 t) fullShare X))) := by
  rw [show (dats m 0 c).Φ t.succ = Pipeline.ΦD osem0 spec0 H0 (V m) c from rfl, show (dats m 0 c).Φ t.castSucc = Pipeline.ΦD osem0 spec0 H0 (V m) c from rfl]
  unfold Dat.owesAt Pipeline.owesWithin
  rw [show (dats m 0 c).owed t.castSucc = 0 from rfl, show (dats m 0 c).owed t.succ = 0 from rfl]
  iintro ⟨HΦ, ⟨%ws, -, HO⟩, H0, H1, H2⟩
  iapply (sound m c t (fun _ => True) (fun _ => True) (fun _ => True) (fun XB WS => ⟨_, right_any m c t XB WS⟩))
  isplitl [HΦ]; · iexact HΦ
  isplitl [HO]; · iexists ws; iexact HO
  isplitl [H0]; · iexact H0
  isplitl [H1]; · iexact H1
  isplitl [H2]; · iexact H2
  iintro ⟨HΦ, ⟨%ws', HO⟩, ⟨%Y0, -, H0⟩, ⟨%Y1, -, H1⟩, ⟨%Y2, -, H2⟩⟩
  isplitl [HΦ]; · iexact HΦ
  isplitl [HO]
  · iexists ws'; isplitr; · ipureintro; exact fun _ _ => Or.inl trivial
    iexact HO
  isplitl [H0]; · iexists Y0; iexact H0
  isplitl [H1]; · iexists Y1; iexact H1
  iexists Y2; iexact H2

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_dma_forget (Q' := _) cfgs (dats m) (0 : Fin 1) launch0 osem0 defs₀ Variants.none forgets ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- The frame, with every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.KernelIdeal.Hand
end
-- ==== Proof.BitsTrip.lean ====
module

public import proofs.«01_k».proof.Proof.Gen.Kernel.Skeleton
public import proofs.«01_k».proof.Proof.Gen.Kernel.Loops
public import Idealize.ShloMosaic.Lib.Tactic
public import Idealize.ShloMosaic.Lib.Ring
public import Idealize.ShloMosaic.Lib.Pipeline.FrameBody

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev cellM (arg13 : DmaSems sig S16) (off : Fin 1 → ℕ) (h : ∀ a, off a + S1.size a ≤ S16.size a) : SemLoc sig :=
  SemLoc.dma ((arg13.slice (Rect.unit (s := S16) off S1.size h)).squeeze S_ squeezes_S1_S_).sem

abbrev slotM (arg8 : Memref sig .tc .vmem S16x512x5632 .fp8e4m3) (off : Fin 3 → ℕ) (h : ∀ a, off a + S1x512x5632.size a ≤ S16x512x5632.size a) :
    Memref sig .tc .vmem S512x5632 .fp8e4m3 :=
  (arg8.slice (Rect.unit (s := S16x512x5632) off S1x512x5632.size h) (fun _ => rfl)).squeeze S512x5632 squeezes_S1x512x5632_S512x5632

abbrev srcM (arg1 : Memref sig .tc .hbm S8192x11264 .fp8e4m3) (off : Fin 2 → ℕ) (h : ∀ a, off a + S512x5632.size a ≤ S8192x11264.size a) :
    Memref sig .tc .hbm S512x5632 .fp8e4m3 :=
  arg1.slice (Rect.unit (s := S8192x11264) off S512x5632.size h) (fun _ => rfl)

/-- One transfer into a slot of the weight's ring, in flight. -/
abbrev fly (c : Dev nD) (arg1 : Memref sig .tc .hbm S8192x11264 .fp8e4m3) (arg8 : Memref sig .tc .vmem S16x512x5632 .fp8e4m3) (arg13 : DmaSems sig S16)
    (o : Fin 1 → ℕ) (ho : ∀ a, o a + S1.size a ≤ S16.size a)
    (p : Fin 3 → ℕ) (hp : ∀ a, p a + S1x512x5632.size a ≤ S16x512x5632.size a)
    (r : Fin 2 → ℕ) (hr : ∀ a, r a + S512x5632.size a ≤ S8192x11264.size a)
    (q : PosShare TreeShare) (W : Buf (Elt F) (arg1.view.loc (c : Thread nD τ))) (G : Buf (Elt F) (arg8.view.loc (c : Thread nD τ))) (N : ℕ) : sProp 𝕄 :=
  Transfers.Flight (countersEmb (U := Pipeline.UD sig nD τ)) (c : Thread nD τ) (cellM arg13 o ho) () N
    iprop(((slotM arg8 p hp).view.loc (c : Thread nD τ) ↦[(slotM arg8 p hp).view.set]{fullShare} G)
      ∗ ((srcM arg1 r hr).view.loc (c : Thread nD τ) ↦[(srcM arg1 r hr).view.set]{q} W))

/-- What a slot holds once block `r` of the weight has landed in it. -/
abbrev landed (c : Dev nD) (arg1 : Memref sig .tc .hbm S8192x11264 .fp8e4m3) (arg8 : Memref sig .tc .vmem S16x512x5632 .fp8e4m3)
    (p : Fin 3 → ℕ) (hp : ∀ a, p a + S1x512x5632.size a ≤ S16x512x5632.size a)
    (r : Fin 2 → ℕ) (hr : ∀ a, r a + S512x5632.size a ≤ S8192x11264.size a)
    (W : Buf (Elt F) (arg1.view.loc (c : Thread nD τ))) (G : Buf (Elt F) (arg8.view.loc (c : Thread nD τ))) :
    Buf (Elt F) (arg8.view.loc (c : Thread nD τ)) :=
  (slotM arg8 p hp).view.writes (Elt F) G [⟨Rect.whole S512x5632, ReadAs.same.apply ((srcM arg1 r hr).view.read (Elt F) W)⟩]

/-- A trip of the loop while there are blocks left to fetch: both slots are waited for, used and sent for again. -/
noncomputable def tripFed (c : Dev nD) (k : Fin k0_t1_loop.trips) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16) (c0 : BitVec 32)
    (q : PosShare TreeShare) (W : Buf (Elt F) (arg1.view.loc (c : Thread nD τ)))
    (WS : Buf (Elt F) (arg7.view.loc (c : Thread nD τ)))
    (L : Buf (Elt F) (arg9.view.loc (c : Thread nD τ)))
    (X : Buf (Elt F) (arg10.view.loc (c : Thread nD τ)))
    (A : Buf (Elt F) (arg11.view.loc (c : Thread nD τ)))
    (G0 G1 : Buf (Elt F) (arg8.view.loc (c : Thread nD τ)))
    (hk1 : k0_cond1 k = 1#1) (hk2 : k0_cond2 k = 1#1) :
    { P : List (View.Piece (Elt F) S8x11264 .f32) //
      ∀ (ws : Waits sig Unit) (Q : Unit → sProp 𝕄),
        iprop(fly c arg1 arg8 arg13 (k0_off1 k 0#32) (k0_off1_inb k 0) (k0_off2 k 0#32) (k0_off2_inb k 0) (k0_off3 k) (k0_off3_inb k) q W (G0) 90112
            ∗ fly c arg1 arg8 arg13 (k0_off1 k 1#32) (k0_off1_inb k 1) (k0_off2 k 1#32) (k0_off2_inb k 1) (k0_off64 k) (k0_off64_inb k) q W (G1) 90112
            ∗ ((srcM arg1 (k0_off63 k) (k0_off63_inb k hk1)).view.loc (c : Thread nD τ) ↦[(srcM arg1 (k0_off63 k) (k0_off63_inb k hk1)).view.set]{q} W)
            ∗ ((srcM arg1 (k0_off111 k) (k0_off111_inb k hk2)).view.loc (c : Thread nD τ) ↦[(srcM arg1 (k0_off111 k) (k0_off111_inb k hk2)).view.set]{q} W)
            ∗ (arg7.view.loc (c : Thread nD τ) ↦{fullShare} WS)
            ∗ (arg9.view.loc (c : Thread nD τ) ↦{fullShare} L)
            ∗ (arg10.view.loc (c : Thread nD τ) ↦{fullShare} X)
            ∗ (arg11.view.loc (c : Thread nD τ) ↦{fullShare} A)
            ∗ owes (c : Thread nD τ) 0 ws
            ∗ (iprop(fly c arg1 arg8 arg13 (k0_off1 k 0#32) (k0_off1_inb k 0) (k0_off2 k 0#32) (k0_off2_inb k 0) (k0_off63 k) (k0_off63_inb k hk1) q W (landed c arg1 arg8 (k0_off2 k 0#32) (k0_off2_inb k 0) (k0_off63 k) (k0_off63_inb k hk1) W G0) 90112
            ∗ fly c arg1 arg8 arg13 (k0_off1 k 1#32) (k0_off1_inb k 1) (k0_off2 k 1#32) (k0_off2_inb k 1) (k0_off111 k) (k0_off111_inb k hk2) q W (landed c arg1 arg8 (k0_off2 k 1#32) (k0_off2_inb k 1) (k0_off111 k) (k0_off111_inb k hk2) W G1) 90112
            ∗ ((srcM arg1 (k0_off3 k) (k0_off3_inb k)).view.loc (c : Thread nD τ) ↦[(srcM arg1 (k0_off3 k) (k0_off3_inb k)).view.set]{q} W)
            ∗ ((srcM arg1 (k0_off64 k) (k0_off64_inb k)).view.loc (c : Thread nD τ) ↦[(srcM arg1 (k0_off64 k) (k0_off64_inb k)).view.set]{q} W)
            ∗ (arg7.view.loc (c : Thread nD τ) ↦{fullShare} WS)
            ∗ (arg9.view.loc (c : Thread nD τ) ↦{fullShare} L)
            ∗ (arg10.view.loc (c : Thread nD τ) ↦{fullShare} X)
            ∗ (arg11.view.loc (c : Thread nD τ) ↦{fullShare} arg11.view.writes (Elt F) A P)
            ∗ (∃ ws', owes (c : Thread nD τ) 0 ws')) -∗ Q ⟨⟩))
      ⊢ wp frame (wpE (defs₀ (F := F)) Variants.none (c : Thread nD τ) none) Set.univ
         (k0_t1_body arg0 harg0 arg1 harg1 arg2 harg2 arg3 harg3 arg4 harg4 arg5 harg5 arg6 harg6 arg7 harg7 arg8 harg8 arg9 harg9 arg10 harg10 arg11 harg11 arg12 arg13 c0 k ⟨⟩) Q } := by
  refine ⟨?_, fun ws Q => ?run⟩
  case run =>
    unfold k0_t1_body
    iintro ⟨HA, HB, HS, HT, H7, H9, H10, H11, HO, Hk⟩
    sl_exec_parts
    sl_step
    iapply Hk
    isplitl [HA]; · iexact HA
    isplitl [HB]; · iexact HB
    isplitl [HA_src]; · iexact HA_src
    isplitl [HB_src]; · iexact HB_src
    isplitl [H7]; · iexact H7
    isplitl [H9]; · iexact H9
    isplitl [H10]; · iexact H10
    isplitl [H11]; · iexact H11
    iexists _; iexact HO

/-- A trip of the loop with nothing left to fetch: both slots are waited for, used and left free. -/
noncomputable def tripDry (c : Dev nD) (k : Fin k0_t1_loop.trips) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16) (c0 : BitVec 32)
    (q : PosShare TreeShare) (W : Buf (Elt F) (arg1.view.loc (c : Thread nD τ)))
    (WS : Buf (Elt F) (arg7.view.loc (c : Thread nD τ)))
    (L : Buf (Elt F) (arg9.view.loc (c : Thread nD τ)))
    (X : Buf (Elt F) (arg10.view.loc (c : Thread nD τ)))
    (A : Buf (Elt F) (arg11.view.loc (c : Thread nD τ)))
    (G0 G1 : Buf (Elt F) (arg8.view.loc (c : Thread nD τ)))
    (hk1 : ¬ k0_cond1 k = 1#1) (hk2 : ¬ k0_cond2 k = 1#1) :
    { P : List (View.Piece (Elt F) S8x11264 .f32) //
      ∀ (ws : Waits sig Unit) (Q : Unit → sProp 𝕄),
        iprop(fly c arg1 arg8 arg13 (k0_off1 k 0#32) (k0_off1_inb k 0) (k0_off2 k 0#32) (k0_off2_inb k 0) (k0_off3 k) (k0_off3_inb k) q W (G0) 90112
            ∗ fly c arg1 arg8 arg13 (k0_off1 k 1#32) (k0_off1_inb k 1) (k0_off2 k 1#32) (k0_off2_inb k 1) (k0_off64 k) (k0_off64_inb k) q W (G1) 90112
            ∗ (arg7.view.loc (c : Thread nD τ) ↦{fullShare} WS)
            ∗ (arg9.view.loc (c : Thread nD τ) ↦{fullShare} L)
            ∗ (arg10.view.loc (c : Thread nD τ) ↦{fullShare} X)
            ∗ (arg11.view.loc (c : Thread nD τ) ↦{fullShare} A)
            ∗ owes (c : Thread nD τ) 0 ws
            ∗ (iprop(semVal ((c : Thread nD τ), cellM arg13 (k0_off1 k 0#32) (k0_off1_inb k 0)) 0 ∗ ((slotM arg8 (k0_off2 k 0#32) (k0_off2_inb k 0)).view.loc (c : Thread nD τ) ↦[(slotM arg8 (k0_off2 k 0#32) (k0_off2_inb k 0)).view.set]{fullShare} G0)
            ∗ semVal ((c : Thread nD τ), cellM arg13 (k0_off1 k 1#32) (k0_off1_inb k 1)) 0 ∗ ((slotM arg8 (k0_off2 k 1#32) (k0_off2_inb k 1)).view.loc (c : Thread nD τ) ↦[(slotM arg8 (k0_off2 k 1#32) (k0_off2_inb k 1)).view.set]{fullShare} G1)
            ∗ ((srcM arg1 (k0_off3 k) (k0_off3_inb k)).view.loc (c : Thread nD τ) ↦[(srcM arg1 (k0_off3 k) (k0_off3_inb k)).view.set]{q} W)
            ∗ ((srcM arg1 (k0_off64 k) (k0_off64_inb k)).view.loc (c : Thread nD τ) ↦[(srcM arg1 (k0_off64 k) (k0_off64_inb k)).view.set]{q} W)
            ∗ (arg7.view.loc (c : Thread nD τ) ↦{fullShare} WS)
            ∗ (arg9.view.loc (c : Thread nD τ) ↦{fullShare} L)
            ∗ (arg10.view.loc (c : Thread nD τ) ↦{fullShare} X)
            ∗ (arg11.view.loc (c : Thread nD τ) ↦{fullShare} arg11.view.writes (Elt F) A P)
            ∗ (∃ ws', owes (c : Thread nD τ) 0 ws')) -∗ Q ⟨⟩))
      ⊢ wp frame (wpE (defs₀ (F := F)) Variants.none (c : Thread nD τ) none) Set.univ
         (k0_t1_body arg0 harg0 arg1 harg1 arg2 harg2 arg3 harg3 arg4 harg4 arg5 harg5 arg6 harg6 arg7 harg7 arg8 harg8 arg9 harg9 arg10 harg10 arg11 harg11 arg12 arg13 c0 k ⟨⟩) Q } := by
  refine ⟨?_, fun ws Q => ?run⟩
  case run =>
    unfold k0_t1_body
    iintro ⟨HA, HB, H7, H9, H10, H11, HO, Hk⟩
    sl_exec_parts
    sl_step
    iapply Hk
    isplitl [HA]; · iexact HA
    isplitl [HA_dst]; · iexact HA_dst
    isplitl [HB]; · iexact HB
    isplitl [HB_dst]; · iexact HB_dst
    isplitl [HA_src]; · iexact HA_src
    isplitl [HB_src]; · iexact HB_src
    isplitl [H7]; · iexact H7
    isplitl [H9]; · iexact H9
    isplitl [H10]; · iexact H10
    isplitl [H11]; · iexact H11
    iexists _; iexact HO

end Cert.Kernel.Hand
end
-- ==== Proof.BitsRing.lean ====
module

public import proofs.«01_k».proof.Proof.Gen.Kernel.Skeleton
public import proofs.«01_k».proof.Proof.Gen.Kernel.Loops
public import Idealize.ShloMosaic.Lib.Tactic
public import proofs.«01_k».proof.Proof.BitsTrip
public import Idealize.ShloMosaic.Lib.Ring
public import Idealize.ShloMosaic.Lib.Pipeline.FrameBody

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev cellS (arg12 : DmaSems sig S2) (off : Fin 1 → ℕ) (h : ∀ a, off a + S1.size a ≤ S2.size a) : SemLoc sig :=
  SemLoc.dma ((arg12.slice (Rect.unit (s := S2) off S1.size h)).squeeze S_ squeezes_S1_S_).sem

/-- The two blocks of the weight that trip `t` uses, in HBM. -/
def home (c : Dev nD) (arg1 : Memref sig .tc .hbm S8192x11264 .fp8e4m3) (q : PosShare TreeShare)
    (W : Buf (Elt F) (arg1.view.loc (c : Thread nD τ))) (t : Fin k0_t1_loop.trips) : sProp 𝕄 :=
  iprop(((srcM arg1 (k0_off3 t) (k0_off3_inb t)).view.loc (c : Thread nD τ) ↦[(srcM arg1 (k0_off3 t) (k0_off3_inb t)).view.set]{q} W)
    ∗ ((srcM arg1 (k0_off64 t) (k0_off64_inb t)).view.loc (c : Thread nD τ) ↦[(srcM arg1 (k0_off64 t) (k0_off64_inb t)).view.set]{q} W))

/-- The two slots that trip `t` uses, free: their cells at zero. -/
def slots (c : Dev nD) (arg8 : Memref sig .tc .vmem S16x512x5632 .fp8e4m3) (arg13 : DmaSems sig S16) (t : Fin k0_t1_loop.trips) : sProp 𝕄 :=
  iprop(semVal ((c : Thread nD τ), cellM arg13 (k0_off1 t 0#32) (k0_off1_inb t 0)) 0
    ∗ (∃ G : Buf (Elt F) (arg8.view.loc (c : Thread nD τ)), (slotM arg8 (k0_off2 t 0#32) (k0_off2_inb t 0)).view.loc (c : Thread nD τ) ↦[(slotM arg8 (k0_off2 t 0#32) (k0_off2_inb t 0)).view.set]{fullShare} G)
    ∗ semVal ((c : Thread nD τ), cellM arg13 (k0_off1 t 1#32) (k0_off1_inb t 1)) 0
    ∗ (∃ G : Buf (Elt F) (arg8.view.loc (c : Thread nD τ)), (slotM arg8 (k0_off2 t 1#32) (k0_off2_inb t 1)).view.loc (c : Thread nD τ) ↦[(slotM arg8 (k0_off2 t 1#32) (k0_off2_inb t 1)).view.set]{fullShare} G))

abbrev tr (n : ℕ) (h : n < 16 := by decide) : Fin k0_t1_loop.trips := ⟨n, h⟩

/-- What the prologue fetches with: the first eight trips' blocks and their slots. -/
abbrev start (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ))) (t : Fin k0_t1_loop.trips) : sProp 𝕄 :=
  iprop(home c arg1 q W t ∗ slots c arg8 arg13 t)

/-- The two slots that trip `t` uses, each with its block of the weight on its way. -/
def flying (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ))) (t : Fin k0_t1_loop.trips) : sProp 𝕄 :=
  iprop((∃ G : Buf (Elt F) (arg8.view.loc (c : Thread nD τ)), fly c arg1 arg8 arg13 (k0_off1 t 0#32) (k0_off1_inb t 0) (k0_off2 t 0#32) (k0_off2_inb t 0) (k0_off3 t) (k0_off3_inb t) q W
        (landed c arg1 arg8 (k0_off2 t 0#32) (k0_off2_inb t 0) (k0_off3 t) (k0_off3_inb t) W G) 90112)
    ∗ (∃ G : Buf (Elt F) (arg8.view.loc (c : Thread nD τ)), fly c arg1 arg8 arg13 (k0_off1 t 1#32) (k0_off1_inb t 1) (k0_off2 t 1#32) (k0_off2_inb t 1) (k0_off64 t) (k0_off64_inb t) q W
        (landed c arg1 arg8 (k0_off2 t 1#32) (k0_off2_inb t 1) (k0_off64 t) (k0_off64_inb t) W G) 90112))

/-- What is left of the body after the prologue: the loop, and the result's rounding. -/
def rest (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16) : Prog (TpuEff nD τ sig (Elt F) Λ₀ .tc) PUnit := do
  Scf.Loop.for k0_t1_loop k0_t1_ok ⟨⟩ (k0_t1_body arg0 harg0 arg1 harg1 arg2 harg2 arg3 harg3 arg4 harg4 arg5 harg5 arg6 harg6 arg7 harg7 arg8 harg8 arg9 harg9 arg10 harg10 arg11 harg11 arg12 arg13 0#32)
  let v3745 : Vec F S8x11264 .f32 ← Prog.lift (.load arg11 (Rect.unit (s := S8x11264) ![0, 0] S8x11264.size inb_S8x11264_S8x11264_0_0).toLoadRect (View.loadsAt_vmem h_S8x11264))
  let v3747 : Vec F S8x11264 .bf16 ← Prog.lift (.load arg3 (Rect.unit (s := S8x11264) ![0, 0] S8x11264.size inb_S8x11264_S8x11264_0_0).toLoadRect (View.loadsAt_vmem h_S8x11264))
  Prog.lift (.store arg3 (Rect.unit (s := S8x11264) ![0, 0] S8x11264.size inb_S8x11264_S8x11264_0_0) (k0_pay1 v3745) Finset.univ (View.stores_vmem h_S8x11264 (harg3.storeExact_slice rfl _ packedbf16_S8x11264_S8x11264_0_0) (fun _ => rfl)) (.inl rfl))
  pure ⟨⟩

/-- The scales in scalar memory once their transfer has landed. -/
abbrev wsIn (c : Dev nD) (arg2 : Memref sig .tc .hbm S64x88 .f32) (arg7 : Memref sig .tc .smem S64x88 .f32)
    (S0 : Buf (Elt F) (arg2.view.loc (c : Thread nD τ))) (WS : Buf (Elt F) (arg7.view.loc (c : Thread nD τ))) : Buf (Elt F) (arg7.view.loc (c : Thread nD τ)) :=
  View.write (Elt F) arg7.view WS (ReadAs.same.apply (arg2.view.read (Elt F) S0)) Finset.univ

/-- The activations in vector memory once their transfer has landed. -/
abbrev xIn (c : Dev nD) (arg0 : Memref sig .tc .hbm S8x8192 .bf16) (arg6 : Memref sig .tc .vmem S8x8192 .bf16)
    (X0 : Buf (Elt F) (arg0.view.loc (c : Thread nD τ))) (XB : Buf (Elt F) (arg6.view.loc (c : Thread nD τ))) : Buf (Elt F) (arg6.view.loc (c : Thread nD τ)) :=
  View.write (Elt F) arg6.view XB (ReadAs.same.apply (arg0.view.read (Elt F) X0)) Finset.univ

end Cert.Kernel.Hand
end
-- ==== Proof.BitsPrologue.lean ====
module

public import proofs.«01_k».proof.Proof.Gen.Kernel.Skeleton
public import proofs.«01_k».proof.Proof.Gen.Kernel.Loops
public import Idealize.ShloMosaic.Lib.Tactic
public import proofs.«01_k».proof.Proof.BitsRing
public import Idealize.ShloMosaic.Lib.Ring
public import Idealize.ShloMosaic.Lib.Pipeline.FrameBody

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The lists of writes the prologue leaves: to the codes, the scales, the left operand, the scales by lane, the sums. -/
abbrev Writes (F : FTy → Type) : Type :=
  List (View.Piece (Elt F) S8x8192 .fp8e4m3) × List (View.Piece (Elt F) S8x64 .f32) × List (View.Piece (Elt F) S16x32x512 .fp8e4m3)
    × List (View.Piece (Elt F) S64x8x128 .f32) × List (View.Piece (Elt F) S8x11264 .f32)

/-- The prologue: the transfers are sent for, and the activations are quantised group by group. -/
noncomputable def prologue (c : Dev nD) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16)
    (q q0 q2 : PosShare TreeShare) (W : Buf (Elt F) (arg1.view.loc (c : Thread nD τ)))
    (X0 : Buf (Elt F) (arg0.view.loc (c : Thread nD τ))) (S0 : Buf (Elt F) (arg2.view.loc (c : Thread nD τ)))
    (XB : Buf (Elt F) (arg6.view.loc (c : Thread nD τ)))
    (WS : Buf (Elt F) (arg7.view.loc (c : Thread nD τ))) :
    { P : Writes F // ∀
      (C : Buf (Elt F) (arg4.view.loc (c : Thread nD τ))) (S : Buf (Elt F) (arg5.view.loc (c : Thread nD τ)))
      (L : Buf (Elt F) (arg9.view.loc (c : Thread nD τ)))
      (X : Buf (Elt F) (arg10.view.loc (c : Thread nD τ)))
      (A : Buf (Elt F) (arg11.view.loc (c : Thread nD τ))) (ws : Waits sig Unit) (Q : PUnit → sProp 𝕄),
      iprop((arg0.view.loc (c : Thread nD τ) ↦{q0} X0) ∗ (arg2.view.loc (c : Thread nD τ) ↦{q2} S0)
        ∗ (arg4.view.loc (c : Thread nD τ) ↦{fullShare} C) ∗ (arg5.view.loc (c : Thread nD τ) ↦{fullShare} S)
        ∗ (arg6.view.loc (c : Thread nD τ) ↦{fullShare} XB) ∗ (arg7.view.loc (c : Thread nD τ) ↦{fullShare} WS)
        ∗ (arg9.view.loc (c : Thread nD τ) ↦{fullShare} L) ∗ (arg10.view.loc (c : Thread nD τ) ↦{fullShare} X) ∗ (arg11.view.loc (c : Thread nD τ) ↦{fullShare} A)
        ∗ semVal ((c : Thread nD τ), cellS arg12 ![0] inb_S2_S1_0) 0 ∗ semVal ((c : Thread nD τ), cellS arg12 ![1] inb_S2_S1_1) 0
        ∗ start c arg1 arg8 arg13 q W (tr 0)
            ∗ start c arg1 arg8 arg13 q W (tr 1)
            ∗ start c arg1 arg8 arg13 q W (tr 2)
            ∗ start c arg1 arg8 arg13 q W (tr 3)
            ∗ start c arg1 arg8 arg13 q W (tr 4)
            ∗ start c arg1 arg8 arg13 q W (tr 5)
            ∗ start c arg1 arg8 arg13 q W (tr 6)
            ∗ start c arg1 arg8 arg13 q W (tr 7)
        ∗ owes (c : Thread nD τ) 0 ws
        ∗ (iprop((arg0.view.loc (c : Thread nD τ) ↦{q0} X0) ∗ (arg2.view.loc (c : Thread nD τ) ↦{q2} S0)
            ∗ (arg4.view.loc (c : Thread nD τ) ↦{fullShare} arg4.view.writes (Elt F) arg4.view.junk P.1) ∗ (arg5.view.loc (c : Thread nD τ) ↦{fullShare} arg5.view.writes (Elt F) arg5.view.junk P.2.1)
            ∗ (arg6.view.loc (c : Thread nD τ) ↦{fullShare} xIn c arg0 arg6 X0 XB) ∗ (arg7.view.loc (c : Thread nD τ) ↦{fullShare} wsIn c arg2 arg7 S0 WS)
            ∗ (arg9.view.loc (c : Thread nD τ) ↦{fullShare} arg9.view.writes (Elt F) arg9.view.junk P.2.2.1) ∗ (arg10.view.loc (c : Thread nD τ) ↦{fullShare} arg10.view.writes (Elt F) arg10.view.junk P.2.2.2.1)
            ∗ (arg11.view.loc (c : Thread nD τ) ↦{fullShare} arg11.view.writes (Elt F) arg11.view.junk P.2.2.2.2)
            ∗ semVal ((c : Thread nD τ), cellS arg12 ![0] inb_S2_S1_0) 0 ∗ semVal ((c : Thread nD τ), cellS arg12 ![1] inb_S2_S1_1) 0
            ∗ flying c arg1 arg8 arg13 q W (tr 0)
            ∗ flying c arg1 arg8 arg13 q W (tr 1)
            ∗ flying c arg1 arg8 arg13 q W (tr 2)
            ∗ flying c arg1 arg8 arg13 q W (tr 3)
            ∗ flying c arg1 arg8 arg13 q W (tr 4)
            ∗ flying c arg1 arg8 arg13 q W (tr 5)
            ∗ flying c arg1 arg8 arg13 q W (tr 6)
            ∗ flying c arg1 arg8 arg13 q W (tr 7)
            ∗ (∃ ws', owes (c : Thread nD τ) 0 ws'))
           -∗ wp frame (wpE (defs₀ (F := F)) Variants.none (c : Thread nD τ) none) Set.univ (rest arg0 harg0 arg1 harg1 arg2 harg2 arg3 harg3 arg4 harg4 arg5 harg5 arg6 harg6 arg7 harg7 arg8 harg8 arg9 harg9 arg10 harg10 arg11 harg11 arg12 arg13) Q))
       ⊢ wp frame (wpE (defs₀ (F := F)) Variants.none (c : Thread nD τ) none) Set.univ
           (cc0_fp8_block_linear arg0 harg0 arg1 harg1 arg2 harg2 arg3 harg3 arg4 harg4 arg5 harg5 arg6 harg6 arg7 harg7 arg8 harg8 arg9 harg9 arg10 harg10 arg11 harg11 arg12 arg13) Q } := by
  refine ⟨⟨?p1, ?p2, ?p3, ?p4, ?p5⟩, fun C S L X A ws Q => ?run⟩
  case run =>
    simp only [cc0_fp8_block_linear_eq_skeleton]; unfold cc0_fp8_block_linear_skel
    unfold start home slots
    iintro ⟨H0, H2, H4, H5, H6, H7, H9, H10, H11, Hx, Hs,
      ⟨⟨Ha0, Hb0⟩, Hc0, ⟨%g0, Hd0⟩, He0, ⟨%h0, Hf0⟩⟩,
      ⟨⟨Ha1, Hb1⟩, Hc1, ⟨%g1, Hd1⟩, He1, ⟨%h1, Hf1⟩⟩,
      ⟨⟨Ha2, Hb2⟩, Hc2, ⟨%g2, Hd2⟩, He2, ⟨%h2, Hf2⟩⟩,
      ⟨⟨Ha3, Hb3⟩, Hc3, ⟨%g3, Hd3⟩, He3, ⟨%h3, Hf3⟩⟩,
      ⟨⟨Ha4, Hb4⟩, Hc4, ⟨%g4, Hd4⟩, He4, ⟨%h4, Hf4⟩⟩,
      ⟨⟨Ha5, Hb5⟩, Hc5, ⟨%g5, Hd5⟩, He5, ⟨%h5, Hf5⟩⟩,
      ⟨⟨Ha6, Hb6⟩, Hc6, ⟨%g6, Hd6⟩, He6, ⟨%h6, Hf6⟩⟩,
      ⟨⟨Ha7, Hb7⟩, Hc7, ⟨%g7, Hd7⟩, He7, ⟨%h7, Hf7⟩⟩, HO, Hk⟩
    sl_exec_parts
    unfold rest flying
    dsimp only
    iapply Hk
    isplitl [H0]; · iexact H0
    isplitl [H2]; · iexact H2
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [Hx]; · iexact Hx
    isplitl [Hs]; · iexact Hs
    isplitl [Hc0 He0]
    · isplitl [Hc0]
      · iexists _; iexact Hc0
      · iexists _; iexact He0
    isplitl [Hc1 He1]
    · isplitl [Hc1]
      · iexists _; iexact Hc1
      · iexists _; iexact He1
    isplitl [Hc2 He2]
    · isplitl [Hc2]
      · iexists _; iexact Hc2
      · iexists _; iexact He2
    isplitl [Hc3 He3]
    · isplitl [Hc3]
      · iexists _; iexact Hc3
      · iexists _; iexact He3
    isplitl [Hc4 He4]
    · isplitl [Hc4]
      · iexists _; iexact Hc4
      · iexists _; iexact He4
    isplitl [Hc5 He5]
    · isplitl [Hc5]
      · iexists _; iexact Hc5
      · iexists _; iexact He5
    isplitl [Hc6 He6]
    · isplitl [Hc6]
      · iexists _; iexact Hc6
      · iexists _; iexact He6
    isplitl [Hc7 He7]
    · isplitl [Hc7]
      · iexists _; iexact Hc7
      · iexists _; iexact He7
    iexists _; iexact HO

end Cert.Kernel.Hand
end
-- ==== Proof.BitsLoop.lean ====
module

public import proofs.«01_k».proof.Proof.Gen.Kernel.Skeleton
public import proofs.«01_k».proof.Proof.Gen.Kernel.Loops
public import Idealize.ShloMosaic.Lib.Tactic
public import proofs.«01_k».proof.Proof.BitsPrologue
public import Idealize.ShloMosaic.Lib.Ring
public import Idealize.ShloMosaic.Lib.Ring.Pair
public import Idealize.ShloMosaic.Lib.Pipeline.FrameBody

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Where a trip's two blocks are: in HBM and not sent for, on their way, or back in HBM with their slots free. -/
inductive Stage | home | flying | freed
  deriving DecidableEq

/-- What the kernel holds for the two blocks of trip `t`. -/
def pair (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ))) (t : Fin k0_t1_loop.trips) : Stage → sProp 𝕄
  | .home => home c arg1 q W t
  | .flying => flying c arg1 arg8 arg13 q W t
  | .freed => iprop(home c arg1 q W t ∗ slots c arg8 arg13 t)

/-- Before trip `k` the blocks of the trips `k … k + 7` are on their way. -/
def stageAt (k : ℕ) (t : Fin k0_t1_loop.trips) : Stage :=
  if t.val < k then (if t.val < 8 then .home else .freed) else if t.val < k + 8 then .flying else .home

/-- The blocks of all trips, at stages `st`. -/
abbrev pairs (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ))) (st : Fin k0_t1_loop.trips → Stage) : sProp 𝕄 :=
  Ring.AtW (σ := fun _ => Stage) (pair c arg1 arg8 arg13 q W) st

theorem cond1_iff : ∀ k : Fin k0_t1_loop.trips, k0_cond1 k = 1#1 ↔ k.val < 8 := by decide
theorem cond2_iff : ∀ k : Fin k0_t1_loop.trips, k0_cond2 k = 1#1 ↔ k.val < 8 := by decide

/-- Trip `k`'s slots are trip `k + 8`'s. -/
theorem off1_again (k t : Fin k0_t1_loop.trips) (h : t.val = k.val + 8) (p : Fin 2) :
    k0_off1 k (BitVec.ofNat 32 p.val) = k0_off1 t (BitVec.ofNat 32 p.val) := by revert p; revert h; revert t; revert k; decide +kernel
theorem off2_again (k t : Fin k0_t1_loop.trips) (h : t.val = k.val + 8) (p : Fin 2) :
    k0_off2 k (BitVec.ofNat 32 p.val) = k0_off2 t (BitVec.ofNat 32 p.val) := by revert p; revert h; revert t; revert k; decide +kernel
theorem off63_next (k t : Fin k0_t1_loop.trips) (h : t.val = k.val + 8) : k0_off63 k = k0_off3 t := by revert h; revert t; revert k; decide +kernel
theorem off111_next (k t : Fin k0_t1_loop.trips) (h : t.val = k.val + 8) : k0_off111 k = k0_off64 t := by revert h; revert t; revert k; decide +kernel

/-- A transfer depends on its offsets alone. -/
theorem fly_congr (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ)))
    {o o' : Fin 1 → ℕ} (eo : o = o') {p p' : Fin 3 → ℕ} (ep : p = p') {r r' : Fin 2 → ℕ} (er : r = r')
    (ho : ∀ a, o a + S1.size a ≤ S16.size a) (ho' : ∀ a, o' a + S1.size a ≤ S16.size a)
    (hp : ∀ a, p a + S1x512x5632.size a ≤ S16x512x5632.size a) (hp' : ∀ a, p' a + S1x512x5632.size a ≤ S16x512x5632.size a)
    (hr : ∀ a, r a + S512x5632.size a ≤ S8192x11264.size a) (hr' : ∀ a, r' a + S512x5632.size a ≤ S8192x11264.size a)
    (G : Buf (Elt F) (arg8.view.loc (c : Thread nD τ))) :
    fly c arg1 arg8 arg13 o ho p hp r hr q W (landed c arg1 arg8 p hp r hr W G) 90112
      ⊢ fly c arg1 arg8 arg13 o' ho' p' hp' r' hr' q W (landed c arg1 arg8 p' hp' r' hr' W G) 90112 := by
  subst eo; subst ep; subst er; exact Laws.entails_refl _

/-- A block in HBM depends on its offset alone. -/
theorem src_congr (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ))) {r r' : Fin 2 → ℕ} (er : r = r')
    (hr : ∀ a, r a + S512x5632.size a ≤ S8192x11264.size a) (hr' : ∀ a, r' a + S512x5632.size a ≤ S8192x11264.size a) :
    (iprop(((srcM arg1 r hr).view.loc (c : Thread nD τ) ↦[(srcM arg1 r hr).view.set]{q} W)) : sProp 𝕄)
      ⊢ iprop(((srcM arg1 r' hr').view.loc (c : Thread nD τ) ↦[(srcM arg1 r' hr').view.set]{q} W)) := by
  subst er; exact Laws.entails_refl _

/-- The loop's invariant: the sums are `Good`, the eight next trips' blocks are on their way. -/
def inv (c : Dev nD) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16) (q : PosShare TreeShare) (W : Buf (Elt F) (arg1.view.loc (c : Thread nD τ)))
    (WS : Buf (Elt F) (arg7.view.loc (c : Thread nD τ)))
    (L : Buf (Elt F) (arg9.view.loc (c : Thread nD τ)))
    (X : Buf (Elt F) (arg10.view.loc (c : Thread nD τ)))
    (Good : ℕ → Buf (Elt F) (arg11.view.loc (c : Thread nD τ)) → Prop) (k : ℕ) (_ : Unit) : sProp 𝕄 :=
  iprop(∃ A : Buf (Elt F) (arg11.view.loc (c : Thread nD τ)), ⌜Good k A⌝ ∗ pairs c arg1 arg8 arg13 q W (stageAt k)
    ∗ (arg7.view.loc (c : Thread nD τ) ↦{fullShare} WS) ∗ (arg9.view.loc (c : Thread nD τ) ↦{fullShare} L)
    ∗ (arg10.view.loc (c : Thread nD τ) ↦{fullShare} X) ∗ (arg11.view.loc (c : Thread nD τ) ↦{fullShare} A)
    ∗ ∃ ws, owes (c : Thread nD τ) 0 ws)

/-- A trip keeps the sums good, whatever the slots held before their blocks landed. -/
structure Keeps (c : Dev nD) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16) (q : PosShare TreeShare) (W : Buf (Elt F) (arg1.view.loc (c : Thread nD τ)))
    (WS : Buf (Elt F) (arg7.view.loc (c : Thread nD τ)))
    (L : Buf (Elt F) (arg9.view.loc (c : Thread nD τ)))
    (X : Buf (Elt F) (arg10.view.loc (c : Thread nD τ)))
    (Good : ℕ → Buf (Elt F) (arg11.view.loc (c : Thread nD τ)) → Prop) : Prop where
  fed : ∀ (k : Fin k0_t1_loop.trips) A G0 G1 hk1 hk2, Good k A → Good (k + 1) (arg11.view.writes (Elt F) A
    (tripFed c k arg0 harg0 arg1 harg1 arg2 harg2 arg3 harg3 arg4 harg4 arg5 harg5 arg6 harg6 arg7 harg7 arg8 harg8 arg9 harg9 arg10 harg10 arg11 harg11 arg12 arg13 0#32 q W WS L X A (landed c arg1 arg8 (k0_off2 k 0#32) (k0_off2_inb k 0) (k0_off3 k) (k0_off3_inb k) W G0) (landed c arg1 arg8 (k0_off2 k 1#32) (k0_off2_inb k 1) (k0_off64 k) (k0_off64_inb k) W G1) hk1 hk2).1)
  dry : ∀ (k : Fin k0_t1_loop.trips) A G0 G1 hk1 hk2, Good k A → Good (k + 1) (arg11.view.writes (Elt F) A
    (tripDry c k arg0 harg0 arg1 harg1 arg2 harg2 arg3 harg3 arg4 harg4 arg5 harg5 arg6 harg6 arg7 harg7 arg8 harg8 arg9 harg9 arg10 harg10 arg11 harg11 arg12 arg13 0#32 q W WS L X A (landed c arg1 arg8 (k0_off2 k 0#32) (k0_off2_inb k 0) (k0_off3 k) (k0_off3_inb k) W G0) (landed c arg1 arg8 (k0_off2 k 1#32) (k0_off2_inb k 1) (k0_off64 k) (k0_off64_inb k) W G1) hk1 hk2).1)

theorem trip (c : Dev nD) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16) (q : PosShare TreeShare) (W : Buf (Elt F) (arg1.view.loc (c : Thread nD τ)))
    (WS : Buf (Elt F) (arg7.view.loc (c : Thread nD τ)))
    (L : Buf (Elt F) (arg9.view.loc (c : Thread nD τ)))
    (X : Buf (Elt F) (arg10.view.loc (c : Thread nD τ)))
    (Good : ℕ → Buf (Elt F) (arg11.view.loc (c : Thread nD τ)) → Prop) (keep : Keeps c arg0 harg0 arg1 harg1 arg2 harg2 arg3 harg3 arg4 harg4 arg5 harg5 arg6 harg6 arg7 harg7 arg8 harg8 arg9 harg9 arg10 harg10 arg11 harg11 arg12 arg13 q W WS L X Good) (k : Fin k0_t1_loop.trips) (a : Unit) :
    inv c arg0 harg0 arg1 harg1 arg2 harg2 arg3 harg3 arg4 harg4 arg5 harg5 arg6 harg6 arg7 harg7 arg8 harg8 arg9 harg9 arg10 harg10 arg11 harg11 arg12 arg13 q W WS L X Good k a ⊢ wp frame (wpE (defs₀ (F := F)) Variants.none (c : Thread nD τ) none) Set.univ
      (k0_t1_body arg0 harg0 arg1 harg1 arg2 harg2 arg3 harg3 arg4 harg4 arg5 harg5 arg6 harg6 arg7 harg7 arg8 harg8 arg9 harg9 arg10 harg10 arg11 harg11 arg12 arg13 0#32 k a) (inv c arg0 harg0 arg1 harg1 arg2 harg2 arg3 harg3 arg4 harg4 arg5 harg5 arg6 harg6 arg7 harg7 arg8 harg8 arg9 harg9 arg10 harg10 arg11 harg11 arg12 arg13 q W WS L X Good (k + 1)) := by
  by_cases hk : k.val < 8
  · have hk1 := (cond1_iff k).2 hk
    have hk2 := (cond2_iff k).2 hk
    obtain ⟨t, ht⟩ : ∃ t : Fin k0_t1_loop.trips, t.val = k.val + 8 := ⟨⟨k.val + 8, show _ < 16 by omega⟩, rfl⟩
    have hne : t ≠ k := fun e => by rw [e] at ht; omega
    have hst : stageAt (k + 1) = Function.update (Function.update (stageAt k) k .home) t .flying := by
      funext s; simp only [Function.update_apply, stageAt, Fin.ext_iff]
      split_ifs <;> first | rfl | omega
    have hk' : stageAt k k = .flying := by simp [stageAt]
    have ht' : stageAt k t = .home := by simp [stageAt, ht]
    unfold inv pairs
    rw [Ring.AtW_focus2 (pair c arg1 arg8 arg13 q W) (stageAt k) hne, hk', ht', hst]
    iintro ⟨%A, %hA, ⟨HK, HT, HR⟩, H7, H9, H10, H11, %ws, HO⟩
    simp only [pair]
    unfold flying home
    icases HK with ⟨⟨%G0, HA⟩, ⟨%G1, HB⟩⟩
    icases HT with ⟨HS, HU⟩
    iapply ((tripFed c k arg0 harg0 arg1 harg1 arg2 harg2 arg3 harg3 arg4 harg4 arg5 harg5 arg6 harg6 arg7 harg7 arg8 harg8 arg9 harg9 arg10 harg10 arg11 harg11 arg12 arg13 0#32 q W WS L X A (landed c arg1 arg8 (k0_off2 k 0#32) (k0_off2_inb k 0) (k0_off3 k) (k0_off3_inb k) W G0) (landed c arg1 arg8 (k0_off2 k 1#32) (k0_off2_inb k 1) (k0_off64 k) (k0_off64_inb k) W G1) hk1 hk2).2 ws)
    isplitl [HA]; · iexact HA
    isplitl [HB]; · iexact HB
    isplitl [HS]; · iapply (src_congr c arg1 arg8 arg13 q W (off63_next k t ht).symm (k0_off3_inb t) (k0_off63_inb k hk1)); iexact HS
    isplitl [HU]; · iapply (src_congr c arg1 arg8 arg13 q W (off111_next k t ht).symm (k0_off64_inb t) (k0_off111_inb k hk2)); iexact HU
    isplitl [H7]; · iexact H7
    isplitl [H9]; · iexact H9
    isplitl [H10]; · iexact H10
    isplitl [H11]; · iexact H11
    isplitl [HO]; · iexact HO
    iintro ⟨HA, HB, HS, HU, H7, H9, H10, H11, HO⟩
    iexists _
    isplitr [HA HB HS HU HR H7 H9 H10 H11 HO]
    · ipureintro; exact keep.fed k A G0 G1 hk1 hk2 hA
    isplitl [HA HB HS HU HR]
    · iapply (Ring.AtW_update2 (pair c arg1 arg8 arg13 q W) (stageAt k) hne .home .flying)
      simp only [pair]
      unfold flying home
      isplitl [HS HU]
      · isplitl [HS]; · iexact HS
        iexact HU
      isplitr [HR]
      · isplitl [HA]
        · iexists _
          iapply (fly_congr c arg1 arg8 arg13 q W (off1_again k t ht 0) (off2_again k t ht 0) (off63_next k t ht) _ _ _ _ (k0_off63_inb k hk1) _ _)
          iexact HA
        · iexists _
          iapply (fly_congr c arg1 arg8 arg13 q W (off1_again k t ht 1) (off2_again k t ht 1) (off111_next k t ht) _ _ _ _ (k0_off111_inb k hk2) _ _)
          iexact HB
      · iexact HR
    isplitl [H7]; · iexact H7
    isplitl [H9]; · iexact H9
    isplitl [H10]; · iexact H10
    isplitl [H11]; · iexact H11
    iexact HO
  · have hk1 := mt (cond1_iff k).1 hk
    have hk2 := mt (cond2_iff k).1 hk
    have hst : stageAt (k + 1) = Function.update (stageAt k) k .freed := by
      have := k.isLt
      have e : k0_t1_loop.trips = 16 := rfl
      funext s; simp only [Function.update_apply, stageAt, Fin.ext_iff]
      have := s.isLt
      split_ifs <;> first | rfl | omega
    have hk' : stageAt k k = .flying := by simp [stageAt]
    unfold inv pairs
    rw [Ring.AtW_focus (σ := fun _ => Stage) (pair c arg1 arg8 arg13 q W) (stageAt k) k, hk', hst]
    iintro ⟨%A, %hA, ⟨HK, HR⟩, H7, H9, H10, H11, %ws, HO⟩
    simp only [pair]
    unfold flying
    icases HK with ⟨⟨%G0, HA⟩, ⟨%G1, HB⟩⟩
    iapply ((tripDry c k arg0 harg0 arg1 harg1 arg2 harg2 arg3 harg3 arg4 harg4 arg5 harg5 arg6 harg6 arg7 harg7 arg8 harg8 arg9 harg9 arg10 harg10 arg11 harg11 arg12 arg13 0#32 q W WS L X A (landed c arg1 arg8 (k0_off2 k 0#32) (k0_off2_inb k 0) (k0_off3 k) (k0_off3_inb k) W G0) (landed c arg1 arg8 (k0_off2 k 1#32) (k0_off2_inb k 1) (k0_off64 k) (k0_off64_inb k) W G1) hk1 hk2).2 ws)
    isplitl [HA]; · iexact HA
    isplitl [HB]; · iexact HB
    isplitl [H7]; · iexact H7
    isplitl [H9]; · iexact H9
    isplitl [H10]; · iexact H10
    isplitl [H11]; · iexact H11
    isplitl [HO]; · iexact HO
    iintro ⟨HA, HAs, HB, HBs, HS, HU, H7, H9, H10, H11, HO⟩
    iexists _
    isplitr [HA HAs HB HBs HS HU HR H7 H9 H10 H11 HO]
    · ipureintro; exact keep.dry k A G0 G1 hk1 hk2 hA
    isplitl [HA HAs HB HBs HS HU HR]
    · iapply (Ring.AtW_update (σ := fun _ => Stage) (pair c arg1 arg8 arg13 q W) (stageAt k) k .freed)
      simp only [pair]
      isplitr [HR]
      · unfold slots home
        isplitl [HS HU]
        · isplitl [HS]; · iexact HS
          iexact HU
        isplitl [HA]; · iexact HA
        isplitl [HAs]; · iexists _; iexact HAs
        isplitl [HB]; · iexact HB
        iexists _; iexact HBs
      · iexact HR
    isplitl [H7]; · iexact H7
    isplitl [H9]; · iexact H9
    isplitl [H10]; · iexact H10
    isplitl [H11]; · iexact H11
    iexact HO

/-- The loop and the rounding of its sums. -/
theorem rest_run (c : Dev nD) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16) (q : PosShare TreeShare) (W : Buf (Elt F) (arg1.view.loc (c : Thread nD τ)))
    (WS : Buf (Elt F) (arg7.view.loc (c : Thread nD τ)))
    (L : Buf (Elt F) (arg9.view.loc (c : Thread nD τ)))
    (X : Buf (Elt F) (arg10.view.loc (c : Thread nD τ)))
    (Good : ℕ → Buf (Elt F) (arg11.view.loc (c : Thread nD τ)) → Prop) (keep : Keeps c arg0 harg0 arg1 harg1 arg2 harg2 arg3 harg3 arg4 harg4 arg5 harg5 arg6 harg6 arg7 harg7 arg8 harg8 arg9 harg9 arg10 harg10 arg11 harg11 arg12 arg13 q W WS L X Good)
    (A : Buf (Elt F) (arg11.view.loc (c : Thread nD τ))) (hA : Good 0 A)
    (Y : Buf (Elt F) (arg3.view.loc (c : Thread nD τ))) (ws : Waits sig Unit) (Q : PUnit → sProp 𝕄) :
    iprop(pairs c arg1 arg8 arg13 q W (stageAt 0) ∗ (arg3.view.loc (c : Thread nD τ) ↦{fullShare} Y)
        ∗ (arg7.view.loc (c : Thread nD τ) ↦{fullShare} WS) ∗ (arg9.view.loc (c : Thread nD τ) ↦{fullShare} L)
        ∗ (arg10.view.loc (c : Thread nD τ) ↦{fullShare} X) ∗ (arg11.view.loc (c : Thread nD τ) ↦{fullShare} A)
        ∗ owes (c : Thread nD τ) 0 ws
        ∗ (iprop(∃ A : Buf (Elt F) (arg11.view.loc (c : Thread nD τ)), ⌜Good 16 A⌝ ∗ pairs c arg1 arg8 arg13 q W (stageAt 16)
            ∗ (arg3.view.loc (c : Thread nD τ) ↦{fullShare} arg3.view.writes (Elt F) Y
                [⟨Rect.unit (s := S8x11264) ![0, 0] S8x11264.size inb_S8x11264_S8x11264_0_0,
                  k0_pay1 (arg11.view.readAt (Elt F) (Rect.unit (s := S8x11264) ![0, 0] S8x11264.size inb_S8x11264_S8x11264_0_0).toLoadRect A)⟩])
            ∗ (arg7.view.loc (c : Thread nD τ) ↦{fullShare} WS) ∗ (arg9.view.loc (c : Thread nD τ) ↦{fullShare} L)
            ∗ (arg10.view.loc (c : Thread nD τ) ↦{fullShare} X) ∗ (arg11.view.loc (c : Thread nD τ) ↦{fullShare} A)
            ∗ ∃ ws, owes (c : Thread nD τ) 0 ws) -∗ Q ⟨⟩))
      ⊢ wp frame (wpE (defs₀ (F := F)) Variants.none (c : Thread nD τ) none) Set.univ (rest arg0 harg0 arg1 harg1 arg2 harg2 arg3 harg3 arg4 harg4 arg5 harg5 arg6 harg6 arg7 harg7 arg8 harg8 arg9 harg9 arg10 harg10 arg11 harg11 arg12 arg13) Q := by
  unfold rest
  iintro ⟨HP, H3, H7, H9, H10, H11, HO, Hk⟩
  sl_for (inv c arg0 harg0 arg1 harg1 arg2 harg2 arg3 harg3 arg4 harg4 arg5 harg5 arg6 harg6 arg7 harg7 arg8 harg8 arg9 harg9 arg10 harg10 arg11 harg11 arg12 arg13 q W WS L X Good) $$ [HP H7 H9 H10 H11 HO]
  case region =>
    intro k a
    unfold rest_run.sl.prog.body_1
    iintro HI
    iapply (trip c arg0 harg0 arg1 harg1 arg2 harg2 arg3 harg3 arg4 harg4 arg5 harg5 arg6 harg6 arg7 harg7 arg8 harg8 arg9 harg9 arg10 harg10 arg11 harg11 arg12 arg13 q W WS L X Good keep k a)
    iexact HI
  · unfold inv
    iexists A
    isplitr [HP H7 H9 H10 H11 HO]
    · ipureintro; exact hA
    isplitl [HP]; · iexact HP
    isplitl [H7]; · iexact H7
    isplitl [H9]; · iexact H9
    isplitl [H10]; · iexact H10
    isplitl [H11]; · iexact H11
    iexists ws; iexact HO
  iintro %a HI
  have e : Scf.trips k0_t1_loop.lb k0_t1_loop.ub k0_t1_loop.st = 16 := by decide
  unfold inv
  icases HI with ⟨%B, %hB, HP, H7, H9, H10, H11, %ws', HO⟩
  replace hB : Good 16 B := by rw [e] at hB; exact hB
  rw [e]
  sl_exec
  sl_step
  iapply Hk
  iexists B
  isplitr [HP H3 H7 H9 H10 H11 HO]
  · ipureintro; exact hB
  isplitl [HP]; · iexact HP
  isplitl [H3]; · iexact H3
  isplitl [H7]; · iexact H7
  isplitl [H9]; · iexact H9
  isplitl [H10]; · iexact H10
  isplitl [H11]; · iexact H11
  iexists _; iexact HO

end Cert.Kernel.Hand
end
-- ==== Proof.BitsWhole.lean ====
module

public import proofs.«01_k».proof.Proof.Gen.Kernel.Skeleton
public import proofs.«01_k».proof.Proof.Gen.Kernel.Loops
public import Idealize.ShloMosaic.Lib.Tactic
public import proofs.«01_k».proof.Proof.BitsLoop
public import Idealize.ShloMosaic.Lib.Ring
public import Idealize.ShloMosaic.Lib.Ring.Pair
public import Idealize.ShloMosaic.Lib.Ring.FamCut
public import Idealize.ShloMosaic.Lib.ViewIndex
public import Idealize.ShloMosaic.Lib.Exec.Geometry
public import Idealize.ShloMosaic.Lib.Pipeline.FrameBody

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The weight and the ring of slots, whole and in pieces -/

theorem off3_eq : ∀ t : Fin k0_t1_loop.trips, k0_off3 t = ![512 * t.val, 0] := by decide +kernel
theorem off64_eq : ∀ t : Fin k0_t1_loop.trips, k0_off64 t = ![512 * t.val, 5632] := by decide +kernel
theorem off2_eq0 : ∀ t : Fin k0_t1_loop.trips, k0_off2 t 0#32 = ![(2 * t.val) % 16, 0, 0] := by decide +kernel
theorem off2_eq1 : ∀ t : Fin k0_t1_loop.trips, k0_off2 t 1#32 = ![(2 * t.val + 1) % 16, 0, 0] := by decide +kernel

theorem disjoint_pairs {α : Type} {inst : DecidableEq α} {A B C D : Finset α} (h1 : Disjoint A C) (h2 : Disjoint A D) (h3 : Disjoint B C) (h4 : Disjoint B D) :
    Disjoint (A ∪ B) (C ∪ D) :=
  Finset.disjoint_union_left.mpr ⟨Finset.disjoint_union_right.mpr ⟨h1, h2⟩, Finset.disjoint_union_right.mpr ⟨h3, h4⟩⟩

/-- Blocks of the weight apart on one axis share no element. -/
theorem src_apart (arg1 : Memref sig .tc .hbm S8192x11264 .fp8e4m3) {r r' : Fin 2 → ℕ} (hr : ∀ a, r a + S512x5632.size a ≤ S8192x11264.size a)
    (hr' : ∀ a, r' a + S512x5632.size a ≤ S8192x11264.size a) (a : Fin 2)
    (h : r a + S512x5632.size a ≤ r' a ∨ r' a + S512x5632.size a ≤ r a) :
    Disjoint (srcM arg1 r hr).view.set (srcM arg1 r' hr').view.set :=
  View.disjoint_slice (Rect.unit_disjoint a h)

/-- Slots apart on the leading axis share no element. -/
theorem slot_apart (arg8 : Memref sig .tc .vmem S16x512x5632 .fp8e4m3) {p p' : Fin 3 → ℕ} (hp : ∀ a, p a + S1x512x5632.size a ≤ S16x512x5632.size a)
    (hp' : ∀ a, p' a + S1x512x5632.size a ≤ S16x512x5632.size a) (h : p 0 + 1 ≤ p' 0 ∨ p' 0 + 1 ≤ p 0) :
    Disjoint (slotM arg8 p hp).view.set (slotM arg8 p' hp').view.set := by
  rw [show (slotM arg8 p hp).view.set = _ from Memref.set_view_squeeze _ _, show (slotM arg8 p' hp').view.set = _ from Memref.set_view_squeeze _ _]
  exact View.disjoint_slice (Rect.unit_disjoint (0 : Fin 3) h)

/-- The elements of one block of the weight, and of one slot. -/
abbrev srcSet (c : Dev nD) (arg1 : Memref sig .tc .hbm S8192x11264 .fp8e4m3) (r : Fin 2 → ℕ) (hr : ∀ a, r a + S512x5632.size a ≤ S8192x11264.size a) :
    Finset (Idx (arg1.view.loc (c : Thread nD τ))) := (srcM arg1 r hr).view.set
abbrev winSet (c : Dev nD) (arg8 : Memref sig .tc .vmem S16x512x5632 .fp8e4m3) (p : Fin 3 → ℕ) (hp : ∀ a, p a + S1x512x5632.size a ≤ S16x512x5632.size a) :
    Finset (Idx (arg8.view.loc (c : Thread nD τ))) := (slotM arg8 p hp).view.set

/-- The elements of the weight that trip `t` uses. -/
abbrev homeSet (c : Dev nD) (arg1 : Memref sig .tc .hbm S8192x11264 .fp8e4m3) (t : Fin k0_t1_loop.trips) : Finset (Idx (arg1.view.loc (c : Thread nD τ))) :=
  srcSet c arg1 (k0_off3 t) (k0_off3_inb t) ∪ srcSet c arg1 (k0_off64 t) (k0_off64_inb t)

theorem home_halves (arg1 : Memref sig .tc .hbm S8192x11264 .fp8e4m3) (t : Fin k0_t1_loop.trips) :
    Disjoint (srcM arg1 (k0_off3 t) (k0_off3_inb t)).view.set (srcM arg1 (k0_off64 t) (k0_off64_inb t)).view.set :=
  src_apart arg1 _ _ 1 (.inl ((by decide +kernel : ∀ t : Fin k0_t1_loop.trips, k0_off3 t 1 + S512x5632.size 1 ≤ k0_off64 t 1) t))

theorem homeSet_apart (c : Dev nD) (arg1 : Memref sig .tc .hbm S8192x11264 .fp8e4m3) (t t' : Fin k0_t1_loop.trips) (h : t ≠ t') :
    Disjoint (homeSet c arg1 t) (homeSet c arg1 t') := by
  have hv : 512 * t.val + 512 ≤ 512 * t'.val ∨ 512 * t'.val + 512 ≤ 512 * t.val := by
    have : t.val ≠ t'.val := fun e => h (Fin.ext e)
    omega
  have e3 : ∀ t : Fin k0_t1_loop.trips, k0_off3 t 0 = 512 * t.val := by decide +kernel
  have e64 : ∀ t : Fin k0_t1_loop.trips, k0_off64 t 0 = 512 * t.val := by decide +kernel
  have e : S512x5632.size 0 = 512 := rfl
  exact disjoint_pairs (src_apart arg1 _ _ 0 (by rw [e3, e3, e]; exact hv)) (src_apart arg1 _ _ 0 (by rw [e3, e64, e]; exact hv))
    (src_apart arg1 _ _ 0 (by rw [e64, e3, e]; exact hv)) (src_apart arg1 _ _ 0 (by rw [e64, e64, e]; exact hv))

/-- The weight is the sixteen trips' blocks and what they leave of it. -/
theorem weight_split (c : Dev nD) (arg1 : Memref sig .tc .hbm S8192x11264 .fp8e4m3) (q : PosShare TreeShare) (W : Buf (Elt F) (arg1.view.loc (c : Thread nD τ))) :
    ((arg1.view.loc (c : Thread nD τ) ↦{q} W : sProp 𝕄))
      ⊢ iprop(bigSep Finset.univ (fun t => home c arg1 q W t) ∗ (arg1.view.loc (c : Thread nD τ) ↦[Ring.restOf (homeSet c arg1)]{q} W)) := by
  refine (Ring.fam_split (homeSet c arg1) (homeSet_apart c arg1) W).trans (sep_mono (bigSep_mono fun t _ => ?_) .rfl)
  exact (pointsTo_union (home_halves arg1 t)).1

theorem weight_join (c : Dev nD) (arg1 : Memref sig .tc .hbm S8192x11264 .fp8e4m3) (q : PosShare TreeShare) (W : Buf (Elt F) (arg1.view.loc (c : Thread nD τ))) :
    iprop(bigSep Finset.univ (fun t => home c arg1 q W t) ∗ (arg1.view.loc (c : Thread nD τ) ↦[Ring.restOf (homeSet c arg1)]{q} W))
      ⊢ ((arg1.view.loc (c : Thread nD τ) ↦{q} W : sProp 𝕄)) := by
  have h : (bigSep Finset.univ (fun t => home c arg1 q W t) : sProp 𝕄) ⊢ bigSep Finset.univ (fun t => (arg1.view.loc (c : Thread nD τ) ↦[homeSet c arg1 t]{q} W : sProp 𝕄)) :=
    bigSep_mono fun t _ => (pointsTo_union (home_halves arg1 t)).2
  refine (sep_mono h .rfl).trans ?_
  rw [← pointsTo_biUnion Finset.univ (homeSet c arg1) (fun b _ b' _ h => homeSet_apart c arg1 b b' h)]
  exact (pointsTo_split_subset (Finset.subset_univ _)).2

abbrev tr8 (n : Fin 8) : Fin k0_t1_loop.trips := ⟨n.val, by have := n.isLt; show n.val < 16; omega⟩

/-- The ring's elements in the two slots of the trips `n` and `n + 8`. -/
abbrev slotSet (c : Dev nD) (arg8 : Memref sig .tc .vmem S16x512x5632 .fp8e4m3) (n : Fin 8) : Finset (Idx (arg8.view.loc (c : Thread nD τ))) :=
  winSet c arg8 (k0_off2 (tr8 n) 0#32) (k0_off2_inb _ 0) ∪ winSet c arg8 (k0_off2 (tr8 n) 1#32) (k0_off2_inb _ 1)

theorem slot_halves (arg8 : Memref sig .tc .vmem S16x512x5632 .fp8e4m3) (n : Fin 8) :
    Disjoint (slotM arg8 (k0_off2 (tr8 n) 0#32) (k0_off2_inb _ 0)).view.set (slotM arg8 (k0_off2 (tr8 n) 1#32) (k0_off2_inb _ 1)).view.set :=
  slot_apart arg8 _ _ (.inl ((by decide +kernel : ∀ n : Fin 8, k0_off2 (tr8 n) 0#32 0 + 1 ≤ k0_off2 (tr8 n) 1#32 0) n))

theorem slotSet_apart (c : Dev nD) (arg8 : Memref sig .tc .vmem S16x512x5632 .fp8e4m3) (n n' : Fin 8) (h : n ≠ n') :
    Disjoint (slotSet c arg8 n) (slotSet c arg8 n') := by
  have hv : ∀ n n' : Fin 8, n ≠ n' → ∀ p p' : Fin 2, k0_off2 (tr8 n) (BitVec.ofNat 32 p.val) 0 + 1 ≤ k0_off2 (tr8 n') (BitVec.ofNat 32 p'.val) 0
      ∨ k0_off2 (tr8 n') (BitVec.ofNat 32 p'.val) 0 + 1 ≤ k0_off2 (tr8 n) (BitVec.ofNat 32 p.val) 0 := by decide +kernel
  exact disjoint_pairs (slot_apart arg8 _ _ (hv n n' h 0 0)) (slot_apart arg8 _ _ (hv n n' h 0 1))
    (slot_apart arg8 _ _ (hv n n' h 1 0)) (slot_apart arg8 _ _ (hv n n' h 1 1))

/-- The two slots of a trip, each holding anything. -/
abbrev windows (c : Dev nD) (arg8 : Memref sig .tc .vmem S16x512x5632 .fp8e4m3) (t : Fin k0_t1_loop.trips) : sProp 𝕄 :=
  iprop((∃ G : Buf (Elt F) (arg8.view.loc (c : Thread nD τ)), (slotM arg8 (k0_off2 t 0#32) (k0_off2_inb t 0)).view.loc (c : Thread nD τ) ↦[(slotM arg8 (k0_off2 t 0#32) (k0_off2_inb t 0)).view.set]{fullShare} G)
    ∗ (∃ G : Buf (Elt F) (arg8.view.loc (c : Thread nD τ)), (slotM arg8 (k0_off2 t 1#32) (k0_off2_inb t 1)).view.loc (c : Thread nD τ) ↦[(slotM arg8 (k0_off2 t 1#32) (k0_off2_inb t 1)).view.set]{fullShare} G))

theorem windows_of (c : Dev nD) (arg8 : Memref sig .tc .vmem S16x512x5632 .fp8e4m3) (n : Fin 8) :
    (iprop(∃ G : Buf (Elt F) (arg8.view.loc (c : Thread nD τ)), arg8.view.loc (c : Thread nD τ) ↦[slotSet c arg8 n]{fullShare} G) : sProp 𝕄)
      ⊢ windows (F := F) c arg8 (tr8 n) := by
  iintro ⟨%G, H⟩
  ihave H := (pointsTo_union (slot_halves arg8 n)).1 $$ H
  icases H with ⟨H0, H1⟩
  isplitl [H0]
  · iexists G; iexact H0
  · iexists G; iexact H1

theorem of_windows (c : Dev nD) (arg8 : Memref sig .tc .vmem S16x512x5632 .fp8e4m3) (n : Fin 8) :
    windows (F := F) c arg8 (tr8 n) ⊢
    (iprop(∃ G : Buf (Elt F) (arg8.view.loc (c : Thread nD τ)), arg8.view.loc (c : Thread nD τ) ↦[slotSet c arg8 n]{fullShare} G) : sProp 𝕄) := by
  iintro ⟨⟨%G0, H0⟩, ⟨%G1, H1⟩⟩
  ihave H := (pointsTo_join (ℓ := arg8.view.loc (c : Thread nD τ)) (slot_halves arg8 n)) $$ [H0 H1]
  · isplitl [H0]
    · iexact H0
    · iexact H1
  iexists _; iexact H

theorem ring_split (c : Dev nD) (arg8 : Memref sig .tc .vmem S16x512x5632 .fp8e4m3) :
    (iprop(∃ G : Buf (Elt F) (arg8.view.loc (c : Thread nD τ)), arg8.view.loc (c : Thread nD τ) ↦{fullShare} G) : sProp 𝕄)
      ⊢ iprop(bigSep Finset.univ (fun n : Fin 8 => windows (F := F) c arg8 (tr8 n))
          ∗ ∃ G : Buf (Elt F) (arg8.view.loc (c : Thread nD τ)), arg8.view.loc (c : Thread nD τ) ↦[Ring.restOf (slotSet c arg8)]{fullShare} G) :=
  (Ring.fam_split_ex (slotSet c arg8) (slotSet_apart c arg8)).trans (sep_mono (bigSep_mono fun n _ => windows_of c arg8 n) .rfl)

theorem ring_join (c : Dev nD) (arg8 : Memref sig .tc .vmem S16x512x5632 .fp8e4m3) :
    iprop(bigSep Finset.univ (fun n : Fin 8 => windows (F := F) c arg8 (tr8 n))
          ∗ ∃ G : Buf (Elt F) (arg8.view.loc (c : Thread nD τ)), arg8.view.loc (c : Thread nD τ) ↦[Ring.restOf (slotSet c arg8)]{fullShare} G)
      ⊢ (iprop(∃ G : Buf (Elt F) (arg8.view.loc (c : Thread nD τ)), arg8.view.loc (c : Thread nD τ) ↦{fullShare} G) : sProp 𝕄) :=
  (sep_mono (bigSep_mono fun n _ => of_windows c arg8 n) .rfl).trans
    (Ring.fam_join (slotSet c arg8) (slotSet_apart c arg8) (arg8.view.junk : Buf (Elt F) (arg8.view.loc (c : Thread nD τ))))

/-- A trip's slots are those of the trip eight later. -/
theorem cell_congr (c : Dev nD) (arg13 : DmaSems sig S16) {o o' : Fin 1 → ℕ} (e : o = o')
    (ho : ∀ a, o a + S1.size a ≤ S16.size a) (ho' : ∀ a, o' a + S1.size a ≤ S16.size a) :
    (semVal ((c : Thread nD τ), cellM arg13 o ho) 0 : sProp 𝕄) ⊢ semVal ((c : Thread nD τ), cellM arg13 o' ho') 0 := by
  subst e; exact Laws.entails_refl _

theorem window_congr (c : Dev nD) (arg8 : Memref sig .tc .vmem S16x512x5632 .fp8e4m3) {p p' : Fin 3 → ℕ} (e : p = p')
    (hp : ∀ a, p a + S1x512x5632.size a ≤ S16x512x5632.size a) (hp' : ∀ a, p' a + S1x512x5632.size a ≤ S16x512x5632.size a) :
    (iprop(∃ G : Buf (Elt F) (arg8.view.loc (c : Thread nD τ)), (slotM arg8 p hp).view.loc (c : Thread nD τ) ↦[(slotM arg8 p hp).view.set]{fullShare} G) : sProp 𝕄)
      ⊢ iprop(∃ G : Buf (Elt F) (arg8.view.loc (c : Thread nD τ)), (slotM arg8 p' hp').view.loc (c : Thread nD τ) ↦[(slotM arg8 p' hp').view.set]{fullShare} G) := by
  subst e; exact Laws.entails_refl _

theorem slots_again (c : Dev nD) (arg8 : Memref sig .tc .vmem S16x512x5632 .fp8e4m3) (arg13 : DmaSems sig S16) (k t : Fin k0_t1_loop.trips) (h : t.val = k.val + 8) :
    (slots c arg8 arg13 t : sProp 𝕄) ⊢ slots c arg8 arg13 k := by
  unfold slots
  iintro ⟨H0, H1, H2, H3⟩
  isplitl [H0]; · iapply (cell_congr c arg13 (off1_again k t h 0).symm (k0_off1_inb t 0) (k0_off1_inb k 0)); iexact H0
  isplitl [H1]; · iapply (window_congr c arg8 (off2_again k t h 0).symm (k0_off2_inb t 0) (k0_off2_inb k 0)); iexact H1
  isplitl [H2]; · iapply (cell_congr c arg13 (off1_again k t h 1).symm (k0_off1_inb t 1) (k0_off1_inb k 1)); iexact H2
  iapply (window_congr c arg8 (off2_again k t h 1).symm (k0_off2_inb t 1) (k0_off2_inb k 1)); iexact H3

/-- The sixteen trips one by one. -/
theorem trips_list (Φ : Fin k0_t1_loop.trips → sProp 𝕄) : bigSep Finset.univ Φ
    = bigSepL [tr 0, tr 1, tr 2, tr 3, tr 4, tr 5, tr 6, tr 7, tr 8, tr 9, tr 10, tr 11, tr 12, tr 13, tr 14, tr 15] Φ :=
  bigSep_univ_eq_bigSepL _ (by decide +kernel) (by decide +kernel) Φ

end Cert.Kernel.Hand
end
-- ==== Proof.BitsRun.lean ====
module

public import proofs.«01_k».proof.Proof.Gen.Kernel.Skeleton
public import proofs.«01_k».proof.Proof.Gen.Kernel.Loops
public import Idealize.ShloMosaic.Lib.Tactic
public import proofs.«01_k».proof.Proof.BitsWhole
public import Idealize.ShloMosaic.Lib.Ring
public import Idealize.ShloMosaic.Lib.Ring.Pair
public import Idealize.ShloMosaic.Lib.Ring.FamCut
public import Idealize.ShloMosaic.Lib.ViewIndex
public import Idealize.ShloMosaic.Lib.Exec.Geometry
public import Idealize.ShloMosaic.Lib.Pipeline.FrameBody

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The whole body -/

theorem eight_list (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem sixteen_list (Φ : Fin k0_t1_loop.trips → sProp 𝕄) : bigSep Finset.univ Φ = iprop(Φ (tr 0) ∗ Φ (tr 1) ∗ Φ (tr 2) ∗ Φ (tr 3) ∗ Φ (tr 4) ∗ Φ (tr 5) ∗ Φ (tr 6) ∗ Φ (tr 7) ∗ Φ (tr 8) ∗ Φ (tr 9) ∗ Φ (tr 10) ∗ Φ (tr 11) ∗ Φ (tr 12) ∗ Φ (tr 13) ∗ Φ (tr 14) ∗ Φ (tr 15)) :=
  trips_list Φ

/-- The two cells of a trip's slots, at zero. -/
abbrev cells (c : Dev nD) (arg13 : DmaSems sig S16) (t : Fin k0_t1_loop.trips) : sProp 𝕄 :=
  iprop(semVal ((c : Thread nD τ), cellM arg13 (k0_off1 t 0#32) (k0_off1_inb t 0)) 0 ∗ semVal ((c : Thread nD τ), cellM arg13 (k0_off1 t 1#32) (k0_off1_inb t 1)) 0)

theorem lt8 {n : ℕ} (h : decide (n < 8) = true) : n < 8 := of_decide_eq_true h
theorem lt16 {n : ℕ} (h : decide (n < 8) = true) : n < 16 := (lt8 h).trans (by decide)
theorem lt16' {n : ℕ} (h : decide (n < 8) = true) : n + 8 < 16 := Nat.add_lt_add_right (lt8 h) 8

/-- Before the loop the first eight trips' blocks are on their way, the last eight's home. -/
theorem pair_of_flying (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ))) (n : ℕ) (h : decide (n < 8) = true) :
    flying c arg1 arg8 arg13 q W (tr n (lt16 h)) ⊢ pair c arg1 arg8 arg13 q W (tr n (lt16 h)) (stageAt 0 (tr n (lt16 h))) := by
  have e : stageAt 0 (tr n (lt16 h)) = .flying := by have := lt8 h; unfold stageAt; rw [if_neg (by simp), if_pos (by simpa using this)]
  rw [e]; exact Laws.entails_refl _

theorem pair_of_home (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ))) (n : ℕ) (h : decide (n < 8) = true) :
    home c arg1 q W (tr (n + 8) (lt16' h)) ⊢ pair c arg1 arg8 arg13 q W (tr (n + 8) (lt16' h)) (stageAt 0 (tr (n + 8) (lt16' h))) := by
  have e : stageAt 0 (tr (n + 8) (lt16' h)) = .home := by unfold stageAt; rw [if_neg (by simp), if_neg (by simp)]
  rw [e]; exact Laws.entails_refl _

/-- After the loop the first eight trips' blocks are home, and the last eight's with their slots free. -/
theorem home_of_first (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ))) (n : ℕ) (h : decide (n < 8) = true) :
    pair c arg1 arg8 arg13 q W (tr n (lt16 h)) (stageAt 16 (tr n (lt16 h))) ⊢ home c arg1 q W (tr n (lt16 h)) := by
  have e : stageAt 16 (tr n (lt16 h)) = .home := by have := lt8 h; unfold stageAt; rw [if_pos (lt16 h), if_pos this]
  rw [e]; exact Laws.entails_refl _

theorem freed_of_last (c : Dev nD) (arg1 : Memref sig .tc .hbm S8192x11264 .fp8e4m3) (arg8 : Memref sig .tc .vmem S16x512x5632 .fp8e4m3) (arg13 : DmaSems sig S16)
    (q : PosShare TreeShare) (W : Buf (Elt F) (arg1.view.loc (c : Thread nD τ))) (n : ℕ) (h : decide (n < 8) = true) :
    pair c arg1 arg8 arg13 q W (tr (n + 8) (lt16' h)) (stageAt 16 (tr (n + 8) (lt16' h))) ⊢ iprop(home c arg1 q W (tr (n + 8) (lt16' h))
      ∗ semVal ((c : Thread nD τ), cellM arg13 (k0_off1 (tr n (lt16 h)) 0#32) (k0_off1_inb (tr n (lt16 h)) 0)) 0
      ∗ (∃ G : Buf (Elt F) (arg8.view.loc (c : Thread nD τ)), (slotM arg8 (k0_off2 (tr n (lt16 h)) 0#32) (k0_off2_inb (tr n (lt16 h)) 0)).view.loc (c : Thread nD τ) ↦[(slotM arg8 (k0_off2 (tr n (lt16 h)) 0#32) (k0_off2_inb (tr n (lt16 h)) 0)).view.set]{fullShare} G)
      ∗ semVal ((c : Thread nD τ), cellM arg13 (k0_off1 (tr n (lt16 h)) 1#32) (k0_off1_inb (tr n (lt16 h)) 1)) 0
      ∗ (∃ G : Buf (Elt F) (arg8.view.loc (c : Thread nD τ)), (slotM arg8 (k0_off2 (tr n (lt16 h)) 1#32) (k0_off2_inb (tr n (lt16 h)) 1)).view.loc (c : Thread nD τ) ↦[(slotM arg8 (k0_off2 (tr n (lt16 h)) 1#32) (k0_off2_inb (tr n (lt16 h)) 1)).view.set]{fullShare} G)) := by
  have e : stageAt 16 (tr (n + 8) (lt16' h)) = .freed := by unfold stageAt; rw [if_pos (lt16' h), if_neg (by simp)]
  rw [e]
  simp only [pair]
  iintro ⟨H, HS⟩
  isplitl [H]; · iexact H
  ihave HS := (slots_again c arg8 arg13 (tr n (lt16 h)) (tr (n + 8) (lt16' h)) rfl) $$ HS
  unfold slots
  iexact HS

/-- The kernel's body: from its operands, its scratch and its cells at zero back to them, the results written. -/
theorem body_run (c : Dev nD) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16)
    (q q0 q2 : PosShare TreeShare) (W : Buf (Elt F) (arg1.view.loc (c : Thread nD τ))) (X0 : Buf (Elt F) (arg0.view.loc (c : Thread nD τ))) (S0 : Buf (Elt F) (arg2.view.loc (c : Thread nD τ)))
    (XB : Buf (Elt F) (arg6.view.loc (c : Thread nD τ))) (WS : Buf (Elt F) (arg7.view.loc (c : Thread nD τ)))
    (Good : ℕ → Buf (Elt F) (arg11.view.loc (c : Thread nD τ)) → Prop)
    (keep : Keeps c arg0 harg0 arg1 harg1 arg2 harg2 arg3 harg3 arg4 harg4 arg5 harg5 arg6 harg6 arg7 harg7 arg8 harg8 arg9 harg9 arg10 harg10 arg11 harg11 arg12 arg13 q W (wsIn c arg2 arg7 S0 WS) (arg9.view.writes (Elt F) arg9.view.junk (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.2.2.1) (arg10.view.writes (Elt F) arg10.view.junk (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.2.2.2.1) Good)
    (hA : Good 0 (arg11.view.writes (Elt F) arg11.view.junk (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.2.2.2.2))
    (Y : Buf (Elt F) (arg3.view.loc (c : Thread nD τ))) (C : Buf (Elt F) (arg4.view.loc (c : Thread nD τ))) (S : Buf (Elt F) (arg5.view.loc (c : Thread nD τ))) (L : Buf (Elt F) (arg9.view.loc (c : Thread nD τ))) (X : Buf (Elt F) (arg10.view.loc (c : Thread nD τ))) (A : Buf (Elt F) (arg11.view.loc (c : Thread nD τ)))
    (ws : Waits sig Unit) (Q : PUnit → sProp 𝕄) :
    iprop((arg0.view.loc (c : Thread nD τ) ↦{q0} X0) ∗ (arg1.view.loc (c : Thread nD τ) ↦{q} W) ∗ (arg2.view.loc (c : Thread nD τ) ↦{q2} S0)
        ∗ (arg3.view.loc (c : Thread nD τ) ↦{fullShare} Y) ∗ (arg4.view.loc (c : Thread nD τ) ↦{fullShare} C) ∗ (arg5.view.loc (c : Thread nD τ) ↦{fullShare} S) ∗ (arg6.view.loc (c : Thread nD τ) ↦{fullShare} XB) ∗ (arg7.view.loc (c : Thread nD τ) ↦{fullShare} WS)
        ∗ (∃ G : Buf (Elt F) (arg8.view.loc (c : Thread nD τ)), (arg8.view.loc (c : Thread nD τ) ↦{fullShare} G)) ∗ (arg9.view.loc (c : Thread nD τ) ↦{fullShare} L) ∗ (arg10.view.loc (c : Thread nD τ) ↦{fullShare} X) ∗ (arg11.view.loc (c : Thread nD τ) ↦{fullShare} A)
        ∗ semVal ((c : Thread nD τ), cellS arg12 ![0] inb_S2_S1_0) 0 ∗ semVal ((c : Thread nD τ), cellS arg12 ![1] inb_S2_S1_1) 0
        ∗ cells c arg13 (tr 0) ∗ cells c arg13 (tr 1) ∗ cells c arg13 (tr 2) ∗ cells c arg13 (tr 3) ∗ cells c arg13 (tr 4) ∗ cells c arg13 (tr 5) ∗ cells c arg13 (tr 6) ∗ cells c arg13 (tr 7)
        ∗ owes (c : Thread nD τ) 0 ws
        ∗ (iprop((arg0.view.loc (c : Thread nD τ) ↦{q0} X0) ∗ (arg1.view.loc (c : Thread nD τ) ↦{q} W) ∗ (arg2.view.loc (c : Thread nD τ) ↦{q2} S0)
            ∗ (∃ A : Buf (Elt F) (arg11.view.loc (c : Thread nD τ)), ⌜Good 16 A⌝ ∗ (arg3.view.loc (c : Thread nD τ) ↦{fullShare} arg3.view.writes (Elt F) Y
                [⟨Rect.unit (s := S8x11264) ![0, 0] S8x11264.size inb_S8x11264_S8x11264_0_0,
                  k0_pay1 (arg11.view.readAt (Elt F) (Rect.unit (s := S8x11264) ![0, 0] S8x11264.size inb_S8x11264_S8x11264_0_0).toLoadRect A)⟩]))
            ∗ (arg4.view.loc (c : Thread nD τ) ↦{fullShare} arg4.view.writes (Elt F) arg4.view.junk (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.1) ∗ (arg5.view.loc (c : Thread nD τ) ↦{fullShare} arg5.view.writes (Elt F) arg5.view.junk (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.2.1)
            ∗ (∃ f : Buf (Elt F) (arg6.view.loc (c : Thread nD τ)), (arg6.view.loc (c : Thread nD τ) ↦{fullShare} f)) ∗ (∃ f : Buf (Elt F) (arg7.view.loc (c : Thread nD τ)), (arg7.view.loc (c : Thread nD τ) ↦{fullShare} f))
            ∗ (∃ G : Buf (Elt F) (arg8.view.loc (c : Thread nD τ)), (arg8.view.loc (c : Thread nD τ) ↦{fullShare} G))
            ∗ (∃ f : Buf (Elt F) (arg9.view.loc (c : Thread nD τ)), (arg9.view.loc (c : Thread nD τ) ↦{fullShare} f)) ∗ (∃ f : Buf (Elt F) (arg10.view.loc (c : Thread nD τ)), (arg10.view.loc (c : Thread nD τ) ↦{fullShare} f)) ∗ (∃ f : Buf (Elt F) (arg11.view.loc (c : Thread nD τ)), (arg11.view.loc (c : Thread nD τ) ↦{fullShare} f))
            ∗ semVal ((c : Thread nD τ), cellS arg12 ![0] inb_S2_S1_0) 0 ∗ semVal ((c : Thread nD τ), cellS arg12 ![1] inb_S2_S1_1) 0
            ∗ cells c arg13 (tr 0) ∗ cells c arg13 (tr 1) ∗ cells c arg13 (tr 2) ∗ cells c arg13 (tr 3) ∗ cells c arg13 (tr 4) ∗ cells c arg13 (tr 5) ∗ cells c arg13 (tr 6) ∗ cells c arg13 (tr 7)
            ∗ ∃ ws', owes (c : Thread nD τ) 0 ws') -∗ Q ⟨⟩))
      ⊢ wp frame (wpE (defs₀ (F := F)) Variants.none (c : Thread nD τ) none) Set.univ (cc0_fp8_block_linear arg0 harg0 arg1 harg1 arg2 harg2 arg3 harg3 arg4 harg4 arg5 harg5 arg6 harg6 arg7 harg7 arg8 harg8 arg9 harg9 arg10 harg10 arg11 harg11 arg12 arg13) Q := by
  iintro ⟨H0, H1, H2, H3, H4, H5, H6, H7, H8, H9, H10, H11, Hx, Hs, ⟨Hc0, He0⟩, ⟨Hc1, He1⟩, ⟨Hc2, He2⟩, ⟨Hc3, He3⟩, ⟨Hc4, He4⟩, ⟨Hc5, He5⟩, ⟨Hc6, He6⟩, ⟨Hc7, He7⟩, HO, Hk⟩
  ihave H1 := (weight_split c arg1 q W) $$ H1
  icases H1 with ⟨HH, HR⟩
  ihave H8 := (ring_split (F := F) c arg8) $$ H8
  icases H8 with ⟨HW, HS⟩
  ihave HH := (Entails.of_eq (sixteen_list (fun t => home c arg1 q W t))) $$ HH
  ihave HW := (Entails.of_eq (eight_list (fun n : Fin 8 => windows (F := F) c arg8 (tr8 n)))) $$ HW
  icases HH with ⟨Hh0, Hh1, Hh2, Hh3, Hh4, Hh5, Hh6, Hh7, Hh8, Hh9, Hh10, Hh11, Hh12, Hh13, Hh14, Hh15⟩
  icases HW with ⟨⟨Hd0, Hf0⟩, ⟨Hd1, Hf1⟩, ⟨Hd2, Hf2⟩, ⟨Hd3, Hf3⟩, ⟨Hd4, Hf4⟩, ⟨Hd5, Hf5⟩, ⟨Hd6, Hf6⟩, ⟨Hd7, Hf7⟩⟩
  iapply ((prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).2 C S L X A ws Q)
  isplitl [H0]; · iexact H0
  isplitl [H2]; · iexact H2
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [Hx]; · iexact Hx
  isplitl [Hs]; · iexact Hs
  isplitl [Hh0 Hc0 Hd0 He0 Hf0]
  · unfold start slots
    isplitl [Hh0]; · iexact Hh0
    isplitl [Hc0]; · iexact Hc0
    isplitl [Hd0]; · iexact Hd0
    isplitl [He0]; · iexact He0
    iexact Hf0
  isplitl [Hh1 Hc1 Hd1 He1 Hf1]
  · unfold start slots
    isplitl [Hh1]; · iexact Hh1
    isplitl [Hc1]; · iexact Hc1
    isplitl [Hd1]; · iexact Hd1
    isplitl [He1]; · iexact He1
    iexact Hf1
  isplitl [Hh2 Hc2 Hd2 He2 Hf2]
  · unfold start slots
    isplitl [Hh2]; · iexact Hh2
    isplitl [Hc2]; · iexact Hc2
    isplitl [Hd2]; · iexact Hd2
    isplitl [He2]; · iexact He2
    iexact Hf2
  isplitl [Hh3 Hc3 Hd3 He3 Hf3]
  · unfold start slots
    isplitl [Hh3]; · iexact Hh3
    isplitl [Hc3]; · iexact Hc3
    isplitl [Hd3]; · iexact Hd3
    isplitl [He3]; · iexact He3
    iexact Hf3
  isplitl [Hh4 Hc4 Hd4 He4 Hf4]
  · unfold start slots
    isplitl [Hh4]; · iexact Hh4
    isplitl [Hc4]; · iexact Hc4
    isplitl [Hd4]; · iexact Hd4
    isplitl [He4]; · iexact He4
    iexact Hf4
  isplitl [Hh5 Hc5 Hd5 He5 Hf5]
  · unfold start slots
    isplitl [Hh5]; · iexact Hh5
    isplitl [Hc5]; · iexact Hc5
    isplitl [Hd5]; · iexact Hd5
    isplitl [He5]; · iexact He5
    iexact Hf5
  isplitl [Hh6 Hc6 Hd6 He6 Hf6]
  · unfold start slots
    isplitl [Hh6]; · iexact Hh6
    isplitl [Hc6]; · iexact Hc6
    isplitl [Hd6]; · iexact Hd6
    isplitl [He6]; · iexact He6
    iexact Hf6
  isplitl [Hh7 Hc7 Hd7 He7 Hf7]
  · unfold start slots
    isplitl [Hh7]; · iexact Hh7
    isplitl [Hc7]; · iexact Hc7
    isplitl [Hd7]; · iexact Hd7
    isplitl [He7]; · iexact He7
    iexact Hf7
  isplitl [HO]; · iexact HO
  iintro ⟨H0, H2, H4, H5, H6, H7, H9, H10, H11, Hx, Hs, Hp0, Hp1, Hp2, Hp3, Hp4, Hp5, Hp6, Hp7, %ws', HO⟩
  iapply (rest_run c arg0 harg0 arg1 harg1 arg2 harg2 arg3 harg3 arg4 harg4 arg5 harg5 arg6 harg6 arg7 harg7 arg8 harg8 arg9 harg9 arg10 harg10 arg11 harg11 arg12 arg13 q W (wsIn c arg2 arg7 S0 WS) (arg9.view.writes (Elt F) arg9.view.junk (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.2.2.1) (arg10.view.writes (Elt F) arg10.view.junk (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.2.2.2.1) Good keep (arg11.view.writes (Elt F) arg11.view.junk (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.2.2.2.2) hA Y ws' Q)
  isplitl [Hp0 Hp1 Hp2 Hp3 Hp4 Hp5 Hp6 Hp7 Hh8 Hh9 Hh10 Hh11 Hh12 Hh13 Hh14 Hh15]
  · unfold pairs Ring.AtW
    iapply (Entails.of_eq (sixteen_list (fun t => pair c arg1 arg8 arg13 q W t (stageAt 0 t))).symm)
    isplitl [Hp0]; · iapply (pair_of_flying c arg1 arg8 arg13 q W 0 rfl); iexact Hp0
    isplitl [Hp1]; · iapply (pair_of_flying c arg1 arg8 arg13 q W 1 rfl); iexact Hp1
    isplitl [Hp2]; · iapply (pair_of_flying c arg1 arg8 arg13 q W 2 rfl); iexact Hp2
    isplitl [Hp3]; · iapply (pair_of_flying c arg1 arg8 arg13 q W 3 rfl); iexact Hp3
    isplitl [Hp4]; · iapply (pair_of_flying c arg1 arg8 arg13 q W 4 rfl); iexact Hp4
    isplitl [Hp5]; · iapply (pair_of_flying c arg1 arg8 arg13 q W 5 rfl); iexact Hp5
    isplitl [Hp6]; · iapply (pair_of_flying c arg1 arg8 arg13 q W 6 rfl); iexact Hp6
    isplitl [Hp7]; · iapply (pair_of_flying c arg1 arg8 arg13 q W 7 rfl); iexact Hp7
    isplitl [Hh8]; · iapply (pair_of_home c arg1 arg8 arg13 q W 0 rfl); iexact Hh8
    isplitl [Hh9]; · iapply (pair_of_home c arg1 arg8 arg13 q W 1 rfl); iexact Hh9
    isplitl [Hh10]; · iapply (pair_of_home c arg1 arg8 arg13 q W 2 rfl); iexact Hh10
    isplitl [Hh11]; · iapply (pair_of_home c arg1 arg8 arg13 q W 3 rfl); iexact Hh11
    isplitl [Hh12]; · iapply (pair_of_home c arg1 arg8 arg13 q W 4 rfl); iexact Hh12
    isplitl [Hh13]; · iapply (pair_of_home c arg1 arg8 arg13 q W 5 rfl); iexact Hh13
    isplitl [Hh14]; · iapply (pair_of_home c arg1 arg8 arg13 q W 6 rfl); iexact Hh14
    iapply (pair_of_home c arg1 arg8 arg13 q W 7 rfl); iexact Hh15
  isplitl [H3]; · iexact H3
  isplitl [H7]; · iexact H7
  isplitl [H9]; · iexact H9
  isplitl [H10]; · iexact H10
  isplitl [H11]; · iexact H11
  isplitl [HO]; · iexact HO
  iintro ⟨%B, %hB, HP, H3, H7, H9, H10, H11, %ws'', HO⟩
  unfold pairs Ring.AtW
  ihave HP := (Entails.of_eq (sixteen_list (fun t => pair c arg1 arg8 arg13 q W t (stageAt 16 t)))) $$ HP
  icases HP with ⟨Hp0, Hp1, Hp2, Hp3, Hp4, Hp5, Hp6, Hp7, Hp8, Hp9, Hp10, Hp11, Hp12, Hp13, Hp14, Hp15⟩
  ihave Hp0 := (home_of_first c arg1 arg8 arg13 q W 0 rfl) $$ Hp0
  ihave Hp1 := (home_of_first c arg1 arg8 arg13 q W 1 rfl) $$ Hp1
  ihave Hp2 := (home_of_first c arg1 arg8 arg13 q W 2 rfl) $$ Hp2
  ihave Hp3 := (home_of_first c arg1 arg8 arg13 q W 3 rfl) $$ Hp3
  ihave Hp4 := (home_of_first c arg1 arg8 arg13 q W 4 rfl) $$ Hp4
  ihave Hp5 := (home_of_first c arg1 arg8 arg13 q W 5 rfl) $$ Hp5
  ihave Hp6 := (home_of_first c arg1 arg8 arg13 q W 6 rfl) $$ Hp6
  ihave Hp7 := (home_of_first c arg1 arg8 arg13 q W 7 rfl) $$ Hp7
  ihave Hp8 := (freed_of_last c arg1 arg8 arg13 q W 0 rfl) $$ Hp8
  icases Hp8 with ⟨Hp8, Hc8, Hd8, He8, Hf8⟩
  ihave Hp9 := (freed_of_last c arg1 arg8 arg13 q W 1 rfl) $$ Hp9
  icases Hp9 with ⟨Hp9, Hc9, Hd9, He9, Hf9⟩
  ihave Hp10 := (freed_of_last c arg1 arg8 arg13 q W 2 rfl) $$ Hp10
  icases Hp10 with ⟨Hp10, Hc10, Hd10, He10, Hf10⟩
  ihave Hp11 := (freed_of_last c arg1 arg8 arg13 q W 3 rfl) $$ Hp11
  icases Hp11 with ⟨Hp11, Hc11, Hd11, He11, Hf11⟩
  ihave Hp12 := (freed_of_last c arg1 arg8 arg13 q W 4 rfl) $$ Hp12
  icases Hp12 with ⟨Hp12, Hc12, Hd12, He12, Hf12⟩
  ihave Hp13 := (freed_of_last c arg1 arg8 arg13 q W 5 rfl) $$ Hp13
  icases Hp13 with ⟨Hp13, Hc13, Hd13, He13, Hf13⟩
  ihave Hp14 := (freed_of_last c arg1 arg8 arg13 q W 6 rfl) $$ Hp14
  icases Hp14 with ⟨Hp14, Hc14, Hd14, He14, Hf14⟩
  ihave Hp15 := (freed_of_last c arg1 arg8 arg13 q W 7 rfl) $$ Hp15
  icases Hp15 with ⟨Hp15, Hc15, Hd15, He15, Hf15⟩
  iapply Hk
  isplitl [H0]; · iexact H0
  isplitl [Hp0 Hp1 Hp2 Hp3 Hp4 Hp5 Hp6 Hp7 Hp8 Hp9 Hp10 Hp11 Hp12 Hp13 Hp14 Hp15 HR]
  · iapply (weight_join c arg1 q W)
    isplitl [Hp0 Hp1 Hp2 Hp3 Hp4 Hp5 Hp6 Hp7 Hp8 Hp9 Hp10 Hp11 Hp12 Hp13 Hp14 Hp15]
    · iapply (Entails.of_eq (sixteen_list (fun t => home c arg1 q W t)).symm)
      isplitl [Hp0]; · iexact Hp0
      isplitl [Hp1]; · iexact Hp1
      isplitl [Hp2]; · iexact Hp2
      isplitl [Hp3]; · iexact Hp3
      isplitl [Hp4]; · iexact Hp4
      isplitl [Hp5]; · iexact Hp5
      isplitl [Hp6]; · iexact Hp6
      isplitl [Hp7]; · iexact Hp7
      isplitl [Hp8]; · iexact Hp8
      isplitl [Hp9]; · iexact Hp9
      isplitl [Hp10]; · iexact Hp10
      isplitl [Hp11]; · iexact Hp11
      isplitl [Hp12]; · iexact Hp12
      isplitl [Hp13]; · iexact Hp13
      isplitl [Hp14]; · iexact Hp14
      iexact Hp15
    iexact HR
  isplitl [H2]; · iexact H2
  isplitl [H3]
  · iexists B
    isplitr [H3]
    · ipureintro; exact hB
    iexact H3
  isplitl [H4]; · iexact H4
  isplitl [H5]; · iexact H5
  isplitl [H6]; · iexists _; iexact H6
  isplitl [H7]; · iexists _; iexact H7
  isplitl [Hd8 Hf8 Hd9 Hf9 Hd10 Hf10 Hd11 Hf11 Hd12 Hf12 Hd13 Hf13 Hd14 Hf14 Hd15 Hf15 HS]
  · iapply (ring_join (F := F) c arg8)
    isplitl [Hd8 Hf8 Hd9 Hf9 Hd10 Hf10 Hd11 Hf11 Hd12 Hf12 Hd13 Hf13 Hd14 Hf14 Hd15 Hf15]
    · iapply (Entails.of_eq (eight_list (fun n : Fin 8 => windows (F := F) c arg8 (tr8 n))).symm)
      isplitl [Hd8 Hf8]
      · isplitl [Hd8]; · iexact Hd8
        iexact Hf8
      isplitl [Hd9 Hf9]
      · isplitl [Hd9]; · iexact Hd9
        iexact Hf9
      isplitl [Hd10 Hf10]
      · isplitl [Hd10]; · iexact Hd10
        iexact Hf10
      isplitl [Hd11 Hf11]
      · isplitl [Hd11]; · iexact Hd11
        iexact Hf11
      isplitl [Hd12 Hf12]
      · isplitl [Hd12]; · iexact Hd12
        iexact Hf12
      isplitl [Hd13 Hf13]
      · isplitl [Hd13]; · iexact Hd13
        iexact Hf13
      isplitl [Hd14 Hf14]
      · isplitl [Hd14]; · iexact Hd14
        iexact Hf14
      isplitl [Hd15]; · iexact Hd15
      iexact Hf15
    iexact HS
  isplitl [H9]; · iexists _; iexact H9
  isplitl [H10]; · iexists _; iexact H10
  isplitl [H11]; · iexists _; iexact H11
  isplitl [Hx]; · iexact Hx
  isplitl [Hs]; · iexact Hs
  isplitl [Hc8 He8]
  · isplitl [Hc8]; · iexact Hc8
    iexact He8
  isplitl [Hc9 He9]
  · isplitl [Hc9]; · iexact Hc9
    iexact He9
  isplitl [Hc10 He10]
  · isplitl [Hc10]; · iexact Hc10
    iexact He10
  isplitl [Hc11 He11]
  · isplitl [Hc11]; · iexact Hc11
    iexact He11
  isplitl [Hc12 He12]
  · isplitl [Hc12]; · iexact Hc12
    iexact He12
  isplitl [Hc13 He13]
  · isplitl [Hc13]; · iexact Hc13
    iexact He13
  isplitl [Hc14 He14]
  · isplitl [Hc14]; · iexact Hc14
    iexact He14
  isplitl [Hc15 He15]
  · isplitl [Hc15]; · iexact Hc15
    iexact He15
  iexists _; iexact HO

end Cert.Kernel.Hand
end
-- ==== Proof.BitsFrame.lean ====
module

public import proofs.«01_k».proof.Proof.Gen.Kernel.Skeleton
public import proofs.«01_k».proof.Proof.Gen.Kernel.Loops
public import Idealize.ShloMosaic.Lib.Tactic
public import proofs.«01_k».proof.Proof.BitsRun
public import proofs.«01_k».proof.Proof.Gen.Kernel.Frame
public import Idealize.ShloMosaic.Lib.Ring
public import Idealize.ShloMosaic.Lib.Ring.Pair
public import Idealize.ShloMosaic.Lib.Ring.FamCut
public import Idealize.ShloMosaic.Lib.ViewIndex
public import Idealize.ShloMosaic.Lib.Exec.Geometry
public import Idealize.ShloMosaic.Lib.Pipeline.FrameBody

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch: @main up to the region, the kernel's cells, the arrays it reads -/

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

abbrev osem0 : Fin 18 → SemLoc sig := fun j => (![SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20] : Fin 18 → SemLoc sig) j
theorem ownSemFacts0 : Pipeline.OwnSemFacts spec0 osem0 := by decide
theorem ownSems0_list (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) := by
  rw [Pipeline.ownSems0_eq_of_list c osem0 [0, 1, 2, 3, 4, 5, 6, 7, 8, 9, 10, 11, 12, 13, 14, 15, 16, 17] (by decide) (by decide)]; rfl

/-- The arrays the kernel reads by transfers of its own. -/
def H0 : Finset (Ref sig .tc) := {main_v0, main_arg1, main_arg2}
theorem H0_sub : H0 ⊆ Pipeline.restRefs sig spec0 := by decide
theorem hbm_list (c : Dev nD) :
    (bigSep H0 (fun b => ((c : Thread nD τ).loc b) ↦{fullShare} V m c b) : sProp 𝕄)
      = iprop(((c : Thread nD τ).loc main_v0 ↦{fullShare} V m c main_v0) ∗ ((c : Thread nD τ).loc main_arg1 ↦{fullShare} V m c main_arg1) ∗ ((c : Thread nD τ).loc main_arg2 ↦{fullShare} V m c main_arg2)) := by
  rw [BI.bigSep_eq_bigSepL_of_eq [main_v0, main_arg1, main_arg2] (by decide) (by decide)]; rfl

theorem PhiD_list (c : Dev nD) :
    (Pipeline.ΦD osem0 spec0 H0 (V m) c : sProp 𝕄)
      = iprop(iprop((∃ f : Buf (Elt F) ((c : Thread nD τ).loc cc0_scratch0), ((c : Thread nD τ).loc cc0_scratch0 ↦{fullShare} f)) ∗ (∃ f : Buf (Elt F) ((c : Thread nD τ).loc cc0_scratch2), ((c : Thread nD τ).loc cc0_scratch2 ↦{fullShare} f)) ∗ (∃ f : Buf (Elt F) ((c : Thread nD τ).loc cc0_scratch3), ((c : Thread nD τ).loc cc0_scratch3 ↦{fullShare} f)) ∗ (∃ f : Buf (Elt F) ((c : Thread nD τ).loc cc0_scratch4), ((c : Thread nD τ).loc cc0_scratch4 ↦{fullShare} f)) ∗ (∃ f : Buf (Elt F) ((c : Thread nD τ).loc cc0_scratch5), ((c : Thread nD τ).loc cc0_scratch5 ↦{fullShare} f)) ∗ (∃ f : Buf (Elt F) ((c : Thread nD τ).loc cc0_scratch1), ((c : Thread nD τ).loc cc0_scratch1 ↦{fullShare} f))) ∗ (∃ r, prngReg c r) ∗ iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0) ∗ iprop(((c : Thread nD τ).loc main_v0 ↦{fullShare} V m c main_v0) ∗ ((c : Thread nD τ).loc main_arg1 ↦{fullShare} V m c main_arg1) ∗ ((c : Thread nD τ).loc main_arg2 ↦{fullShare} V m c main_arg2))) := by
  rw [Pipeline.ΦD_eq, scopedRest0_eq, ownSems0_list, hbm_list]

/-- A whole buffer's contents, read through its view. -/
theorem owns_of {sp : Space} {sh : Shape} {e : EltTy} (c : Dev nD) (M : Memref sig .tc sp sh e) (h : M.IsWhole) (f : Buf (Elt F) (M.view.loc (c : Thread nD τ))) :
    (M.view.loc (c : Thread nD τ) ↦{fullShare} f : sProp 𝕄) ⊢ owns (c : Thread nD τ) M fullShare (M.view.read (Elt F) f) := by
  unfold owns
  iintro H
  iexists f
  isplitr [H]
  · ipureintro; rfl
  rw [h.set_eq_univ]
  iexact H

theorem of_owns {sp : Space} {sh : Shape} {e : EltTy} (c : Dev nD) (M : Memref sig .tc sp sh e) (h : M.IsWhole) (X : sh.Idx → Elt F e) :
    owns (c : Thread nD τ) M fullShare X ⊢ (iprop(∃ f : Buf (Elt F) (M.view.loc (c : Thread nD τ)), M.view.loc (c : Thread nD τ) ↦{fullShare} f) : sProp 𝕄) := by
  unfold owns
  rw [h.set_eq_univ]
  iintro ⟨%f, -, H⟩
  iexists f
  iexact H

/-- What the results must satisfy, of the three arrays the body leaves, whatever its scratch held. -/
structure Right (c : Dev nD) (t : Fin cfg0.N) (O0 : (S8x11264.Idx → Elt F .bf16) → Prop) (O1 : (S8x8192.Idx → Elt F .fp8e4m3) → Prop) (O2 : (S8x64.Idx → Elt F .f32) → Prop)
    (XB : Buf (Elt F) ((c : Thread nD τ).loc cc0_scratch0)) (WS : Buf (Elt F) ((c : Thread nD τ).loc cc0_scratch1))
    (Good : ℕ → Buf (Elt F) ((c : Thread nD τ).loc cc0_scratch5) → Prop) : Prop where
  keep : Keeps c (Memref.whole main_v0) (Memref.isWhole_whole _) (Memref.whole main_arg1) (Memref.isWhole_whole _) (Memref.whole main_arg2) (Memref.isWhole_whole _) (st0_0 t) (hstage0_0 0) (st0_1 t) (hstage0_1 0) (st0_2 t) (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 fullShare (V m c main_arg1) (wsIn c (Memref.whole main_arg2) (Memref.whole cc0_scratch1) (V m c main_arg2) WS) ((Memref.whole cc0_scratch3).view.writes (Elt F) (Memref.whole cc0_scratch3).view.junk (prologue c (Memref.whole main_v0) (Memref.isWhole_whole _) (Memref.whole main_arg1) (Memref.isWhole_whole _) (Memref.whole main_arg2) (Memref.isWhole_whole _) (st0_0 t) (hstage0_0 0) (st0_1 t) (hstage0_1 0) (st0_2 t) (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 fullShare fullShare fullShare (V m c main_arg1) (V m c main_v0) (V m c main_arg2) XB WS).1.2.2.1) ((Memref.whole cc0_scratch4).view.writes (Elt F) (Memref.whole cc0_scratch4).view.junk (prologue c (Memref.whole main_v0) (Memref.isWhole_whole _) (Memref.whole main_arg1) (Memref.isWhole_whole _) (Memref.whole main_arg2) (Memref.isWhole_whole _) (st0_0 t) (hstage0_0 0) (st0_1 t) (hstage0_1 0) (st0_2 t) (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 fullShare fullShare fullShare (V m c main_arg1) (V m c main_v0) (V m c main_arg2) XB WS).1.2.2.2.1) Good
  first : Good 0 ((Memref.whole cc0_scratch5).view.writes (Elt F) (Memref.whole cc0_scratch5).view.junk (prologue c (Memref.whole main_v0) (Memref.isWhole_whole _) (Memref.whole main_arg1) (Memref.isWhole_whole _) (Memref.whole main_arg2) (Memref.isWhole_whole _) (st0_0 t) (hstage0_0 0) (st0_1 t) (hstage0_1 0) (st0_2 t) (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 fullShare fullShare fullShare (V m c main_arg1) (V m c main_v0) (V m c main_arg2) XB WS).1.2.2.2.2)
  y : ∀ A, Good 16 A → ∀ Y, O0 ((st0_0 t).view.read (Elt F) ((st0_0 t).view.writes (Elt F) Y
    [⟨Rect.unit (s := S8x11264) ![0, 0] S8x11264.size inb_S8x11264_S8x11264_0_0,
      k0_pay1 ((Memref.whole cc0_scratch5).view.readAt (Elt F) (Rect.unit (s := S8x11264) ![0, 0] S8x11264.size inb_S8x11264_S8x11264_0_0).toLoadRect A)⟩]))
  codes : O1 ((st0_1 t).view.read (Elt F) ((st0_1 t).view.writes (Elt F) (st0_1 t).view.junk (prologue c (Memref.whole main_v0) (Memref.isWhole_whole _) (Memref.whole main_arg1) (Memref.isWhole_whole _) (Memref.whole main_arg2) (Memref.isWhole_whole _) (st0_0 t) (hstage0_0 0) (st0_1 t) (hstage0_1 0) (st0_2 t) (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 fullShare fullShare fullShare (V m c main_arg1) (V m c main_v0) (V m c main_arg2) XB WS).1.1))
  scales : O2 ((st0_2 t).view.read (Elt F) ((st0_2 t).view.writes (Elt F) (st0_2 t).view.junk (prologue c (Memref.whole main_v0) (Memref.isWhole_whole _) (Memref.whole main_arg1) (Memref.isWhole_whole _) (Memref.whole main_arg2) (Memref.isWhole_whole _) (st0_0 t) (hstage0_0 0) (st0_1 t) (hstage0_1 0) (st0_2 t) (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 fullShare fullShare fullShare (V m c main_arg1) (V m c main_v0) (V m c main_arg2) XB WS).1.2.1))

/-- The body as the pipeline calls it. -/
theorem sound (c : Dev nD) (t : Fin cfg0.N) (O0 : (S8x11264.Idx → Elt F .bf16) → Prop) (O1 : (S8x8192.Idx → Elt F .fp8e4m3) → Prop) (O2 : (S8x64.Idx → Elt F .f32) → Prop)
    (hR : ∀ XB WS, ∃ Good, Right m c t O0 O1 O2 XB WS Good) (Q : PUnit → sProp 𝕄) :
    iprop(Pipeline.ΦD osem0 spec0 H0 (V m) c ∗ (∃ ws, owes (c : Thread nD τ) 0 ws)
        ∗ (∃ X, owns (c : Thread nD τ) (st0_0 t) fullShare X) ∗ (∃ X, owns (c : Thread nD τ) (st0_1 t) fullShare X) ∗ (∃ X, owns (c : Thread nD τ) (st0_2 t) fullShare X)
        ∗ (iprop(Pipeline.ΦD osem0 spec0 H0 (V m) c ∗ (∃ ws, owes (c : Thread nD τ) 0 ws)
          ∗ (∃ X, ⌜O0 X⌝ ∗ owns (c : Thread nD τ) (st0_0 t) fullShare X) ∗ (∃ X, ⌜O1 X⌝ ∗ owns (c : Thread nD τ) (st0_1 t) fullShare X) ∗ (∃ X, ⌜O2 X⌝ ∗ owns (c : Thread nD τ) (st0_2 t) fullShare X)) -∗ Q ⟨⟩))
      ⊢ wp frame (wpE (defs₀ (F := F)) Variants.none (c : Thread nD τ) none) Set.univ (bodyAt0 t) Q := by
  unfold bodyAt0
  rw [PhiD_list]
  iintro ⟨⟨⟨⟨%f0, Hs0⟩, Hs2, ⟨%f3, Hs3⟩, ⟨%f4, Hs4⟩, ⟨%f5, Hs5⟩, ⟨%f1, Hs1⟩⟩, Hg, ⟨Hq0, Hq1, Hq2, Hq3, Hq4, Hq5, Hq6, Hq7, Hq8, Hq9, Hq10, Hq11, Hq12, Hq13, Hq14, Hq15, Hq16, Hq17⟩, ⟨Hh0, Hh1, Hh2⟩⟩, ⟨%ws, HO⟩, ⟨%X0, H0⟩, ⟨%X1, H1⟩, ⟨%X2, H2⟩, Hk⟩
  obtain ⟨Good, R⟩ := hR f0 f1
  ihave H0 := (of_owns c (st0_0 t) (hstage0_0 0) X0) $$ H0
  ihave H1 := (of_owns c (st0_1 t) (hstage0_1 0) X1) $$ H1
  ihave H2 := (of_owns c (st0_2 t) (hstage0_2 0) X2) $$ H2
  icases H0 with ⟨%g0, H0⟩
  icases H1 with ⟨%g1, H1⟩
  icases H2 with ⟨%g2, H2⟩
  iapply (body_run c (Memref.whole main_v0) (Memref.isWhole_whole _) (Memref.whole main_arg1) (Memref.isWhole_whole _) (Memref.whole main_arg2) (Memref.isWhole_whole _) (st0_0 t) (hstage0_0 0) (st0_1 t) (hstage0_1 0) (st0_2 t) (hstage0_2 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 fullShare fullShare fullShare (V m c main_arg1) (V m c main_v0) (V m c main_arg2) f0 f1 Good R.keep R.first g0 g1 g2 f3 f4 f5 ws Q)
  isplitl [Hh0]; · iexact Hh0
  isplitl [Hh1]; · iexact Hh1
  isplitl [Hh2]; · iexact Hh2
  isplitl [H0]; · iexact H0
  isplitl [H1]; · iexact H1
  isplitl [H2]; · iexact H2
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hq0]; · iexact Hq0
  isplitl [Hq1]; · iexact Hq1
  isplitl [Hq2 Hq3]
  · isplitl [Hq2]; · iexact Hq2
    iexact Hq3
  isplitl [Hq4 Hq5]
  · isplitl [Hq4]; · iexact Hq4
    iexact Hq5
  isplitl [Hq6 Hq7]
  · isplitl [Hq6]; · iexact Hq6
    iexact Hq7
  isplitl [Hq8 Hq9]
  · isplitl [Hq8]; · iexact Hq8
    iexact Hq9
  isplitl [Hq10 Hq11]
  · isplitl [Hq10]; · iexact Hq10
    iexact Hq11
  isplitl [Hq12 Hq13]
  · isplitl [Hq12]; · iexact Hq12
    iexact Hq13
  isplitl [Hq14 Hq15]
  · isplitl [Hq14]; · iexact Hq14
    iexact Hq15
  isplitl [Hq16 Hq17]
  · isplitl [Hq16]; · iexact Hq16
    iexact Hq17
  isplitl [HO]; · iexact HO
  iintro ⟨Hh0, Hh1, Hh2, ⟨%A, %hA, H0⟩, H1, H2, Hs0, Hs1, Hs2, Hs3, Hs4, Hs5, Hq0, Hq1, ⟨Hq2, Hq3⟩, ⟨Hq4, Hq5⟩, ⟨Hq6, Hq7⟩, ⟨Hq8, Hq9⟩, ⟨Hq10, Hq11⟩, ⟨Hq12, Hq13⟩, ⟨Hq14, Hq15⟩, ⟨Hq16, Hq17⟩, HO⟩
  iapply Hk
  isplitl [Hs0 Hs1 Hs2 Hs3 Hs4 Hs5 Hg Hq0 Hq1 Hq2 Hq3 Hq4 Hq5 Hq6 Hq7 Hq8 Hq9 Hq10 Hq11 Hq12 Hq13 Hq14 Hq15 Hq16 Hq17 Hh0 Hh1 Hh2]
  · isplitl [Hs0 Hs1 Hs2 Hs3 Hs4 Hs5]
    · isplitl [Hs0]; · iexact Hs0
      isplitl [Hs2]; · iexact Hs2
      isplitl [Hs3]; · iexact Hs3
      isplitl [Hs4]; · iexact Hs4
      isplitl [Hs5]; · iexact Hs5
      iexact Hs1
    isplitl [Hg]; · iexact Hg
    isplitl [Hq0 Hq1 Hq2 Hq3 Hq4 Hq5 Hq6 Hq7 Hq8 Hq9 Hq10 Hq11 Hq12 Hq13 Hq14 Hq15 Hq16 Hq17]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      iexact Hq17
    isplitl [Hh0]; · iexact Hh0
    isplitl [Hh1]; · iexact Hh1
    iexact Hh2
  isplitl [HO]; · iexact HO
  isplitl [H0]
  · iexists _
    isplitr [H0]
    swap; · iapply (owns_of c (st0_0 t) (hstage0_0 0)); iexact H0
    ipureintro; exact R.y A hA g0
  isplitl [H1]
  · iexists _
    isplitr [H1]
    swap; · iapply (owns_of c (st0_1 t) (hstage0_1 0)); iexact H1
    ipureintro; exact R.codes
  iexists _
  isplitr [H2]
  swap; · iapply (owns_of c (st0_2 t) (hstage0_2 0)); iexact H2
  ipureintro; exact R.scales

theorem defs₀_row (t : Fin cfg0.N) :
    defs₀ (F := F) .tc cfg0.body (cfg0.bodyArgs t (cfg0.slots t)) = bodyAt0 t := by
  unfold defs₀; rw [Defs.onTc_tc]

/-! ## The frame: nothing said of the results -/

def dats (_ : Fin 1) (c : Dev nD) : Dat τ (Elt F) Unit ℕ (Pipeline.UD sig nD τ) ℕ cfg0 c where
  A w := V m c (Pipeline.arrRef spec0 w)
  after w t := (cfg0.win w).stage (cfg0.slots t w) |>.view.read (Elt F) ((cfg0.win w).stage (cfg0.slots t w)).view.junk
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

def forgets : Fin 3 → Bool := fun _ => true

theorem right_any (c : Dev nD) (t : Fin cfg0.N) (XB WS) :
    Right m c t (fun _ => True) (fun _ => True) (fun _ => True) XB WS (fun _ _ => True) where
  keep := ⟨fun _ _ _ _ _ _ _ => trivial, fun _ _ _ _ _ _ _ => trivial⟩
  first := trivial
  y := fun _ _ _ => trivial
  codes := trivial
  scales := trivial

theorem sound_body (c : Dev nD) (t : Fin cfg0.N) :
    iprop((dats m 0 c).Φ t.castSucc ∗ (dats m 0 c).owesAt () t.castSucc
        ∗ (∃ X, owns (c : Thread nD τ) (st0_0 t) fullShare X) ∗ (∃ X, owns (c : Thread nD τ) (st0_1 t) fullShare X) ∗ (∃ X, owns (c : Thread nD τ) (st0_2 t) fullShare X))
      ⊢ wp frame (wpE (defs₀ (F := F)) Variants.none (c : Thread nD τ) none) Set.univ (bodyAt0 t) (fun _ =>
        iprop((dats m 0 c).Φ t.succ ∗ (dats m 0 c).owesAt () t.succ
        ∗ (∃ X, owns (c : Thread nD τ) (st0_0 t) fullShare X) ∗ (∃ X, owns (c : Thread nD τ) (st0_1 t) fullShare X) ∗ (∃ X, owns (c : Thread nD τ) (st0_2 t) fullShare X))) := by
  rw [show (dats m 0 c).Φ t.succ = Pipeline.ΦD osem0 spec0 H0 (V m) c from rfl, show (dats m 0 c).Φ t.castSucc = Pipeline.ΦD osem0 spec0 H0 (V m) c from rfl]
  unfold Dat.owesAt Pipeline.owesWithin
  rw [show (dats m 0 c).owed t.castSucc = 0 from rfl, show (dats m 0 c).owed t.succ = 0 from rfl]
  iintro ⟨HΦ, ⟨%ws, -, HO⟩, H0, H1, H2⟩
  iapply (sound m c t (fun _ => True) (fun _ => True) (fun _ => True) (fun XB WS => ⟨_, right_any m c t XB WS⟩))
  isplitl [HΦ]; · iexact HΦ
  isplitl [HO]; · iexists ws; iexact HO
  isplitl [H0]; · iexact H0
  isplitl [H1]; · iexact H1
  isplitl [H2]; · iexact H2
  iintro ⟨HΦ, ⟨%ws', HO⟩, ⟨%Y0, -, H0⟩, ⟨%Y1, -, H1⟩, ⟨%Y2, -, H2⟩⟩
  isplitl [HΦ]; · iexact HΦ
  isplitl [HO]
  · iexists ws'; isplitr; · ipureintro; exact fun _ _ => Or.inl trivial
    iexact HO
  isplitl [H0]; · iexists Y0; iexact H0
  isplitl [H1]; · iexists Y1; iexact H1
  iexists Y2; iexact H2

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_dma_forget (Q' := _) cfgs (dats m) (0 : Fin 1) launch0 osem0 defs₀ Variants.none forgets ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- The frame, with every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run_main m ρ)

end Cert.Kernel.Hand
end
-- ==== Proof.Blocks.lean ====
module

public import proofs.«01_k».proof.Proof.Gen.KernelIdeal.Skeleton
public import proofs.«01_k».proof.Proof.Gen.KernelIdeal.Loops
public import Idealize.ShloMosaic.Lib.Tactic
public import proofs.«01_k».proof.Proof.Run
public import Idealize.ShloMosaic.Lib.Ring
public import Idealize.ShloMosaic.Lib.Ring.Pair
public import Idealize.ShloMosaic.Lib.Ring.FamCut
public import Idealize.ShloMosaic.Lib.ViewIndex
public import Idealize.ShloMosaic.Lib.Exec.Geometry
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The first `n` values of `f`, last first: the order in which a list of writes is kept. -/
def upto {α : Type} (f : ℕ → α) : ℕ → List α
  | 0 => []
  | n + 1 => f n :: upto f n

theorem mem_upto {α : Type} (f : ℕ → α) : ∀ (n : ℕ) (a : α), a ∈ upto f n ↔ ∃ i, i < n ∧ f i = a
  | 0, a => by simp [upto]
  | n + 1, a => by
    rw [upto, List.mem_cons, mem_upto f n a]
    constructor
    · rintro (rfl | ⟨i, hi, rfl⟩)
      · exact ⟨n, n.lt_succ_self, rfl⟩
      · exact ⟨i, by omega, rfl⟩
    · rintro ⟨i, hi, rfl⟩
      by_cases h : i = n
      · exact Or.inl (by rw [h])
      · exact Or.inr ⟨i, by omega, rfl⟩

/-! ## One trip's writes, by block of 128 columns -/

section Trip
variable (c : Dev nD) (k : Fin k0_t1_loop.trips)
  (arg7 : Memref sig .tc .smem S64x88 .f32) (arg8 : Memref sig .tc .vmem S16x512x5632 .fp8e4m3) (arg9 : Memref sig .tc .vmem S16x32x512 .fp8e4m3)
  (arg10 : Memref sig .tc .vmem S64x8x128 .f32) (arg11 : Memref sig .tc .vmem S8x11264 .f32)
  (WS : Buf (Elt F) (arg7.view.loc (c : Thread nD τ))) (L : Buf (Elt F) (arg9.view.loc (c : Thread nD τ))) (X : Buf (Elt F) (arg10.view.loc (c : Thread nD τ))) (A : Buf (Elt F) (arg11.view.loc (c : Thread nD τ))) (G0 G1 : Buf (Elt F) (arg8.view.loc (c : Thread nD τ)))

theorem row_lt : ∀ (k : Fin k0_t1_loop.trips) (r : Fin 4), k0_off7 k (BitVec.ofNat 32 r) 0 < 64 := by decide +kernel
theorem slot_lt : ∀ (k : Fin k0_t1_loop.trips) (p : Fin 2), k0_off6 k (BitVec.ofNat 32 p) 0 < 16 := by decide +kernel

theorem scale_inb (k : Fin k0_t1_loop.trips) (r : Fin 4) (n : Fin 88) :
    ∀ a, (![k0_off7 k (BitVec.ofNat 32 r) 0, n.val] : Fin 2 → ℕ) a + S1x1.size a ≤ S64x88.size a := fun a => by
  have h := row_lt k r
  fin_cases a
  · show k0_off7 k (BitVec.ofNat 32 r) 0 + 1 ≤ 64; omega
  · show n.val + 1 ≤ 88; omega

theorem tile_inb (k : Fin k0_t1_loop.trips) (p : Fin 2) (q : Fin 11) :
    ∀ a, (![k0_off6 k (BitVec.ofNat 32 p) 0, 0, 512 * q.val] : Fin 3 → ℕ) a + S1x512x512.size a ≤ S16x512x5632.size a := fun a => by
  have h := slot_lt k p
  fin_cases a
  · show k0_off6 k (BitVec.ofNat 32 p) 0 + 1 ≤ 16; omega
  · show 0 + 512 ≤ 512; omega
  · show 512 * q.val + 512 ≤ 5632; omega

theorem block_inb (n : Fin 88) : ∀ a, (![0, 128 * n.val] : Fin 2 → ℕ) a + S8x128.size a ≤ S8x11264.size a := fun a => by
  fin_cases a
  · show 0 + 8 ≤ 8; omega
  · show 128 * n.val + 128 ≤ 11264; omega

theorem part_slices (r : Fin 4) (j : Fin 4) : S32x512.Slices ![8 * r.val, 128 * j.val] S8x128 := by
  revert r j; decide

/-- The trip's left operand, the scales by lane, one scale of the weight, and a tile of the slot. -/
def lhsAt : FVec F S32x512 .fp8e4m3 :=
  k0_pay2 (arg9.view.readAt (Elt F) (Rect.unit (s := S16x32x512) (k0_off4 k) S1x32x512.size (k0_off4_inb k)).toLoadRect L)
def xsAt (r : BitVec 32) (h : ∀ a, k0_off5 k r a + S1x8x128.size a ≤ S64x8x128.size a) : FVec F S8x128 .f32 :=
  k0_pay3 (arg10.view.readAt (Elt F) (Rect.unit (s := S64x8x128) (k0_off5 k r) S1x8x128.size h).toLoadRect X)
def wsAt (r : Fin 4) (n : Fin 88) : Elt F .f32 :=
  arg7.view.readAt (Elt F) (Rect.unit (s := S64x88) ![k0_off7 k (BitVec.ofNat 32 r) 0, n.val] S1x1.size (scale_inb k r n)).toLoadRect WS
    (Shape.Idx.first (Nat.lt_of_lt_of_eq Nat.one_pos numel1_S1x1.symm))
def dotAt (p : Fin 2) (q : Fin 11) (G : Buf (Elt F) (arg8.view.loc (c : Thread nD τ))) : FVec F S32x512 .f32 :=
  k0_pay7 (lhsAt c k arg9 L)
    (arg8.view.readAt (Elt F) (Rect.unit (s := S16x512x5632) ![k0_off6 k (BitVec.ofNat 32 p) 0, 0, 512 * q.val] S1x512x512.size (tile_inb k p q)).toLoadRect G)

/-- A block's sum, with one more stripe of the stacked product. -/
def term (r j : Fin 4) (D : FVec F S32x512 .f32) (x : FVec F S8x128 .f32) (w : Elt F .f32) : FVec F S8x128 .f32 :=
  mulf (extractStridedSlice S8x128 ![8 * r.val, 128 * j.val] D (part_slices r j)) (mulf x (broadcast S8x128 w))

/-- A block's sum after the trip. -/
def blockAt (n : Fin 88) : FVec F S8x128 .f32 :=
  let j : Fin 4 := ⟨n.val % 4, Nat.mod_lt _ (by decide)⟩
  let p : Fin 2 := ⟨n.val / 44, by omega⟩
  let q : Fin 11 := ⟨n.val % 44 / 4, by omega⟩
  let D := dotAt c k arg8 arg9 L p q (if n.val < 44 then G0 else G1)
  shapeCast S8x128 (addf (addf (addf (addf (arg11.view.readAt (Elt F) (Rect.unit (s := S8x11264) ![0, 128 * n.val] S8x128.size (block_inb n)).toLoadRect A)
    (term 0 j D (xsAt c k arg10 X 0#32 (k0_off5_inb k 0)) (wsAt c k arg7 WS 0 n)))
    (term 1 j D (xsAt c k arg10 X 1#32 (k0_off5_inb k 1)) (wsAt c k arg7 WS 1 n)))
    (term 2 j D (xsAt c k arg10 X 2#32 (k0_off5_inb k 2)) (wsAt c k arg7 WS 2 n)))
    (term 3 j D (xsAt c k arg10 X 3#32 (k0_off5_inb k 3)) (wsAt c k arg7 WS 3 n))) shapeCasts_S8x128_S8x128

def blockPiece (n : ℕ) : View.Piece (Elt F) S8x11264 .f32 :=
  ⟨Rect.unit (s := S8x11264) ![0, 128 * (Fin.ofNat 88 n).val] S8x128.size (block_inb (Fin.ofNat 88 n)), blockAt c k arg7 arg8 arg9 arg10 arg11 WS L X A G0 G1 (Fin.ofNat 88 n)⟩

end Trip

theorem tripFed_pieces (c : Dev nD) (k : Fin k0_t1_loop.trips) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16) (q : PosShare TreeShare) (W : Buf (Elt F) (arg1.view.loc (c : Thread nD τ))) (WS : Buf (Elt F) (arg7.view.loc (c : Thread nD τ))) (L : Buf (Elt F) (arg9.view.loc (c : Thread nD τ))) (X : Buf (Elt F) (arg10.view.loc (c : Thread nD τ))) (A : Buf (Elt F) (arg11.view.loc (c : Thread nD τ))) (G0 G1 : Buf (Elt F) (arg8.view.loc (c : Thread nD τ))) (hk1 hk2) :
    (tripFed c k arg0 harg0 arg1 harg1 arg2 harg2 arg3 harg3 arg4 harg4 arg5 harg5 arg6 harg6 arg7 harg7 arg8 harg8 arg9 harg9 arg10 harg10 arg11 harg11 arg12 arg13 0#32 q W WS L X A G0 G1 hk1 hk2).1 = upto (blockPiece c k arg7 arg8 arg9 arg10 arg11 WS L X A G0 G1) 88 := by
  rfl

theorem tripDry_pieces (c : Dev nD) (k : Fin k0_t1_loop.trips) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16) (q : PosShare TreeShare) (W : Buf (Elt F) (arg1.view.loc (c : Thread nD τ))) (WS : Buf (Elt F) (arg7.view.loc (c : Thread nD τ))) (L : Buf (Elt F) (arg9.view.loc (c : Thread nD τ))) (X : Buf (Elt F) (arg10.view.loc (c : Thread nD τ))) (A : Buf (Elt F) (arg11.view.loc (c : Thread nD τ))) (G0 G1 : Buf (Elt F) (arg8.view.loc (c : Thread nD τ))) (hk1 hk2) :
    (tripDry c k arg0 harg0 arg1 harg1 arg2 harg2 arg3 harg3 arg4 harg4 arg5 harg5 arg6 harg6 arg7 harg7 arg8 harg8 arg9 harg9 arg10 harg10 arg11 harg11 arg12 arg13 0#32 q W WS L X A G0 G1 hk1 hk2).1 = upto (blockPiece c k arg7 arg8 arg9 arg10 arg11 WS L X A G0 G1) 88 := by
  rfl

end Cert.KernelIdeal.Hand
end
-- ==== Proof.Groups.lean ====
module

public import proofs.«01_k».proof.Proof.Gen.KernelIdeal.Skeleton
public import proofs.«01_k».proof.Proof.Gen.KernelIdeal.Loops
public import Idealize.ShloMosaic.Lib.Tactic
public import proofs.«01_k».proof.Proof.Blocks
public import Idealize.ShloMosaic.Lib.Ring
public import Idealize.ShloMosaic.Lib.Ring.Pair
public import Idealize.ShloMosaic.Lib.Ring.FamCut
public import Idealize.ShloMosaic.Lib.ViewIndex
public import Idealize.ShloMosaic.Lib.Exec.Geometry
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The prologue's writes, by group of 128 features -/

theorem group_inb (g : Fin 64) : ∀ a, (![0, 128 * g.val] : Fin 2 → ℕ) a + S8x128.size a ≤ S8x8192.size a := fun a => by
  fin_cases a
  · show 0 + 8 ≤ 8; omega
  · show 128 * g.val + 128 ≤ 8192; omega

theorem left_inb (g : Fin 64) : ∀ a, (![g.val / 4, 0, 128 * (g.val % 4)] : Fin 3 → ℕ) a + S1x32x128.size a ≤ S16x32x512.size a := fun a => by
  fin_cases a
  · show g.val / 4 + 1 ≤ 16; omega
  · show 0 + 32 ≤ 32; omega
  · show 128 * (g.val % 4) + 128 ≤ 512; omega

theorem lane_inb (g : Fin 64) : ∀ a, (![g.val, 0, 0] : Fin 3 → ℕ) a + S1x8x128.size a ≤ S64x8x128.size a := fun a => by
  fin_cases a
  · show g.val + 1 ≤ 64; omega
  · show 0 + 8 ≤ 8; omega
  · show 0 + 128 ≤ 128; omega

/-- One group's scale, its codes before they are rounded, and the codes stacked for the product. -/
def scaleOf (v : Vec F S8x128 .bf16) : FVec F S8x1 .f32 := k0_pay216 (k0_pay213 v) (k0_pay214 v)
def codesOf (v : Vec F S8x128 .bf16) : FVec F S8x128 .f32 := k0_pay217 (k0_pay212 v) (k0_pay213 v) (k0_pay214 v)
def zeros : FVec F S8x128 .f32 := k0_pay211
def row (r : ℕ) (s : ℕ) (v : Vec F S8x128 .bf16) : FVec F S8x128 .f32 :=
  match r, s with
  | 0, 0 => codesOf v
  | 1, 1 => codesOf v
  | 2, 2 => codesOf v
  | 3, 3 => codesOf v
  | _, _ => zeros
def stacked (g : ℕ) (v : Vec F S8x128 .bf16) : FVec F S1x32x128 .fp8e4m3 :=
  shapeCast S1x32x128 (truncf .fp8e4m3 (concatenate S32x128 0 [⟨S8x128, row (g % 4) 0 v⟩, ⟨S8x128, row (g % 4) 1 v⟩, ⟨S8x128, row (g % 4) 2 v⟩, ⟨S8x128, row (g % 4) 3 v⟩]
    concatenates_S8x128_S8x128_S8x128_S8x128_S32x128_d0) bitsLt_fp8e4m3_f32) shapeCasts_S32x128_S1x32x128

section
variable (c : Dev nD) (arg6 : Memref sig .tc .vmem S8x8192 .bf16) (XI : Buf (Elt F) (arg6.view.loc (c : Thread nD τ)))

/-- The activations of group `g`. -/
def groupAt (g : Fin 64) : Vec F S8x128 .bf16 :=
  arg6.view.readAt (Elt F) (Rect.unit (s := S8x8192) ![0, 128 * g.val] S8x128.size (group_inb g)).toLoadRect XI

def codePiece (n : ℕ) : View.Piece (Elt F) S8x8192 .fp8e4m3 :=
  ⟨Rect.unit (s := S8x8192) ![0, 128 * (Fin.ofNat 64 n).val] S8x128.size (group_inb (Fin.ofNat 64 n)),
    truncf .fp8e4m3 (codesOf (groupAt c arg6 XI (Fin.ofNat 64 n))) bitsLt_fp8e4m3_f32⟩
def leftPiece (n : ℕ) : View.Piece (Elt F) S16x32x512 .fp8e4m3 :=
  ⟨Rect.unit (s := S16x32x512) ![(Fin.ofNat 64 n).val / 4, 0, 128 * ((Fin.ofNat 64 n).val % 4)] S1x32x128.size (left_inb (Fin.ofNat 64 n)),
    stacked (Fin.ofNat 64 n).val (groupAt c arg6 XI (Fin.ofNat 64 n))⟩
def lanePiece (n : ℕ) : View.Piece (Elt F) S64x8x128 .f32 :=
  ⟨Rect.unit (s := S64x8x128) ![(Fin.ofNat 64 n).val, 0, 0] S1x8x128.size (lane_inb (Fin.ofNat 64 n)),
    k0_pay220 (k0_pay213 (groupAt c arg6 XI (Fin.ofNat 64 n))) (k0_pay214 (groupAt c arg6 XI (Fin.ofNat 64 n)))⟩

/-- The scales of the first `n` groups, each put in its own lane. -/
def scalesTo : ℕ → FVec F S8x64 .f32
  | 0 => k0_pay210
  | n + 1 => select (cmpi .eq (iota .tc S8x64 32 [1] iota_S8x64_d1_w32) (broadcast S8x64 (BitVec.ofNat 32 n)))
      (broadcastTo S8x64 (shapeCast S8x1 (scaleOf (groupAt c arg6 XI (Fin.ofNat 64 n))) shapeCasts_S8x1_S8x1) broadcasts_S8x1_S8x64) (scalesTo n)
end

section
variable (c : Dev nD) (arg0 : Memref sig .tc .hbm S8x8192 .bf16) (harg0 : arg0.IsWhole) (arg1 : Memref sig .tc .hbm S8192x11264 .fp8e4m3) (harg1 : arg1.IsWhole) (arg2 : Memref sig .tc .hbm S64x88 .f32) (harg2 : arg2.IsWhole) (arg3 : Memref sig .tc .vmem S8x11264 .bf16) (harg3 : arg3.IsWhole) (arg4 : Memref sig .tc .vmem S8x8192 .fp8e4m3) (harg4 : arg4.IsWhole) (arg5 : Memref sig .tc .vmem S8x64 .f32) (harg5 : arg5.IsWhole) (arg6 : Memref sig .tc .vmem S8x8192 .bf16) (harg6 : arg6.IsWhole) (arg7 : Memref sig .tc .smem S64x88 .f32) (harg7 : arg7.IsWhole) (arg8 : Memref sig .tc .vmem S16x512x5632 .fp8e4m3) (harg8 : arg8.IsWhole) (arg9 : Memref sig .tc .vmem S16x32x512 .fp8e4m3) (harg9 : arg9.IsWhole) (arg10 : Memref sig .tc .vmem S64x8x128 .f32) (harg10 : arg10.IsWhole) (arg11 : Memref sig .tc .vmem S8x11264 .f32) (harg11 : arg11.IsWhole) (arg12 : DmaSems sig S2) (arg13 : DmaSems sig S16) (q q0 q2 : PosShare TreeShare) (W : Buf (Elt F) (arg1.view.loc (c : Thread nD τ))) (X0 : Buf (Elt F) (arg0.view.loc (c : Thread nD τ))) (S0 : Buf (Elt F) (arg2.view.loc (c : Thread nD τ))) (XB : Buf (Elt F) (arg6.view.loc (c : Thread nD τ))) (WS : Buf (Elt F) (arg7.view.loc (c : Thread nD τ)))

theorem codes_pieces : (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.1 = upto (codePiece c arg6 (xIn c arg0 arg6 X0 XB)) 64 := by
  rfl
theorem scales_pieces : (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.2.1
    = [⟨Rect.unit (s := S8x64) ![0, 0] S8x64.size inb_S8x64_S8x64_0_0, scalesTo c arg6 (xIn c arg0 arg6 X0 XB) 64⟩] := by
  rfl
theorem left_pieces : (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.2.2.1 = upto (leftPiece c arg6 (xIn c arg0 arg6 X0 XB)) 64 := by
  rfl
theorem lane_pieces : (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.2.2.2.1 = upto (lanePiece c arg6 (xIn c arg0 arg6 X0 XB)) 64 := by
  rfl
theorem sum_pieces : (prologue c arg0 harg0 arg1 harg1 arg2 harg2 arg3 harg3 arg4 harg4 arg5 harg5 arg6 harg6 arg7 harg7 arg8 harg8 arg9 harg9 arg10 harg10 arg11 harg11 arg12 arg13 q q0 q2 W X0 S0 XB WS).1.2.2.2.2
    = [⟨Rect.unit (s := S8x11264) ![0, 0] S8x11264.size inb_S8x11264_S8x11264_0_0, k0_pay831⟩] := by
  rfl
end

end Cert.KernelIdeal.Hand
end
-- ==== Proof.Scale.lean ====
/-
  The scale of one group of activations, as the kernel finds it (the exponent field of the greatest power of two
  not above a bound) and as the reference finds it (the least power of two above that bound), on the extended reals.
-/
module

public import Idealize.ShloMosaic.Lib.Pointwise

@[expose] public section
set_option maxRecDepth 16384
noncomputable section
namespace Cert.Value
open Idealize.ShloMosaic

/-! ## Powers of two -/

/-- The f32 word with exponent field `k` and nothing else. -/
def word (k : BitVec 32) : EReal := Ideal.ofBits FTy.f32 (IntOp.shli ArithUnit.vector k 23#32)

theorem word_fields : ∀ k : Fin 256,
    ((IntOp.shli ArithUnit.vector (BitVec.ofNat 32 k.val) 23#32).extractLsb' 23 8).toNat = k.val
      ∧ ((IntOp.shli ArithUnit.vector (BitVec.ofNat 32 k.val) 23#32).extractLsb' 0 23).toNat = 0
      ∧ ((IntOp.shli ArithUnit.vector (BitVec.ofNat 32 k.val) 23#32).extractLsb' 31 1 == 1#1) = false := by
  decide +kernel

theorem word_zero : word (BitVec.ofNat 32 0) = 0 := by
  obtain ⟨h1, h2, h3⟩ := word_fields 0
  have h1' := h1; have h2' := h2; have h3' := h3
  simp only [Fin.val_zero] at h1' h2' h3'
  simp [word, Ideal.ofBits, Ideal.ieee, h1', h2', h3']

theorem ieee_pow {b : BitVec 32} {k : ℕ} (h0 : 1 ≤ k) (h1 : k ≤ 254) (e1 : (b.extractLsb' 23 8).toNat = k)
    (e2 : (b.extractLsb' 0 23).toNat = 0) (e3 : (b.extractLsb' 31 1 == 1#1) = false) :
    Ideal.ieee 8 23 b = (((2 : ℝ) ^ ((k : ℤ) - 127) : ℝ) : EReal) := by
  have hne : ¬ k = 255 := by omega
  have hz : ¬ k = 0 := by omega
  have key : (1 * ((2 ^ 23 + 0 : ℕ) : ℝ) * (2 : ℝ) ^ ((k : ℤ) - (2 ^ (8 - 1) - 1) - (23 : ℕ))) = (2 : ℝ) ^ ((k : ℤ) - 127) := by
    have : ((2 ^ 23 + 0 : ℕ) : ℝ) = (2 : ℝ) ^ (23 : ℤ) := by norm_num
    rw [this, one_mul, ← zpow_add₀ (by norm_num)]
    congr 1
    norm_num
  unfold Ideal.ieee
  rw [show (8 + 23 : ℕ) = 31 from rfl, e1, e2, e3]
  rw [show (2 ^ 8 - 1 : ℕ) = 255 from rfl, if_neg hne, if_neg hz]
  exact congrArg _ key

theorem word_pow (k : ℕ) (h0 : 1 ≤ k) (h1 : k ≤ 254) : word (BitVec.ofNat 32 k) = (((2 : ℝ) ^ ((k : ℤ) - 127) : ℝ) : EReal) := by
  obtain ⟨e1, e2, e3⟩ := word_fields ⟨k, by omega⟩
  exact ieee_pow h0 h1 e1 e2 e3

theorem word_top : word (BitVec.ofNat 32 255) = ⊤ := by
  obtain ⟨e1, e2, e3⟩ := word_fields 255
  have e1' : ((IntOp.shli ArithUnit.vector (BitVec.ofNat 32 255) 23#32).extractLsb' 23 8).toNat = 255 := e1
  have e2' : ((IntOp.shli ArithUnit.vector (BitVec.ofNat 32 255) 23#32).extractLsb' 0 23).toNat = 0 := e2
  have e3' : ((IntOp.shli ArithUnit.vector (BitVec.ofNat 32 255) 23#32).extractLsb' 31 1 == 1#1) = false := e3
  simp only [word, Ideal.ofBits, Ideal.ieee, e1', e2', e3']
  norm_num

/-- The reference's table of powers of two. -/
def table (k : ℕ) : EReal := Ideal.exp2 ((((BitVec.ofNat 32 k).toInt : ℝ) : EReal) - Ideal.ofBits FTy.f32 1123811328#32)

theorem ofBits_126 : Ideal.ofBits FTy.f32 1123811328#32 = ((126 : ℝ) : EReal) := by
  have e1 : ((1123811328#32).extractLsb' 23 8).toNat = 133 := by decide
  have e2 : ((1123811328#32).extractLsb' 0 23).toNat = 8126464 := by decide
  have e3 : ((1123811328#32).extractLsb' 31 1 == 1#1) = false := by decide
  simp only [Ideal.ofBits, Ideal.ieee, e1, e2, e3]
  norm_num

theorem table_pow (k : ℕ) (h : k < 254) : table k = (((2 : ℝ) ^ ((k : ℤ) - 126) : ℝ) : EReal) := by
  have hk : ((BitVec.ofNat 32 k).toInt : ℝ) = (k : ℝ) := by
    have : (BitVec.ofNat 32 k).toInt = (k : ℤ) := by
      rw [BitVec.toInt_eq_toNat_of_lt] <;> rw [BitVec.toNat_ofNat, Nat.mod_eq_of_lt (by omega)]
      omega
    rw [this]; norm_num
  rw [table, hk, ofBits_126, ← EReal.coe_sub, Ideal.exp2_coe]
  congr 1
  rw [← Real.rpow_intCast]
  push_cast
  rfl

/-! ## The exponent field -/

theorem maxsi_toInt (x y : BitVec 32) : (IntOp.maxsi x y).toInt = max x.toInt y.toInt := by
  unfold IntOp.maxsi
  rw [BitVec.slt_eq_decide]
  by_cases h : y.toInt < x.toInt
  · simp only [h, decide_true, if_true]; exact (max_eq_left h.le).symm
  · simp only [h, decide_false, Bool.false_eq_true, if_false]; exact (max_eq_right (not_lt.mp h)).symm

/-- The greatest of a family of words, the words read signed. -/
theorem fold_maxsi_eq {n : ℕ} (f : Fin n → BitVec 32) (r : Fin n) (h : ∀ x, (f x).toInt ≤ (f r).toInt) :
    Finset.univ.fold IntOp.maxsi 2147483648#32 f = f r := by
  apply BitVec.eq_of_toInt_eq
  have := Finset.fold_hom (op := IntOp.maxsi (w := 32)) (op' := max) (b := 2147483648#32) (f := f) (s := Finset.univ)
    (m := BitVec.toInt) (fun x y => maxsi_toInt x y)
  rw [← this]
  apply le_antisymm
  · rw [Finset.fold_max_le]
    refine ⟨?_, fun x _ => h x⟩
    have := BitVec.le_toInt (f r)
    have e : (2147483648#32 : BitVec 32).toInt = -2147483648 := by decide
    rw [e]; norm_num at this; exact this
  · rw [Finset.le_fold_max]
    exact Or.inr ⟨r, Finset.mem_univ r, le_rfl⟩

/-- The kernel's exponent field of a bound, and the scale and its inverse made of a field. -/
def field (T : EReal) : BitVec 32 :=
  Finset.univ.fold IntOp.maxsi 2147483648#32 fun x : Fin 256 => if word (BitVec.ofNat 32 x.val) ≤ T then BitVec.ofNat 32 x.val else 0#32
def bump (f : BitVec 32) : BitVec 32 :=
  Scalar.select (IntOp.ori (IntOp.cmpi CmpIPredicate.eq f 0#32) (IntOp.cmpi CmpIPredicate.eq f 255#32)) 127#32 (IntOp.addi f 1#32)

/-- The reference's scale of a bound. -/
def refScale (T : EReal) : EReal :=
  if ((2 : ℝ) ^ (-126 : ℤ) : ℝ) ≤ T then Finset.univ.fold min ⊤ fun x : Fin 254 => if T < table x.val then table x.val else ⊤ else 1

theorem toInt_small (k : ℕ) (h : k < 256) : (BitVec.ofNat 32 k).toInt = (k : ℤ) := by
  rw [BitVec.toInt_eq_toNat_of_lt] <;> rw [BitVec.toNat_ofNat, Nat.mod_eq_of_lt (by omega)]
  omega

theorem field_eq (T : EReal) (e : ℕ) (he : e < 255) (hlo : word (BitVec.ofNat 32 e) ≤ T)
    (hhi : ∀ x, e < x → x < 256 → ¬ word (BitVec.ofNat 32 x) ≤ T) : field T = BitVec.ofNat 32 e := by
  rw [field, fold_maxsi_eq _ (⟨e, by omega⟩ : Fin 256)]
  · simp only [if_pos hlo]
  · intro x
    simp only [if_pos hlo]
    rw [toInt_small e (by omega)]
    split
    · rename_i hx
      rw [toInt_small x.val x.isLt]
      by_contra hlt
      exact hhi x.val (by omega) x.isLt hx
    · show (0 : ℤ) ≤ _
      omega

theorem bump_zero : bump (BitVec.ofNat 32 0) = BitVec.ofNat 32 127 := by decide
theorem bump_pos : ∀ e : Fin 254, 1 ≤ e.val → bump (BitVec.ofNat 32 e.val) = BitVec.ofNat 32 (e.val + 1) := by decide +kernel
theorem sub_bump : ∀ e : Fin 255, IntOp.subi 254#32 (BitVec.ofNat 32 e.val) = BitVec.ofNat 32 (254 - e.val) := by decide +kernel

theorem two_zpow_lt {a b : ℤ} (h : a < b) : (((2 : ℝ) ^ a : ℝ) : EReal) < (((2 : ℝ) ^ b : ℝ) : EReal) :=
  EReal.coe_lt_coe_iff.mpr (zpow_lt_zpow_right₀ (by norm_num) h)
theorem two_zpow_le {a b : ℤ} (h : a ≤ b) : (((2 : ℝ) ^ a : ℝ) : EReal) ≤ (((2 : ℝ) ^ b : ℝ) : EReal) :=
  EReal.coe_le_coe_iff.mpr (zpow_le_zpow_right₀ (by norm_num) h)

/-- The power of two just below a bound between the least normal power and `2 ^ 126`. -/
theorem exists_field (T : EReal) (hlo : (((2 : ℝ) ^ (-126 : ℤ) : ℝ) : EReal) ≤ T) (hhi : T < (((2 : ℝ) ^ (126 : ℤ) : ℝ) : EReal)) :
    ∃ e : ℕ, 1 ≤ e ∧ e ≤ 252 ∧ (((2 : ℝ) ^ ((e : ℤ) - 127) : ℝ) : EReal) ≤ T ∧ T < (((2 : ℝ) ^ ((e : ℤ) - 126) : ℝ) : EReal) := by
  have hne : T ≠ ⊤ := ne_top_of_lt hhi
  have hnb : T ≠ ⊥ := fun h => by rw [h] at hlo; exact absurd hlo (not_le.mpr (EReal.bot_lt_coe _))
  lift T to ℝ using ⟨hne, hnb⟩
  rw [EReal.coe_le_coe_iff] at hlo
  rw [EReal.coe_lt_coe_iff] at hhi
  have hpos : 0 < T := lt_of_lt_of_le (by positivity) hlo
  obtain ⟨n, hn1, hn2⟩ := exists_mem_Ico_zpow hpos (y := (2 : ℝ)) (by norm_num)
  have h1 : -126 < n + 1 := (zpow_lt_zpow_iff_right₀ (by norm_num : (1 : ℝ) < 2)).mp (lt_of_le_of_lt hlo hn2)
  have h2 : n < 126 := (zpow_lt_zpow_iff_right₀ (by norm_num : (1 : ℝ) < 2)).mp (lt_of_le_of_lt hn1 hhi)
  refine ⟨(n + 127).toNat, by omega, by omega, ?_, ?_⟩
  · rw [EReal.coe_le_coe_iff]
    have : (((n + 127).toNat : ℤ) - 127) = n := by omega
    rw [this]; exact hn1
  · rw [EReal.coe_lt_coe_iff]
    have : (((n + 127).toNat : ℤ) - 126) = n + 1 := by omega
    rw [this]; exact hn2

theorem refScale_eq (T : EReal) (e : ℕ) (h1 : 1 ≤ e) (h2 : e ≤ 252) (hlo : (((2 : ℝ) ^ ((e : ℤ) - 127) : ℝ) : EReal) ≤ T)
    (hhi : T < (((2 : ℝ) ^ ((e : ℤ) - 126) : ℝ) : EReal)) : refScale T = (((2 : ℝ) ^ ((e : ℤ) - 126) : ℝ) : EReal) := by
  have hT : (((2 : ℝ) ^ (-126 : ℤ) : ℝ) : EReal) ≤ T := le_trans (two_zpow_le (by omega)) hlo
  rw [refScale, if_pos hT]
  apply le_antisymm
  · rw [Finset.fold_min_le]
    refine Or.inr ⟨⟨e, by omega⟩, Finset.mem_univ _, ?_⟩
    rw [table_pow e (by omega), if_pos hhi]
  · rw [Finset.le_fold_min]
    refine ⟨le_top, fun x _ => ?_⟩
    rw [table_pow x.val x.isLt]
    split
    · rename_i hx
      refine two_zpow_le ?_
      have := lt_of_le_of_lt hlo hx
      rw [EReal.coe_lt_coe_iff, zpow_lt_zpow_iff_right₀ (by norm_num : (1 : ℝ) < 2)] at this
      omega
    · exact le_top

/-- The kernel's scale and inverse scale are the reference's scale and its reciprocal. -/
theorem scale_eq (T : EReal) (h0 : 0 ≤ T) (hhi : T < (((2 : ℝ) ^ (126 : ℤ) : ℝ) : EReal)) :
    word (bump (field T)) = refScale T ∧ word (IntOp.subi 254#32 (bump (field T))) = Ideal.div 1 (refScale T) := by
  by_cases hT : (((2 : ℝ) ^ (-126 : ℤ) : ℝ) : EReal) ≤ T
  · obtain ⟨e, h1, h2, hlo, hup⟩ := exists_field T hT hhi
    have hf : field T = BitVec.ofNat 32 e := by
      refine field_eq T e (by omega) (by rw [word_pow e h1 (by omega)]; exact hlo) fun x hx hx' => ?_
      rw [not_le]
      by_cases h255 : x = 255
      · rw [h255, word_top]; exact lt_of_lt_of_le hhi le_top
      · rw [word_pow x (by omega) (by omega)]
        exact lt_of_lt_of_le hup (two_zpow_le (by omega))
    have hb : bump (BitVec.ofNat 32 e) = BitVec.ofNat 32 (e + 1) := bump_pos ⟨e, by omega⟩ h1
    rw [hf, hb, refScale_eq T e h1 h2 hlo hup, show IntOp.subi 254#32 (BitVec.ofNat 32 (e + 1)) = BitVec.ofNat 32 (254 - (e + 1)) from sub_bump ⟨e + 1, by omega⟩,
      word_pow (e + 1) (by omega) (by omega), word_pow (254 - (e + 1)) (by omega) (by omega)]
    constructor
    · congr 2; push_cast; ring
    · rw [Ideal.div_coe (by positivity), one_mul]
      congr 1
      rw [one_div, ← zpow_neg]
      congr 1
      omega
  · have hf : field T = BitVec.ofNat 32 0 := by
      refine field_eq T 0 (by omega) (by rw [word_zero]; exact h0) fun x hx hx' => ?_
      rw [not_le]
      by_cases h255 : x = 255
      · rw [h255, word_top]; exact lt_of_lt_of_le hhi le_top
      · rw [word_pow x (by omega) (by omega)]
        exact lt_of_lt_of_le (not_le.mp hT) (two_zpow_le (by omega))
    rw [hf, bump_zero, refScale, if_neg hT, show IntOp.subi 254#32 (BitVec.ofNat 32 127) = BitVec.ofNat 32 127 from sub_bump ⟨127, by omega⟩,
      word_pow 127 (by omega) (by omega)]
    norm_num [Ideal.div]

/-! ## The constants of the programs -/

theorem ofBits_least : Ideal.ofBits FTy.f32 8388608#32 = (((2 : ℝ) ^ (-126 : ℤ) : ℝ) : EReal) := by
  have := word_pow 1 le_rfl (by omega)
  rw [word, show IntOp.shli ArithUnit.vector (BitVec.ofNat 32 1) 23#32 = 8388608#32 by decide] at this
  rw [this]; norm_num
theorem ofBits_top : Ideal.ofBits FTy.f32 2139095040#32 = ⊤ := by
  have := word_top
  rwa [word, show IntOp.shli ArithUnit.vector (BitVec.ofNat 32 255) 23#32 = 2139095040#32 by decide] at this
theorem ofBits_bot : Ideal.ofBits FTy.f32 4286578688#32 = ⊥ := by
  have e1 : ((4286578688#32).extractLsb' 23 8).toNat = 255 := by decide
  have e2 : ((4286578688#32).extractLsb' 0 23).toNat = 0 := by decide
  have e3 : ((4286578688#32).extractLsb' 31 1 == 1#1) = true := by decide
  simp only [Ideal.ofBits, Ideal.ieee, e1, e2, e3]
  norm_num
theorem ofBits_ratio : ∃ c : ℝ, Ideal.ofBits FTy.f32 991054117#32 = (c : EReal) ∧ 0 < c ∧ c < 1 / 256 := by
  have e1 : ((991054117#32).extractLsb' 23 8).toNat = 118 := by decide
  have e2 : ((991054117#32).extractLsb' 0 23).toNat = 1198373 := by decide
  have e3 : ((991054117#32).extractLsb' 31 1 == 1#1) = false := by decide
  refine ⟨(2 ^ 23 + 1198373 : ℕ) * (2 : ℝ) ^ ((118 : ℤ) - 127 - 23), ?_, by positivity, ?_⟩
  · simp only [Ideal.ofBits, Ideal.ieee, e1, e2, e3]
    norm_num
  · norm_num
theorem ofBits_bound : ∃ b : ℝ, Ideal.ofBits FTy.f32 2139029504#32 = (b : EReal) ∧ b < (2 : ℝ) ^ (128 : ℤ) := by
  have e1 : ((2139029504#32).extractLsb' 23 8).toNat = 254 := by decide
  have e2 : ((2139029504#32).extractLsb' 0 23).toNat = 8323072 := by decide
  have e3 : ((2139029504#32).extractLsb' 31 1 == 1#1) = false := by decide
  refine ⟨(2 ^ 23 + 8323072 : ℕ) * (2 : ℝ) ^ ((254 : ℤ) - 127 - 23), ?_, ?_⟩
  · simp only [Ideal.ofBits, Ideal.ieee, e1, e2, e3]
    norm_num
  · norm_num

/-- The bound of one group of activations: the greatest magnitude by the constant near 1/448. -/
def bound (x : Fin 128 → EReal) : EReal :=
  Finset.univ.fold max (Ideal.ofBits FTy.f32 4286578688#32) (fun t => max (x t) (-(x t))) * Ideal.ofBits FTy.f32 991054117#32

theorem bound_range (x : Fin 128 → EReal) (h : ∀ t, max (x t) (-(x t)) ≤ Ideal.ofBits FTy.f32 2139029504#32) :
    0 ≤ bound x ∧ bound x < (((2 : ℝ) ^ (126 : ℤ) : ℝ) : EReal) := by
  obtain ⟨c, hc, hc0, hc1⟩ := ofBits_ratio
  obtain ⟨b, hb, hb1⟩ := ofBits_bound
  rw [hb] at h
  have hm0 : (0 : EReal) ≤ Finset.univ.fold max (⊥ : EReal) (fun t : Fin 128 => max (x t) (-(x t))) := by
    rw [Finset.le_fold_max]
    refine Or.inr ⟨0, Finset.mem_univ _, ?_⟩
    rcases le_total 0 (x 0) with h' | h'
    · exact le_max_of_le_left h'
    · exact le_max_of_le_right (EReal.neg_nonneg.mpr h')
  have hm1 : Finset.univ.fold max (⊥ : EReal) (fun t : Fin 128 => max (x t) (-(x t))) ≤ (b : EReal) := by
    rw [Finset.fold_max_le]
    exact ⟨bot_le, fun t _ => h t⟩
  rw [bound, ofBits_bot, hc]
  generalize Finset.univ.fold max (⊥ : EReal) (fun t : Fin 128 => max (x t) (-(x t))) = M at hm0 hm1 ⊢
  have hnt : M ≠ ⊤ := ne_top_of_le_ne_top (EReal.coe_ne_top b) hm1
  have hnb : M ≠ ⊥ := ne_bot_of_le_ne_bot (EReal.coe_ne_bot 0) hm0
  lift M to ℝ using ⟨hnt, hnb⟩
  rw [← EReal.coe_zero, EReal.coe_le_coe_iff] at hm0
  rw [EReal.coe_le_coe_iff] at hm1
  rw [← EReal.coe_mul, ← EReal.coe_zero, EReal.coe_le_coe_iff, EReal.coe_lt_coe_iff]
  refine ⟨by positivity, ?_⟩
  calc M * c ≤ (2 : ℝ) ^ (128 : ℤ) * c := mul_le_mul_of_nonneg_right (hm1.trans hb1.le) hc0.le
    _ < (2 : ℝ) ^ (128 : ℤ) * (1 / 256) := mul_lt_mul_of_pos_left hc1 (by positivity)
    _ ≤ (2 : ℝ) ^ (126 : ℤ) := by norm_num

end Cert.Value
end
-- ==== Proof.Spec.lean ====
/-
  What the three results hold, index by index, and that the reference's terms are these.
-/
module

public import proofs.«01_k».proof.Proof.Scale
public import proofs.«01_k».proof.Proof.Gen.ReferenceIdeal.Skeleton

@[expose] public section
set_option maxRecDepth 16384
noncomputable section
namespace Cert.Value
open Idealize.ShloMosaic

abbrev XS : Shape := ⟨2, ![8, 8192]⟩
abbrev WSh : Shape := ⟨2, ![8192, 11264]⟩
abbrev SS : Shape := ⟨2, ![64, 88]⟩

variable (X : XS.Idx → EReal) (W : WSh.Idx → EReal) (S : SS.Idx → EReal)

/-- Group `g` of row `i`. -/
def group (i : Fin 8) (g : Fin 64) : Fin 128 → EReal := fun t => X (ix2 i ⟨g.val * 128 + t.val, by omega⟩)
/-- Its scale. -/
def scale (i : Fin 8) (g : Fin 64) : EReal := refScale (bound (group X i g))
/-- A code: the activation over its group's scale, clipped. -/
def code (i : Fin 8) (d : Fin 8192) : EReal :=
  min (Ideal.ofBits FTy.f32 1138753536#32) (max (Ideal.ofBits FTy.f32 3286237184#32) (X (ix2 i d) * Ideal.div 1 (scale X i ⟨d.val / 128, by omega⟩)))
/-- One group's contribution to an output. -/
def part (i : Fin 8) (d : Fin 11264) (g : Fin 64) : EReal :=
  (∑ t : Fin 128, code X i ⟨g.val * 128 + t.val, by omega⟩ * W (ix2 ⟨g.val * 128 + t.val, by omega⟩ d)) * (scale X i g * S (ix2 g ⟨d.val / 128, by omega⟩))
/-- An output. -/
def output (i : Fin 8) (d : Fin 11264) : EReal := ∑ g : Fin 64, part X W S i d g

theorem ref_scale (i : Fin 8) (g : Fin 64) : Cert.ReferenceIdeal.Gen.k0_pay4 (F := Ideal) X (ix2 i g) = scale X i g := by
  pointwise [Cert.ReferenceIdeal.Gen.k0_pay4, Cert.ReferenceIdeal.Gen.k0_pay3]
  rw [ofBits_least, ofBits_top]
  rfl

theorem ref_code3 (i : Fin 8) (g : Fin 64) (t : Fin 128) :
    Cert.ReferenceIdeal.Gen.k0_pay5 (F := Ideal) X (ix3 i g t) = code X i ⟨g.val * 128 + t.val, by omega⟩ := by
  pointwise [Cert.ReferenceIdeal.Gen.k0_pay5, Cert.ReferenceIdeal.Gen.k0_pay3]
  rw [ref_scale, code]
  have : (⟨(g.val * 128 + t.val) / 128, by omega⟩ : Fin 64) = g := Fin.ext (by show (g.val * 128 + t.val) / 128 = g.val; omega)
  simp only [this]

theorem ref_code (i : Fin 8) (d : Fin 8192) :
    Cert.ReferenceIdeal.Gen.k0_pay2 (F := Ideal) (Cert.ReferenceIdeal.Gen.k0_pay5 (F := Ideal) X) (ix2 i d) = code X i d := by
  pointwise [Cert.ReferenceIdeal.Gen.k0_pay2, Cert.ReferenceIdeal.Gen.k0_pay5, Cert.ReferenceIdeal.Gen.k0_pay3]
  rw [ref_scale, code]

theorem ref_output (i : Fin 8) (d : Fin 11264) :
    Cert.ReferenceIdeal.Gen.k0_pay1 (F := Ideal) (Cert.ReferenceIdeal.Gen.k0_pay6 (F := Ideal) X W) (Cert.ReferenceIdeal.Gen.k0_pay7 (F := Ideal) X) S (ix2 i d)
      = output X W S i d := by
  pointwise [Cert.ReferenceIdeal.Gen.k0_pay1, Cert.ReferenceIdeal.Gen.k0_pay6, Cert.ReferenceIdeal.Gen.k0_pay7]
  refine Finset.sum_congr rfl fun g _ => ?_
  rw [ref_scale, part]
  congr 1
  refine Finset.sum_congr rfl fun t _ => ?_
  rw [ref_code3]

/-! ## Sums by trips -/

/-- The contributions of the first `n` groups. -/
def sumTo (i : Fin 8) (d : Fin 11264) (n : ℕ) : EReal :=
  ∑ g ∈ Finset.range n, if h : g < 64 then part X W S i d ⟨g, h⟩ else 0

theorem sumTo_zero (i : Fin 8) (d : Fin 11264) : sumTo X W S i d 0 = 0 := by simp [sumTo]
theorem sumTo_all (i : Fin 8) (d : Fin 11264) : sumTo X W S i d 64 = output X W S i d := by
  rw [sumTo, output, Finset.sum_range]
  exact Finset.sum_congr rfl fun g _ => by rw [dif_pos g.isLt]
theorem sumTo_four (i : Fin 8) (d : Fin 11264) (k : ℕ) (hk : k < 16) :
    sumTo X W S i d (4 * (k + 1)) = sumTo X W S i d (4 * k) + part X W S i d ⟨4 * k + 0, by omega⟩ + part X W S i d ⟨4 * k + 1, by omega⟩
      + part X W S i d ⟨4 * k + 2, by omega⟩ + part X W S i d ⟨4 * k + 3, by omega⟩ := by
  rw [sumTo, show 4 * (k + 1) = 4 * k + 0 + 1 + 1 + 1 + 1 by ring, Finset.sum_range_succ, Finset.sum_range_succ, Finset.sum_range_succ, Finset.sum_range_succ,
    dif_pos (by omega), dif_pos (by omega), dif_pos (by omega), dif_pos (by omega)]
  rfl

/-- A product over four stacked stripes, all but one of them zero, is the product over that stripe. -/
theorem sum_stripe (r : Fin 4) (a w : Fin 512 → EReal) :
    (∑ t : Fin 512, (if r.val = t.val / 128 then a t else 0) * w t)
      = ∑ t : Fin 128, a ⟨128 * r.val + t.val, by omega⟩ * w ⟨128 * r.val + t.val, by omega⟩ := by
  have : ∀ t : Fin 512, (if r.val = t.val / 128 then a t else 0) * w t = if r.val = t.val / 128 then a t * w t else 0 := fun t => by
    split <;> simp
  rw [Finset.sum_congr rfl fun t _ => this t, ← Finset.sum_filter]
  symm
  refine Finset.sum_bij (fun t _ => (⟨128 * r.val + t.val, by omega⟩ : Fin 512)) ?_ ?_ ?_ ?_
  · intro t _
    simp only [Finset.mem_filter, Finset.mem_univ, true_and]
    omega
  · intro t _ t' _ h
    have := Fin.mk.inj h
    exact Fin.ext (by omega)
  · intro t ht
    simp only [Finset.mem_filter, Finset.mem_univ, true_and] at ht
    exact ⟨⟨t.val - 128 * r.val, by omega⟩, Finset.mem_univ _, Fin.ext (by show 128 * r.val + (t.val - 128 * r.val) = t.val; omega)⟩
  · intro t _; rfl

end Cert.Value
end
-- ==== Proof.Read.lean ====
/-
  What the kernel's writes before the loop leave, read at an index: the codes, the stacked codes, the scales by lane
  and the scales.
-/
module

public import proofs.«01_k».proof.Proof.Groups
public import proofs.«01_k».proof.Proof.Spec
public import Idealize.ShloMosaic.Lib.Pipeline.ValueKit.Tiles

@[expose] public section
set_option maxRecDepth 16384
noncomputable section
namespace Cert.Value
open Idealize.ShloMosaic Idealize.ShloMosaic.TcCoe
open Cert.KernelIdeal Cert.KernelIdeal.Gen Cert.KernelIdeal.Hand

/-- A buffer written piece by piece, read at an index at which every piece that holds it has one value. -/
theorem read_upto {sig : RefSig} {κ : Kind} {sp : Space} {s : Shape} {e : EltTy} {Val : EltTy → Type} [∀ e, Nonempty (Val e)]
    (v : View sig κ sp s e) (f0 : v.ty.Contents Val) (P : ℕ → View.Piece Val s e) (N : ℕ) (y : s.Idx) (val : Val e)
    (n : ℕ) (hn : n < N) (x : (P n).1.shape.Idx) (hx : (P n).1.emb x = y)
    (hall : ∀ n, n < N → ∀ x, (P n).1.emb x = y → (P n).2 x = val) : v.read Val (v.writes Val f0 (upto P N)) y = val := by
  have hc : ∃ p ∈ upto P N, y ∈ p.1.set :=
    ⟨P n, (mem_upto P N _).mpr ⟨n, hn, rfl⟩, by rw [← Rect.map_emb_univ, ← hx]; exact Finset.mem_map_of_mem _ (Finset.mem_univ x)⟩
  rw [View.read_writes_apply_eq_canon v f0 y _ hc]
  refine View.canon_eq_of_allAt _ y val hc fun p hp => ?_
  obtain ⟨i, hi, rfl⟩ := (mem_upto P N p).mp hp
  exact hall i hi

theorem unit_idx {s : Shape} {off size : Fin s.rank → ℕ} (h) (x : (Rect.unit (s := s) off size h).shape.Idx) (y : s.Idx)
    (hy : ∀ a, (y a).val = off a + (x a).val) : (Rect.unit off size h).toLoadRect.idx x = y :=
  funext fun a => Fin.ext ((Rect.idx_unit_val off size h x a).trans (hy a).symm)

theorem unit_emb {s : Shape} {off size : Fin s.rank → ℕ} (h) (x : (Rect.unit (s := s) off size h).shape.Idx) (y : s.Idx)
    (hy : ∀ a, (y a).val = off a + (x a).val) : (Rect.unit off size h).emb x = y :=
  unit_idx h x y hy

theorem of_unit_emb {s : Shape} {off size : Fin s.rank → ℕ} (h) {x : (Rect.unit (s := s) off size h).shape.Idx} {y : s.Idx}
    (hy : (Rect.unit off size h).emb x = y) (a : Fin s.rank) : (y a).val = off a + (x a).val := by
  rw [← hy]; exact Rect.idx_unit_val off size h x a

theorem ofNat_val (N n : ℕ) [NeZero N] (h : n < N) : (Fin.ofNat N n).val = n := Nat.mod_eq_of_lt h

variable (c : Dev nD) (XI : Buf (Elt Ideal) ((Memref.whole cc0_scratch0).view.loc (c : Thread nD τ))) (X : XS.Idx → EReal)

/-! ## One group -/

section Group
variable (v : Vec Ideal S8x128 .bf16) (i : Fin 8) (g : Fin 64) (hv : ∀ t, v (ix2 i t) = group X i g t)
include hv

theorem field_apply : k0_pay213 v (ix2 i 0) = field (bound (group X i g)) := by
  pointwise [k0_pay213, k0_pay212]
  simp only [hv]
  rfl

variable (hX : ∀ y, max (X y) (-(X y)) ≤ Ideal.ofBits FTy.f32 2139029504#32)
include hX

theorem scaleOf_apply : scaleOf v (ix2 i 0) = scale X i g := by
  pointwise [scaleOf, k0_pay216, k0_pay215, k0_pay214]
  rw [field_apply X v i g hv]
  obtain ⟨h0, h1⟩ := bound_range (group X i g) fun t => hX _
  exact (scale_eq _ h0 h1).1

theorem codesOf_apply (t : Fin 128) : codesOf v (ix2 i t) = code X i ⟨g.val * 128 + t.val, by omega⟩ := by
  pointwise [codesOf, k0_pay217, k0_pay215, k0_pay214, k0_pay212]
  rw [field_apply X v i g hv, hv]
  obtain ⟨h0, h1⟩ := bound_range (group X i g) fun t => hX _
  rw [code]
  have : (⟨(g.val * 128 + t.val) / 128, by omega⟩ : Fin 64) = g := Fin.ext (by show (g.val * 128 + t.val) / 128 = g.val; omega)
  simp only [this]
  rw [scale, ← (scale_eq _ h0 h1).2]
  rfl
end Group

/-! ## The lists -/

variable (hXI : ∀ y, XI y = X y) (hX : ∀ y, max (X y) (-(X y)) ≤ Ideal.ofBits FTy.f32 2139029504#32)

include hXI in
theorem groupAt_apply (g : Fin 64) (i : Fin 8) (t : Fin 128) : groupAt c (Memref.whole cc0_scratch0) XI g (ix2 i t) = group X i g t := by
  refine (congrArg XI (unit_idx (s := S8x8192) (group_inb g) (ix2 i t : S8x128.Idx) (ix2 i ⟨g.val * 128 + t.val, by omega⟩) fun a => ?_)).trans (hXI _)
  fin_cases a
  · show i.val = 0 + i.val; omega
  · show g.val * 128 + t.val = 128 * g.val + t.val; omega

include hXI hX

theorem codes_read {v : View sig .tc .vmem S8x8192 .fp8e4m3} (f0 : v.ty.Contents (Elt Ideal)) (i : Fin 8) (d : Fin 8192) :
    v.read (Elt Ideal) (v.writes (Elt Ideal) f0 (upto (codePiece c (Memref.whole cc0_scratch0) XI) 64)) (ix2 i d) = code X i d := by
  refine read_upto v f0 _ 64 _ _ (d.val / 128) (by omega) (ix2 i ⟨d.val % 128, by omega⟩ : S8x128.Idx) (unit_emb (group_inb _) _ _ ?_) ?_
  · intro a
    fin_cases a
    · show i.val = 0 + i.val; omega
    · show d.val = 128 * (Fin.ofNat 64 (d.val / 128)).val + d.val % 128
      rw [ofNat_val _ _ (by omega)]; omega
  · intro n hn x hx
    change S8x128.Idx at x
    have h0 : i.val = 0 + (x 0).val := of_unit_emb (group_inb _) hx 0
    have h1 : d.val = 128 * (Fin.ofNat 64 n).val + (x 1).val := of_unit_emb (group_inb _) hx 1
    have hl : (x 1).val < 128 := (x 1).isLt
    obtain ⟨a, b, rfl⟩ : ∃ (a : Fin 8) (b : Fin 128), x = ix2 a b := ⟨x 0, x 1, eq_ix2 x⟩
    have h0 : i.val = 0 + a.val := h0
    have h1 : d.val = 128 * (Fin.ofNat 64 n).val + b.val := h1
    obtain rfl : a = i := Fin.ext (by omega)
    show codesOf (F := Ideal) _ (ix2 a b) = _
    rw [codesOf_apply X _ a (Fin.ofNat 64 n) (groupAt_apply c XI X hXI _ a) hX]
    congr 1
    exact Fin.ext (by show (Fin.ofNat 64 n).val * 128 + b.val = d.val; omega)

theorem lane_read {v : View sig .tc .vmem S64x8x128 .f32} (f0 : v.ty.Contents (Elt Ideal)) (g : Fin 64) (i : Fin 8) (l : Fin 128) :
    v.read (Elt Ideal) (v.writes (Elt Ideal) f0 (upto (lanePiece c (Memref.whole cc0_scratch0) XI) 64)) (ix3 g i l) = scale X i g := by
  refine read_upto v f0 _ 64 _ _ g.val g.isLt (ix3 0 i l : S1x8x128.Idx) (unit_emb (lane_inb _) _ _ ?_) ?_
  · intro a
    fin_cases a
    · show g.val = (Fin.ofNat 64 g.val).val + 0
      rw [ofNat_val _ _ g.isLt]; omega
    · show i.val = 0 + i.val; omega
    · show l.val = 0 + l.val; omega
  · intro n hn x hx
    change S1x8x128.Idx at x
    obtain ⟨z, a, b, rfl⟩ : ∃ (z : Fin 1) (a : Fin 8) (b : Fin 128), x = ix3 z a b := ⟨x 0, x 1, x 2, eq_ix3 x⟩
    have h0 : g.val = (Fin.ofNat 64 n).val + z.val := of_unit_emb (lane_inb _) hx 0
    have h1 : i.val = 0 + a.val := of_unit_emb (lane_inb _) hx 1
    obtain rfl : a = i := Fin.ext (by omega)
    obtain rfl : Fin.ofNat 64 n = g := Fin.ext (by omega)
    rw [← scaleOf_apply X _ a (Fin.ofNat 64 n) (groupAt_apply c XI X hXI _ a) hX]
    show k0_pay220 (F := Ideal) _ _ (ix3 z a b) = _
    pointwise [k0_pay220, scaleOf]

theorem scalesTo_read (n : ℕ) (i : Fin 8) (g : Fin 64) (h : g.val < n) (hn : n ≤ 64) :
    scalesTo c (Memref.whole cc0_scratch0) XI n (ix2 i g) = scale X i g := by
  induction n with
  | zero => omega
  | succ n ih =>
    have e : ((BitVec.ofNat 32 g.val = BitVec.ofNat 32 n) ↔ g.val = n) := by
      constructor
      · intro h'
        have := congrArg BitVec.toNat h'
        simp only [BitVec.toNat_ofNat] at this
        omega
      · intro h'; rw [h']
    pointwise [scalesTo]
    by_cases hg : g.val = n
    · rw [e.mpr hg, IntOp.cmpi_eq_self]
      show scaleOf (F := Ideal) _ (ix2 i 0) = _
      have hgn : Fin.ofNat 64 n = g := Fin.ext (by rw [ofNat_val _ _ (by omega)]; exact hg.symm)
      rw [hgn]
      exact scaleOf_apply X _ i g (groupAt_apply c XI X hXI _ i) hX
    · have hc : IntOp.cmpi CmpIPredicate.eq (BitVec.ofNat 32 g.val) (BitVec.ofNat 32 n) = 0#1 := by
        show BitVec.ofBool (BitVec.ofNat 32 g.val == BitVec.ofNat 32 n) = 0#1
        rw [beq_eq_false_iff_ne.mpr fun h' => hg (e.mp h')]; rfl
      rw [hc]
      show scalesTo (F := Ideal) _ _ _ _ (ix2 i g) = _
      exact ih (by omega) (by omega)

theorem left_read {v : View sig .tc .vmem S16x32x512 .fp8e4m3} (f0 : v.ty.Contents (Elt Ideal)) (k : Fin 16) (r : Fin 4) (i : Fin 8) (t : Fin 512) :
    v.read (Elt Ideal) (v.writes (Elt Ideal) f0 (upto (leftPiece c (Memref.whole cc0_scratch0) XI) 64)) (ix3 k ⟨8 * r.val + i.val, by omega⟩ t)
      = if r.val = t.val / 128 then code X i ⟨512 * k.val + t.val, by omega⟩ else 0 := by
  refine read_upto v f0 _ 64 _ _ (4 * k.val + t.val / 128) (by omega) (ix3 0 ⟨8 * r.val + i.val, by omega⟩ ⟨t.val % 128, by omega⟩ : S1x32x128.Idx) (unit_emb (left_inb _) _ _ ?_) ?_
  · intro a
    fin_cases a
    · show k.val = (Fin.ofNat 64 (4 * k.val + t.val / 128)).val / 4 + 0
      rw [ofNat_val _ _ (by omega)]; omega
    · show 8 * r.val + i.val = 0 + (8 * r.val + i.val); omega
    · show t.val = 128 * ((Fin.ofNat 64 (4 * k.val + t.val / 128)).val % 4) + t.val % 128
      rw [ofNat_val _ _ (by omega)]; omega
  · intro n hn x hx
    change S1x32x128.Idx at x
    obtain ⟨z, a, b, rfl⟩ : ∃ (z : Fin 1) (a : Fin 32) (b : Fin 128), x = ix3 z a b := ⟨x 0, x 1, x 2, eq_ix3 x⟩
    have h0 : k.val = (Fin.ofNat 64 n).val / 4 + z.val := of_unit_emb (left_inb _) hx 0
    have h1 : 8 * r.val + i.val = 0 + a.val := of_unit_emb (left_inb _) hx 1
    have h2 : t.val = 128 * ((Fin.ofNat 64 n).val % 4) + b.val := of_unit_emb (left_inb _) hx 2
    show stacked (F := Ideal) (Fin.ofNat 64 n).val _ (ix3 z a b) = _
    generalize hg : Fin.ofNat 64 n = g at h0 h1 h2 ⊢
    have hv := groupAt_apply c XI X hXI g i
    generalize groupAt c (Memref.whole cc0_scratch0) XI g = w at hv ⊢
    have hcode : codesOf w (ix2 i b) = code X i ⟨512 * k.val + t.val, by omega⟩ := by
      rw [codesOf_apply X _ i g hv hX]
      congr 1
      exact Fin.ext (by show g.val * 128 + b.val = 512 * k.val + t.val; omega)
    rw [← hcode]
    have hz : (zeros (F := Ideal)) (ix2 i b) = 0 := by pointwise [zeros, k0_pay211]
    have hrow : ∀ s : ℕ, s < 4 → row (F := Ideal) (g.val % 4) s w (ix2 i b) = if s = g.val % 4 then codesOf w (ix2 i b) else 0 := by
      intro s hs
      have h4 : g.val % 4 < 4 := Nat.mod_lt _ (by decide)
      generalize g.val % 4 = p at h4 ⊢
      have hs' : s = 0 ∨ s = 1 ∨ s = 2 ∨ s = 3 := by omega
      have hp' : p = 0 ∨ p = 1 ∨ p = 2 ∨ p = 3 := by omega
      rcases hs' with rfl | rfl | rfl | rfl <;> rcases hp' with rfl | rfl | rfl | rfl <;> first | rfl | exact hz
    have hr : (t.val / 128) = g.val % 4 := by omega
    rw [hr, ← hrow r.val r.isLt]
    pointwise [stacked]
    fin_vals r with hr4
    all_goals
      rw [hr4]
      repeat' split
      all_goals first
        | (exfalso; omega)
        | (refine congrArg (fun i' : Fin 8 => row (F := Ideal) (g.val % 4) _ w (ix2 i' b)) (Fin.ext ?_)
           dsimp only
           omega)

end Cert.Value
end
-- ==== Proof.Block.lean ====
/-
  One trip of the loop, read at an index: each trip adds four groups' contributions to every output.
-/
module

public import proofs.«01_k».proof.Proof.Read
public import proofs.«01_k».proof.Proof.Loop

@[expose] public section
set_option maxRecDepth 16384
noncomputable section
namespace Cert.Value
open Idealize.ShloMosaic Idealize.ShloMosaic.TcCoe
open Cert.KernelIdeal Cert.KernelIdeal.Gen Cert.KernelIdeal.Hand

/-! ## Where a trip reads -/

theorem trips_lt (k : Fin k0_t1_loop.trips) : k.val < 16 := Nat.lt_of_lt_of_eq k.isLt (by decide)

theorem at_left : ∀ k : Fin k0_t1_loop.trips, k0_off4 k 0 = k.val ∧ k0_off4 k 1 = 0 ∧ k0_off4 k 2 = 0 := by decide +kernel
theorem at_lane : ∀ (k : Fin k0_t1_loop.trips) (r : Fin 4), k0_off5 k (BitVec.ofNat 32 r) 0 = 4 * k.val + r.val
    ∧ k0_off5 k (BitVec.ofNat 32 r) 1 = 0 ∧ k0_off5 k (BitVec.ofNat 32 r) 2 = 0 := by decide +kernel
theorem at_row : ∀ (k : Fin k0_t1_loop.trips) (r : Fin 4), k0_off7 k (BitVec.ofNat 32 r) 0 = 4 * k.val + r.val := by decide +kernel
theorem at_slot : ∀ (k : Fin k0_t1_loop.trips) (p : Fin 2), k0_off6 k (BitVec.ofNat 32 p) 0 = k0_off2 k (BitVec.ofNat 32 p) 0
    ∧ k0_off2 k (BitVec.ofNat 32 p) 1 = 0 ∧ k0_off2 k (BitVec.ofNat 32 p) 2 = 0 := by decide +kernel
theorem at_rows : ∀ k : Fin k0_t1_loop.trips, k0_off3 k 0 = 512 * k.val ∧ k0_off3 k 1 = 0 ∧ k0_off64 k 0 = 512 * k.val ∧ k0_off64 k 1 = 5632 := by decide +kernel

/-- A load of the whole buffer behind a name, at an index. -/
theorem load_apply {s : Shape} {sp : Space} {e : EltTy} (v : View sig .tc sp s e) {off size : Fin s.rank → ℕ} (h) (f : v.ty.Contents (Elt Ideal))
    (x : (Rect.unit (s := s) off size h).shape.Idx) (y : s.Idx) (hy : ∀ a, (y a).val = off a + (x a).val) :
    v.readAt (Elt Ideal) (Rect.unit off size h).toLoadRect f x = v.read (Elt Ideal) f y :=
  congrArg (v.read (Elt Ideal) f) (unit_idx h x y hy)

/-- A slot written whole, read in the slot's own coordinates. -/
theorem slot_read (c : Dev nD) (off : Fin 3 → ℕ) (hp) (G : Buf (Elt Ideal) ((Memref.whole cc0_scratch2).view.loc (c : Thread nD τ)))
    (w : S512x5632.Idx → EReal) (a : Fin 512) (b : Fin 5632) :
    (Memref.whole cc0_scratch2).view.read (Elt Ideal) ((slotM (Memref.whole cc0_scratch2) off hp).view.writes (Elt Ideal) G [⟨Rect.whole S512x5632, w⟩])
        ((Rect.unit (s := S16x512x5632) off S1x512x5632.size hp).emb (ix3 0 a b : S1x512x5632.Idx)) = w (ix2 a b) := by
  have e := congrFun (View.read_writes_whole (Val := Elt Ideal) (slotM (Memref.whole cc0_scratch2) off hp).view G w) (ix2 a b)
  generalize (slotM (Memref.whole cc0_scratch2) off hp).view.writes (Elt Ideal) G [⟨Rect.whole S512x5632, w⟩] = f at e ⊢
  rw [Memref.read_squeeze_slice (Memref.whole cc0_scratch2) _ _ _ squeezes_S1x512x5632_S512x5632.numel_eq] at e
  rw [← e]
  have key : ∀ x : FVec Ideal S1x512x5632 .fp8e4m3, shapeCast S512x5632 x squeezes_S1x512x5632_S512x5632.numel_eq (ix2 a b) = x (ix3 0 a b) := by
    intro x; pointwise []
  exact (key fun z => (Memref.whole cc0_scratch2).view.read (Elt Ideal) f ((Rect.unit (s := S16x512x5632) off S1x512x5632.size hp).emb z)).symm

/-- A slot in which a block of the weight has landed, read in the block's own coordinates. -/
theorem landed_read (c : Dev nD) (off : Fin 3 → ℕ) (hp) (r : Fin 2 → ℕ) (hr) (Wb : Buf (Elt Ideal) ((Memref.whole main_arg1).view.loc (c : Thread nD τ)))
    (G : Buf (Elt Ideal) ((Memref.whole cc0_scratch2).view.loc (c : Thread nD τ))) (a : Fin 512) (b : Fin 5632) :
    (Memref.whole cc0_scratch2).view.read (Elt Ideal) (landed c (Memref.whole main_arg1) (Memref.whole cc0_scratch2) off hp r hr Wb G)
        ((Rect.unit (s := S16x512x5632) off S1x512x5632.size hp).emb (ix3 0 a b : S1x512x5632.Idx))
      = Wb ((Rect.unit (s := S8192x11264) r S512x5632.size hr).emb (ix2 a b : S512x5632.Idx)) :=
  slot_read c off hp G _ a b

theorem landed_at (c : Dev nD) (off : Fin 3 → ℕ) (hp) (r : Fin 2 → ℕ) (hr) (Wb : Buf (Elt Ideal) ((Memref.whole main_arg1).view.loc (c : Thread nD τ)))
    (W : WSh.Idx → EReal) (hWb : ∀ y, Wb y = W y) (G : Buf (Elt Ideal) ((Memref.whole cc0_scratch2).view.loc (c : Thread nD τ))) (a : Fin 512) (b : Fin 5632)
    (y : WSh.Idx) (h0 : (y 0).val = r 0 + a.val) (h1 : (y 1).val = r 1 + b.val) :
    (Memref.whole cc0_scratch2).view.read (Elt Ideal) (landed c (Memref.whole main_arg1) (Memref.whole cc0_scratch2) off hp r hr Wb G)
        ((Rect.unit (s := S16x512x5632) off S1x512x5632.size hp).emb (ix3 0 a b : S1x512x5632.Idx)) = W y := by
  have e : (Rect.unit (s := S8192x11264) r S512x5632.size hr).emb (ix2 a b : S512x5632.Idx) = y := unit_emb hr _ y fun x => by
    fin_cases x
    · exact h0
    · exact h1
  rw [landed_read, e]
  exact hWb y

variable (c : Dev nD) (k : Fin k0_t1_loop.trips) (X : XS.Idx → EReal) (W : WSh.Idx → EReal) (S : SS.Idx → EReal)

section Dot
variable (L : Buf (Elt Ideal) ((Memref.whole cc0_scratch3).view.loc (c : Thread nD τ)))
  (hL : ∀ (k : Fin 16) (r : Fin 4) (i : Fin 8) (t : Fin 512), (Memref.whole cc0_scratch3).view.read (Elt Ideal) L (ix3 k ⟨8 * r.val + i.val, by omega⟩ t)
    = if r.val = t.val / 128 then code X i ⟨512 * k.val + t.val, by omega⟩ else 0)
include hL

theorem lhs_apply (r : Fin 4) (i : Fin 8) (t : Fin 512) : lhsAt c k (Memref.whole cc0_scratch3) L (ix2 ⟨8 * r.val + i.val, by omega⟩ t)
    = if r.val = t.val / 128 then code X i ⟨512 * k.val + t.val, by have := trips_lt k; omega⟩ else 0 := by
  pointwise [lhsAt, k0_pay2]
  refine (load_apply (Memref.whole cc0_scratch3).view _ L _ (ix3 ⟨k.val, trips_lt k⟩ ⟨8 * r.val + i.val, by omega⟩ t) fun a => ?_).trans (hL _ r i t)
  obtain ⟨h0, h1, h2⟩ := at_left k
  fin_cases a
  · show k.val = k0_off4 k 0 + 0; omega
  · show 8 * r.val + i.val = k0_off4 k 1 + (8 * r.val + i.val); omega
  · show t.val = k0_off4 k 2 + t.val; omega

theorem dot_apply (p : Fin 2) (q : Fin 11) (G : Buf (Elt Ideal) ((Memref.whole cc0_scratch2).view.loc (c : Thread nD τ)))
    (hp : ∀ a, k0_off2 k (BitVec.ofNat 32 p) a + S1x512x5632.size a ≤ S16x512x5632.size a)
    (hG : ∀ (a : Fin 512) (b : Fin 5632), (Memref.whole cc0_scratch2).view.read (Elt Ideal) G
        ((Rect.unit (s := S16x512x5632) (k0_off2 k (BitVec.ofNat 32 p)) S1x512x5632.size hp).emb (ix3 0 a b : S1x512x5632.Idx))
      = W (ix2 ⟨512 * k.val + a.val, by have := trips_lt k; omega⟩ ⟨5632 * p.val + b.val, by omega⟩))
    (r : Fin 4) (i : Fin 8) (x : Fin 512) :
    dotAt c k (Memref.whole cc0_scratch2) (Memref.whole cc0_scratch3) L p q G (ix2 ⟨8 * r.val + i.val, by omega⟩ x)
      = ∑ t : Fin 128, code X i ⟨(4 * k.val + r.val) * 128 + t.val, by have := trips_lt k; omega⟩
          * W (ix2 ⟨(4 * k.val + r.val) * 128 + t.val, by have := trips_lt k; omega⟩ ⟨5632 * p.val + 512 * q.val + x.val, by omega⟩) := by
  have hk := trips_lt k
  have hT : ∀ t : Fin 512, (Memref.whole cc0_scratch2).view.readAt (Elt Ideal) (Rect.unit (s := S16x512x5632) ![k0_off6 k (BitVec.ofNat 32 p) 0, 0, 512 * q.val] S1x512x512.size (tile_inb k p q)).toLoadRect G
      (ix3 0 t x : S1x512x512.Idx) = W (ix2 ⟨512 * k.val + t.val, by omega⟩ ⟨5632 * p.val + 512 * q.val + x.val, by omega⟩) := fun t => by
    refine (load_apply (Memref.whole cc0_scratch2).view _ G _ _ fun a => ?_).trans ((hG t ⟨512 * q.val + x.val, by omega⟩).trans ?_)
    · obtain ⟨h0, h1, h2⟩ := at_slot k p
      have e := of_unit_emb (s := S16x512x5632) hp (x := (ix3 0 t ⟨512 * q.val + x.val, by omega⟩ : S1x512x5632.Idx)) rfl a
      rw [e]
      fin_cases a
      · show k0_off2 k (BitVec.ofNat 32 p) 0 + 0 = k0_off6 k (BitVec.ofNat 32 p) 0 + 0; omega
      · show k0_off2 k (BitVec.ofNat 32 p) 1 + t.val = 0 + t.val; omega
      · show k0_off2 k (BitVec.ofNat 32 p) 2 + (512 * q.val + x.val) = 512 * q.val + x.val; omega
    · refine congrArg W (congrArg (ix2 _) (Fin.ext ?_))
      show 5632 * p.val + (512 * q.val + x.val) = 5632 * p.val + 512 * q.val + x.val
      omega
  pointwise [dotAt, k0_pay7]
  refine (Finset.sum_congr rfl fun t _ => by rw [lhs_apply c k X L hL r i t, hT t]).trans ?_
  refine (sum_stripe r (fun t => code X i ⟨512 * k.val + t.val, by omega⟩) (fun t => W (ix2 ⟨512 * k.val + t.val, by omega⟩ ⟨5632 * p.val + 512 * q.val + x.val, by omega⟩))).trans ?_
  refine Finset.sum_congr rfl fun t _ => ?_
  have e : 512 * k.val + (128 * r.val + t.val) = (4 * k.val + r.val) * 128 + t.val := by omega
  simp only [e]

end Dot

theorem xs_apply (Xb : Buf (Elt Ideal) ((Memref.whole cc0_scratch4).view.loc (c : Thread nD τ)))
    (hXb : ∀ (g : Fin 64) (i : Fin 8) (l : Fin 128), (Memref.whole cc0_scratch4).view.read (Elt Ideal) Xb (ix3 g i l) = scale X i g)
    (r : Fin 4) (h) (i : Fin 8) (l : Fin 128) :
    xsAt c k (Memref.whole cc0_scratch4) Xb (BitVec.ofNat 32 r) h (ix2 i l) = scale X i ⟨4 * k.val + r.val, by have := trips_lt k; omega⟩ := by
  have hk := trips_lt k
  pointwise [xsAt, k0_pay3]
  refine (load_apply (Memref.whole cc0_scratch4).view _ Xb _ (ix3 ⟨4 * k.val + r.val, by omega⟩ i l) fun a => ?_).trans (hXb _ i l)
  obtain ⟨h0, h1, h2⟩ := at_lane k r
  fin_cases a
  · show 4 * k.val + r.val = k0_off5 k (BitVec.ofNat 32 r) 0 + 0; omega
  · show i.val = k0_off5 k (BitVec.ofNat 32 r) 1 + i.val; omega
  · show l.val = k0_off5 k (BitVec.ofNat 32 r) 2 + l.val; omega

theorem ws_apply (WS : Buf (Elt Ideal) ((Memref.whole cc0_scratch1).view.loc (c : Thread nD τ)))
    (hWS : ∀ (g : Fin 64) (n : Fin 88), (Memref.whole cc0_scratch1).view.read (Elt Ideal) WS (ix2 g n) = S (ix2 g n)) (r : Fin 4) (n : Fin 88) :
    wsAt c k (Memref.whole cc0_scratch1) WS r n = S (ix2 ⟨4 * k.val + r.val, by have := trips_lt k; omega⟩ n) := by
  have hk := trips_lt k
  refine (load_apply (Memref.whole cc0_scratch1).view (scale_inb k r n) WS _ (ix2 ⟨4 * k.val + r.val, by omega⟩ n) fun a => ?_).trans (hWS _ n)
  have h0 := at_row k r
  generalize hz : (Shape.Idx.first (Nat.lt_of_lt_of_eq Nat.one_pos numel1_S1x1.symm) : S1x1.Idx) = z
  have hz0 : (z 0).val < 1 := (z 0).isLt
  have hz1 : (z 1).val < 1 := (z 1).isLt
  fin_cases a
  · show 4 * k.val + r.val = k0_off7 k (BitVec.ofNat 32 r) 0 + (z 0).val; omega
  · show n.val = n.val + (z 1).val; omega

theorem term_apply (r j : Fin 4) (D : FVec Ideal S32x512 .f32) (x : FVec Ideal S8x128 .f32) (w : EReal) (i : Fin 8) (l : Fin 128) :
    term (F := Ideal) r j D x w (ix2 i l) = D (ix2 ⟨8 * r.val + i.val, by omega⟩ ⟨128 * j.val + l.val, by omega⟩) * (x (ix2 i l) * w) := by
  pointwise [term]

theorem stripe_lt (r : Fin 4) (i : Fin 8) : 8 * r.val + i.val < 32 := by omega
theorem feature_lt (k : Fin 16) (t : Fin 512) : 512 * k.val + t.val < 8192 := by omega

/-- What a trip reads: the stacked codes, the scales, the weight's scales, its two slots and the sums so far. -/
structure Reads (L : Buf (Elt Ideal) ((Memref.whole cc0_scratch3).view.loc (c : Thread nD τ))) (Xb : Buf (Elt Ideal) ((Memref.whole cc0_scratch4).view.loc (c : Thread nD τ)))
    (WS : Buf (Elt Ideal) ((Memref.whole cc0_scratch1).view.loc (c : Thread nD τ))) : Prop where
  left : ∀ (k : Fin 16) (r : Fin 4) (i : Fin 8) (t : Fin 512), (Memref.whole cc0_scratch3).view.read (Elt Ideal) L (ix3 k ⟨8 * r.val + i.val, stripe_lt r i⟩ t)
    = if r.val = t.val / 128 then code X i ⟨512 * k.val + t.val, feature_lt k t⟩ else 0
  lane : ∀ (g : Fin 64) (i : Fin 8) (l : Fin 128), (Memref.whole cc0_scratch4).view.read (Elt Ideal) Xb (ix3 g i l) = scale X i g
  weight : ∀ (g : Fin 64) (n : Fin 88), (Memref.whole cc0_scratch1).view.read (Elt Ideal) WS (ix2 g n) = S (ix2 g n)

section Block
variable {L : Buf (Elt Ideal) ((Memref.whole cc0_scratch3).view.loc (c : Thread nD τ))} {Xb : Buf (Elt Ideal) ((Memref.whole cc0_scratch4).view.loc (c : Thread nD τ))}
  {WS : Buf (Elt Ideal) ((Memref.whole cc0_scratch1).view.loc (c : Thread nD τ))} (R : Reads c X S L Xb WS)
include R

theorem stripe_apply (p : Fin 2) (q : Fin 11) (j : Fin 4) (G : Buf (Elt Ideal) ((Memref.whole cc0_scratch2).view.loc (c : Thread nD τ)))
    (hp : ∀ a, k0_off2 k (BitVec.ofNat 32 p) a + S1x512x5632.size a ≤ S16x512x5632.size a)
    (hG : ∀ (a : Fin 512) (b : Fin 5632), (Memref.whole cc0_scratch2).view.read (Elt Ideal) G
        ((Rect.unit (s := S16x512x5632) (k0_off2 k (BitVec.ofNat 32 p)) S1x512x5632.size hp).emb (ix3 0 a b : S1x512x5632.Idx))
      = W (ix2 ⟨512 * k.val + a.val, by have := trips_lt k; omega⟩ ⟨5632 * p.val + b.val, by omega⟩))
    (n : Fin 88) (hn : n.val = 44 * p.val + 4 * q.val + j.val) (r : Fin 4) (h) (i : Fin 8) (l : Fin 128) :
    term (F := Ideal) r j (dotAt c k (Memref.whole cc0_scratch2) (Memref.whole cc0_scratch3) L p q G)
        (xsAt c k (Memref.whole cc0_scratch4) Xb (BitVec.ofNat 32 r) h) (wsAt c k (Memref.whole cc0_scratch1) WS r n) (ix2 i l)
      = part X W S i ⟨128 * n.val + l.val, by omega⟩ ⟨4 * k.val + r.val, by have := trips_lt k; omega⟩ := by
  have hk := trips_lt k
  rw [term_apply, dot_apply c k X W L R.left p q G hp hG r i ⟨128 * j.val + l.val, by omega⟩, xs_apply c k X Xb R.lane, ws_apply c k S WS R.weight, part]
  have e : 5632 * p.val + 512 * q.val + (128 * j.val + l.val) = 128 * n.val + l.val := by omega
  have e' : (⟨(128 * n.val + l.val) / 128, by omega⟩ : Fin 88) = n := Fin.ext (by show (128 * n.val + l.val) / 128 = n.val; omega)
  simp only [e, e']

theorem block_apply (A : Buf (Elt Ideal) ((Memref.whole cc0_scratch5).view.loc (c : Thread nD τ))) (G0 G1 : Buf (Elt Ideal) ((Memref.whole cc0_scratch2).view.loc (c : Thread nD τ)))
    (hA : ∀ (i : Fin 8) (d : Fin 11264), (Memref.whole cc0_scratch5).view.read (Elt Ideal) A (ix2 i d) = sumTo X W S i d (4 * k.val))
    (hp : ∀ (p : Fin 2) a, k0_off2 k (BitVec.ofNat 32 p) a + S1x512x5632.size a ≤ S16x512x5632.size a)
    (hG : ∀ (p : Fin 2) (a : Fin 512) (b : Fin 5632), (Memref.whole cc0_scratch2).view.read (Elt Ideal) (if p.val = 0 then G0 else G1)
        ((Rect.unit (s := S16x512x5632) (k0_off2 k (BitVec.ofNat 32 p)) S1x512x5632.size (hp p)).emb (ix3 0 a b : S1x512x5632.Idx))
      = W (ix2 ⟨512 * k.val + a.val, by have := trips_lt k; omega⟩ ⟨5632 * p.val + b.val, by omega⟩))
    (n : Fin 88) (i : Fin 8) (l : Fin 128) :
    blockAt c k (Memref.whole cc0_scratch1) (Memref.whole cc0_scratch2) (Memref.whole cc0_scratch3) (Memref.whole cc0_scratch4) (Memref.whole cc0_scratch5) WS L Xb A G0 G1 n (ix2 i l)
      = sumTo X W S i ⟨128 * n.val + l.val, by omega⟩ (4 * (k.val + 1)) := by
  have hk := trips_lt k
  have hG' : (if n.val < 44 then G0 else G1) = if n.val / 44 = 0 then G0 else G1 := by
    by_cases h : n.val < 44
    · rw [if_pos h, if_pos (by omega)]
    · rw [if_neg h, if_neg (by omega)]
  have key := fun (r : Fin 4) (h) => stripe_apply c k X W S R ⟨n.val / 44, by omega⟩ ⟨n.val % 44 / 4, by omega⟩ ⟨n.val % 4, by omega⟩ _ (hp ⟨n.val / 44, by omega⟩) (hG ⟨n.val / 44, by omega⟩) n
    (by show n.val = 44 * (n.val / 44) + 4 * (n.val % 44 / 4) + n.val % 4; omega) r h i l
  have hA' : (Memref.whole cc0_scratch5).view.readAt (Elt Ideal) (Rect.unit (s := S8x11264) ![0, 128 * n.val] S8x128.size (block_inb n)).toLoadRect A (ix2 i l : S8x128.Idx)
      = sumTo X W S i ⟨128 * n.val + l.val, by omega⟩ (4 * k.val) :=
    (load_apply (Memref.whole cc0_scratch5).view (block_inb n) A _ (ix2 i ⟨128 * n.val + l.val, by omega⟩) fun a => by
      fin_cases a
      · show i.val = 0 + i.val; omega
      · rfl).trans (hA _ _)
  rw [sumTo_four X W S i _ k.val hk]
  unfold blockAt
  rw [hG']
  pointwise []
  exact congrArg₂ (· + ·) (congrArg₂ (· + ·) (congrArg₂ (· + ·) (congrArg₂ (· + ·) hA' (key 0 (k0_off5_inb k 0))) (key 1 (k0_off5_inb k 1))) (key 2 (k0_off5_inb k 2)))
    (key 3 (k0_off5_inb k 3))

/-- The sums after a trip, its two slots holding the two halves of 512 rows of the weight. -/
theorem step_of (A : Buf (Elt Ideal) ((Memref.whole cc0_scratch5).view.loc (c : Thread nD τ))) (G0 G1 : Buf (Elt Ideal) ((Memref.whole cc0_scratch2).view.loc (c : Thread nD τ)))
    (hA : ∀ (i : Fin 8) (d : Fin 11264), (Memref.whole cc0_scratch5).view.read (Elt Ideal) A (ix2 i d) = sumTo X W S i d (4 * k.val))
    (hp : ∀ (p : Fin 2) a, k0_off2 k (BitVec.ofNat 32 p) a + S1x512x5632.size a ≤ S16x512x5632.size a)
    (hG : ∀ (p : Fin 2) (a : Fin 512) (b : Fin 5632), (Memref.whole cc0_scratch2).view.read (Elt Ideal) (if p.val = 0 then G0 else G1)
        ((Rect.unit (s := S16x512x5632) (k0_off2 k (BitVec.ofNat 32 p)) S1x512x5632.size (hp p)).emb (ix3 0 a b : S1x512x5632.Idx))
      = W (ix2 ⟨512 * k.val + a.val, by have := trips_lt k; omega⟩ ⟨5632 * p.val + b.val, by omega⟩))
    (i : Fin 8) (d : Fin 11264) :
    (Memref.whole cc0_scratch5).view.read (Elt Ideal) ((Memref.whole cc0_scratch5).view.writes (Elt Ideal) A
      (upto (blockPiece c k (Memref.whole cc0_scratch1) (Memref.whole cc0_scratch2) (Memref.whole cc0_scratch3) (Memref.whole cc0_scratch4) (Memref.whole cc0_scratch5) WS L Xb A G0 G1) 88)) (ix2 i d)
      = sumTo X W S i d (4 * (k.val + 1)) := by
  refine read_upto (Memref.whole cc0_scratch5).view A _ 88 (ix2 i d) _ (d.val / 128) (by omega) (ix2 i ⟨d.val % 128, by omega⟩ : S8x128.Idx) (unit_emb (block_inb _) _ _ ?_) ?_
  · intro a
    fin_cases a
    · show i.val = 0 + i.val; omega
    · show d.val = 128 * (Fin.ofNat 88 (d.val / 128)).val + d.val % 128
      rw [ofNat_val _ _ (by omega)]; omega
  · intro n hn x hx
    change S8x128.Idx at x
    obtain ⟨a, b, rfl⟩ : ∃ (a : Fin 8) (b : Fin 128), x = ix2 a b := ⟨x 0, x 1, eq_ix2 x⟩
    have h0 : i.val = 0 + a.val := of_unit_emb (block_inb _) hx 0
    have h1 : d.val = 128 * (Fin.ofNat 88 n).val + b.val := of_unit_emb (block_inb _) hx 1
    obtain rfl : a = i := Fin.ext (by omega)
    have e : (⟨128 * (Fin.ofNat 88 n).val + b.val, by omega⟩ : Fin 11264) = d := Fin.ext h1.symm
    change blockAt c k (Memref.whole cc0_scratch1) (Memref.whole cc0_scratch2) (Memref.whole cc0_scratch3) (Memref.whole cc0_scratch4) (Memref.whole cc0_scratch5) WS L Xb A G0 G1 (Fin.ofNat 88 n) (ix2 a b) = _
    rw [block_apply c k X W S R A G0 G1 hA hp hG (Fin.ofNat 88 n) a b, e]

end Block

end Cert.Value
end
-- ==== Proof.Sums.lean ====
/-
  The sums after a trip of the loop, from what its two transfers brought.
-/
module

public import proofs.«01_k».proof.Proof.Block

@[expose] public section
set_option maxRecDepth 16384
noncomputable section
namespace Cert.Value
open Idealize.ShloMosaic Idealize.ShloMosaic.TcCoe
open Cert.KernelIdeal Cert.KernelIdeal.Gen Cert.KernelIdeal.Hand

theorem halves (c : Dev nD) (k : Fin k0_t1_loop.trips) (W : WSh.Idx → EReal) (G0 G1 : Buf (Elt Ideal) ((Memref.whole cc0_scratch2).view.loc (c : Thread nD τ)))
    (hp : ∀ (p : Fin 2) a, k0_off2 k (BitVec.ofNat 32 p) a + S1x512x5632.size a ≤ S16x512x5632.size a)
    (g0 : ∀ (a : Fin 512) (b : Fin 5632), (Memref.whole cc0_scratch2).view.read (Elt Ideal) G0
        ((Rect.unit (s := S16x512x5632) (k0_off2 k 0#32) S1x512x5632.size (k0_off2_inb k 0)).emb (ix3 0 a b : S1x512x5632.Idx))
      = W (ix2 ⟨512 * k.val + a.val, by have := trips_lt k; omega⟩ ⟨5632 * 0 + b.val, by omega⟩))
    (g1 : ∀ (a : Fin 512) (b : Fin 5632), (Memref.whole cc0_scratch2).view.read (Elt Ideal) G1
        ((Rect.unit (s := S16x512x5632) (k0_off2 k 1#32) S1x512x5632.size (k0_off2_inb k 1)).emb (ix3 0 a b : S1x512x5632.Idx))
      = W (ix2 ⟨512 * k.val + a.val, by have := trips_lt k; omega⟩ ⟨5632 * 1 + b.val, by omega⟩))
    (p : Fin 2) (a : Fin 512) (b : Fin 5632) : (Memref.whole cc0_scratch2).view.read (Elt Ideal) (if p.val = 0 then G0 else G1)
        ((Rect.unit (s := S16x512x5632) (k0_off2 k (BitVec.ofNat 32 p)) S1x512x5632.size (hp p)).emb (ix3 0 a b : S1x512x5632.Idx))
      = W (ix2 ⟨512 * k.val + a.val, by have := trips_lt k; omega⟩ ⟨5632 * p.val + b.val, by omega⟩) := by
  obtain rfl | rfl : p = 0 ∨ p = 1 := by revert p; decide
  · rw [if_pos (show ((0 : Fin 2)).val = 0 from rfl)]
    exact g0 a b
  · rw [if_neg (show ¬ ((1 : Fin 2)).val = 0 by decide)]
    exact g1 a b

theorem pages_inb (k : Fin k0_t1_loop.trips) (p : Fin 2) : ∀ a, k0_off2 k (BitVec.ofNat 32 p) a + S1x512x5632.size a ≤ S16x512x5632.size a := by
  obtain rfl | rfl : p = 0 ∨ p = 1 := by revert p; decide
  · exact k0_off2_inb k 0
  · exact k0_off2_inb k 1

theorem first_half (c : Dev nD) (k : Fin k0_t1_loop.trips) (W : WSh.Idx → EReal) (Wb : Buf (Elt Ideal) ((Memref.whole main_arg1).view.loc (c : Thread nD τ)))
    (hWb : ∀ y, Wb y = W y) (G0 : Buf (Elt Ideal) ((Memref.whole cc0_scratch2).view.loc (c : Thread nD τ))) (a : Fin 512) (b : Fin 5632) :
    (Memref.whole cc0_scratch2).view.read (Elt Ideal) (landed c (Memref.whole main_arg1) (Memref.whole cc0_scratch2) (k0_off2 k 0#32) (k0_off2_inb k 0) (k0_off3 k) (k0_off3_inb k) Wb G0)
        ((Rect.unit (s := S16x512x5632) (k0_off2 k 0#32) S1x512x5632.size (k0_off2_inb k 0)).emb (ix3 0 a b : S1x512x5632.Idx))
      = W (ix2 ⟨512 * k.val + a.val, by have := trips_lt k; omega⟩ ⟨5632 * 0 + b.val, by omega⟩) := by
  obtain ⟨r0, r1, r2, r3⟩ := at_rows k
  refine landed_at c (k0_off2 k 0#32) (k0_off2_inb k 0) (k0_off3 k) (k0_off3_inb k) Wb W hWb G0 a b _ ?_ ?_
  · show 512 * k.val + a.val = k0_off3 k 0 + a.val; omega
  · show 5632 * 0 + b.val = k0_off3 k 1 + b.val; omega

theorem second_half (c : Dev nD) (k : Fin k0_t1_loop.trips) (W : WSh.Idx → EReal) (Wb : Buf (Elt Ideal) ((Memref.whole main_arg1).view.loc (c : Thread nD τ)))
    (hWb : ∀ y, Wb y = W y) (G1 : Buf (Elt Ideal) ((Memref.whole cc0_scratch2).view.loc (c : Thread nD τ))) (a : Fin 512) (b : Fin 5632) :
    (Memref.whole cc0_scratch2).view.read (Elt Ideal) (landed c (Memref.whole main_arg1) (Memref.whole cc0_scratch2) (k0_off2 k 1#32) (k0_off2_inb k 1) (k0_off64 k) (k0_off64_inb k) Wb G1)
        ((Rect.unit (s := S16x512x5632) (k0_off2 k 1#32) S1x512x5632.size (k0_off2_inb k 1)).emb (ix3 0 a b : S1x512x5632.Idx))
      = W (ix2 ⟨512 * k.val + a.val, by have := trips_lt k; omega⟩ ⟨5632 * 1 + b.val, by omega⟩) := by
  obtain ⟨r0, r1, r2, r3⟩ := at_rows k
  refine landed_at c (k0_off2 k 1#32) (k0_off2_inb k 1) (k0_off64 k) (k0_off64_inb k) Wb W hWb G1 a b _ ?_ ?_
  · show 512 * k.val + a.val = k0_off64 k 0 + a.val; omega
  · show 5632 * 1 + b.val = k0_off64 k 1 + b.val; omega

/-- The sums after a trip. -/
theorem step (c : Dev nD) (k : Fin k0_t1_loop.trips) (X : XS.Idx → EReal) (W : WSh.Idx → EReal) (S : SS.Idx → EReal)
    {L : Buf (Elt Ideal) ((Memref.whole cc0_scratch3).view.loc (c : Thread nD τ))} {Xb : Buf (Elt Ideal) ((Memref.whole cc0_scratch4).view.loc (c : Thread nD τ))}
    {WS : Buf (Elt Ideal) ((Memref.whole cc0_scratch1).view.loc (c : Thread nD τ))} (R : Reads c X S L Xb WS)
    (A : Buf (Elt Ideal) ((Memref.whole cc0_scratch5).view.loc (c : Thread nD τ))) (Wb : Buf (Elt Ideal) ((Memref.whole main_arg1).view.loc (c : Thread nD τ)))
    (hWb : ∀ y, Wb y = W y) (G0 G1 : Buf (Elt Ideal) ((Memref.whole cc0_scratch2).view.loc (c : Thread nD τ)))
    (hA : ∀ (i : Fin 8) (d : Fin 11264), (Memref.whole cc0_scratch5).view.read (Elt Ideal) A (ix2 i d) = sumTo X W S i d (4 * k.val))
    (i : Fin 8) (d : Fin 11264) :
    (Memref.whole cc0_scratch5).view.read (Elt Ideal) ((Memref.whole cc0_scratch5).view.writes (Elt Ideal) A
      (upto (blockPiece c k (Memref.whole cc0_scratch1) (Memref.whole cc0_scratch2) (Memref.whole cc0_scratch3) (Memref.whole cc0_scratch4) (Memref.whole cc0_scratch5) WS L Xb A
        (landed c (Memref.whole main_arg1) (Memref.whole cc0_scratch2) (k0_off2 k 0#32) (k0_off2_inb k 0) (k0_off3 k) (k0_off3_inb k) Wb G0)
        (landed c (Memref.whole main_arg1) (Memref.whole cc0_scratch2) (k0_off2 k 1#32) (k0_off2_inb k 1) (k0_off64 k) (k0_off64_inb k) Wb G1)) 88)) (ix2 i d)
      = sumTo X W S i d (4 * (k.val + 1)) :=
  step_of c k X W S R A _ _ hA (pages_inb k) (halves c k W _ _ (pages_inb k) (first_half c k W Wb hWb G0) (second_half c k W Wb hWb G1)) i d

end Cert.Value
end
-- ==== Proof.Value.lean ====
/-
  What a run of the kernel leaves in its three results.
-/
module

public import proofs.«01_k».proof.Proof.Sums
public import proofs.«01_k».proof.Proof.Frame

@[expose] public section
set_option maxRecDepth 16384
noncomputable section
namespace Cert.Value
open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

local notation "𝕄" => MT nD τ sig Unit (Elt Ideal) ℕ (Pipeline.UD sig nD τ) ℕ

variable (m : (ℓ : Loc nD τ sig) → Buf (Elt Ideal) ℓ) (ρ : Dev nD → PrngReg)

/-! ## What the kernel is given, and what it must return -/

def acts (c : Dev nD) : XS.Idx → EReal := V m c main_v0
def weight (c : Dev nD) : WSh.Idx → EReal := V m c main_arg1
def weightScales (c : Dev nD) : SS.Idx → EReal := V m c main_arg2

def outputs (c : Dev nD) : S8x11264.Idx → EReal := fun y => output (acts m c) (weight m c) (weightScales m c) (y 0) (y 1)
def codes (c : Dev nD) : S8x8192.Idx → EReal := fun y => code (acts m c) (y 0) (y 1)
def scales (c : Dev nD) : S8x64.Idx → EReal := fun y => scale (acts m c) (y 0) (y 1)

def Bounded (c : Dev nD) : Prop := ∀ y, max (acts m c y) (-(acts m c y)) ≤ Ideal.ofBits FTy.f32 2139029504#32

/-- The sums after `k` trips. -/
def Sums (c : Dev nD) (k : ℕ) (A : Buf (Elt Ideal) ((c : Thread nD τ).loc cc0_scratch5)) : Prop :=
  ∀ (i : Fin 8) (d : Fin 11264), (Memref.whole cc0_scratch5).view.read (Elt Ideal) A (ix2 i d) = sumTo (acts m c) (weight m c) (weightScales m c) i d (4 * k)

theorem xIn_eq (c : Dev nD) (XB) (y) : xIn c (Memref.whole main_v0) (Memref.whole cc0_scratch0) (V m c main_v0) XB y = acts m c y := by
  unfold xIn
  exact congrFun (View.read_write_univ (v := (Memref.whole cc0_scratch0).view) XB _) y

theorem wsIn_eq (c : Dev nD) (WS) (g : Fin 64) (n : Fin 88) :
    (Memref.whole cc0_scratch1).view.read (Elt Ideal) (wsIn c (Memref.whole main_arg2) (Memref.whole cc0_scratch1) (V m c main_arg2) WS) (ix2 g n) = weightScales m c (ix2 g n) := by
  unfold wsIn
  exact congrFun (View.read_write_univ (v := (Memref.whole cc0_scratch1).view) WS _) (ix2 g n)

/-- A buffer written whole by one store, at an index. -/
theorem stored {s : Shape} {sp : Space} {e : EltTy} (v : View sig .tc sp s e) {off : Fin s.rank → ℕ} (h) (f : v.ty.Contents (Elt Ideal))
    (w : s.Idx → Elt Ideal e) (y : s.Idx) (h0 : ∀ a, off a = 0) :
    v.read (Elt Ideal) (v.writes (Elt Ideal) f [⟨Rect.unit off s.size h, w⟩]) y = w y := by
  have e := View.read_writes_cons_emb v f (Rect.unit off s.size h) w [] y
  rwa [unit_emb h y y fun a => by rw [h0 a]; omega] at e

theorem zero_off : ∀ a : Fin 2, (![0, 0] : Fin 2 → ℕ) a = 0 := by decide

variable {m}

theorem reads (c : Dev nD) (hB : Bounded m c) (XB) (WS) (fL) (fX) :
    Reads c (acts m c) (weightScales m c)
      ((Memref.whole cc0_scratch3).view.writes (Elt Ideal) fL (upto (leftPiece c (Memref.whole cc0_scratch0) (xIn c (Memref.whole main_v0) (Memref.whole cc0_scratch0) (V m c main_v0) XB)) 64))
      ((Memref.whole cc0_scratch4).view.writes (Elt Ideal) fX (upto (lanePiece c (Memref.whole cc0_scratch0) (xIn c (Memref.whole main_v0) (Memref.whole cc0_scratch0) (V m c main_v0) XB)) 64))
      (wsIn c (Memref.whole main_arg2) (Memref.whole cc0_scratch1) (V m c main_arg2) WS) where
  left := left_read c _ (acts m c) (xIn_eq m c XB) hB _
  lane := lane_read c _ (acts m c) (xIn_eq m c XB) hB _
  weight := wsIn_eq m c WS

theorem right (c : Dev nD) (t : Fin cfg0.N) (hB : Bounded m c) (XB) (WS) :
    Right m c t (fun Y => Y = outputs m c) (fun Y => Y = codes m c) (fun Y => Y = scales m c) XB WS (Sums m c) where
  keep := {
    fed := fun k A G0 G1 hk1 hk2 hA => by
      rw [tripFed_pieces, left_pieces, lane_pieces]
      exact step c k (acts m c) (weight m c) (weightScales m c) (reads c hB XB WS _ _) A _ (fun _ => rfl) G0 G1 hA
    dry := fun k A G0 G1 hk1 hk2 hA => by
      rw [tripDry_pieces, left_pieces, lane_pieces]
      exact step c k (acts m c) (weight m c) (weightScales m c) (reads c hB XB WS _ _) A _ (fun _ => rfl) G0 G1 hA }
  first := by
    rw [sum_pieces]
    intro i d
    rw [show 4 * 0 = 0 from rfl, sumTo_zero]
    refine (stored (Memref.whole cc0_scratch5).view _ _ _ (ix2 i d) zero_off).trans ?_
    pointwise [k0_pay831]
  y := fun A hA Y => by
    funext y
    obtain ⟨i, d, rfl⟩ : ∃ (i : Fin 8) (d : Fin 11264), y = ix2 i d := ⟨y 0, y 1, eq_ix2 y⟩
    refine (stored (st0_0 t).view _ _ _ (ix2 i d) zero_off).trans ?_
    have e := hA i d
    rw [sumTo_all] at e
    refine Eq.trans ?_ e
    pointwise [k0_pay1]
    refine load_apply (Memref.whole cc0_scratch5).view _ A _ (ix2 i d) fun a => ?_
    fin_cases a
    · show i.val = 0 + i.val; omega
    · show d.val = 0 + d.val; omega
  codes := by
    rw [codes_pieces]
    funext y
    obtain ⟨i, d, rfl⟩ : ∃ (i : Fin 8) (d : Fin 8192), y = ix2 i d := ⟨y 0, y 1, eq_ix2 y⟩
    exact codes_read c _ (acts m c) (xIn_eq m c XB) hB _ i d
  scales := by
    rw [scales_pieces]
    funext y
    obtain ⟨i, g, rfl⟩ : ∃ (i : Fin 8) (g : Fin 64), y = ix2 i g := ⟨y 0, y 1, eq_ix2 y⟩
    refine (stored (st0_2 t).view _ _ _ (ix2 i g) zero_off).trans ?_
    exact scalesTo_read c _ (acts m c) (xIn_eq m c XB) hB 64 i g g.isLt le_rfl

end Cert.Value
end
-- ==== Proof.Result.lean ====
/-
  A run of the kernel, its three results stated.
-/
module

public import proofs.«01_k».proof.Proof.Value
public import Idealize.ShloMosaic.Lib.Pipeline.ValueKit

@[expose] public section
set_option maxRecDepth 16384
noncomputable section
namespace Cert.Value
open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

local notation "𝕄" => MT nD τ sig Unit (Elt Ideal) ℕ (Pipeline.UD sig nD τ) ℕ

variable (m : (ℓ : Loc nD τ sig) → Buf (Elt Ideal) ℓ) (ρ : Dev nD → PrngReg)

/-- The one grid point leaves the three results in their staging buffers. -/
def datsV (_ : Fin 1) (c : Dev nD) : Dat τ (Elt Ideal) Unit ℕ (Pipeline.UD sig nD τ) ℕ cfg0 c where
  A w := V m c (Pipeline.arrRef spec0 w)
  after w t := match w with
    | ⟨0, _⟩ => outputs m c
    | ⟨1, _⟩ => codes m c
    | ⟨2, _⟩ => scales m c
  Φ _ := Pipeline.ΦD osem0 spec0 H0 (V m) c
  q _ := fullShare
  owed _ := 0

theorem A_eqV (c : Dev nD) (w : Fin cfg0.W) : (datsV m 0 c).A w = V m c (Pipeline.arrRef spec0 w) := by
  dsimp only [datsV]

theorem after_0 (c : Dev nD) (t : Fin cfg0.N) : (datsV m 0 c).after 0 t = outputs m c := by dsimp only [datsV]
theorem after_1 (c : Dev nD) (t : Fin cfg0.N) : (datsV m 0 c).after 1 t = codes m c := by dsimp only [datsV]
theorem after_2 (c : Dev nD) (t : Fin cfg0.N) : (datsV m 0 c).after 2 t = scales m c := by dsimp only [datsV]

theorem sound_bodyV (c : Dev nD) (hB : Bounded m c) (t : Fin cfg0.N) :
    iprop((datsV m 0 c).Φ t.castSucc ∗ (datsV m 0 c).owesAt () t.castSucc
        ∗ (∃ d, owns (c : Thread nD τ) (st0_0 t) fullShare ((datsV m 0 c).before 0 t d)) ∗ (∃ d, owns (c : Thread nD τ) (st0_1 t) fullShare ((datsV m 0 c).before 1 t d)) ∗ (∃ d, owns (c : Thread nD τ) (st0_2 t) fullShare ((datsV m 0 c).before 2 t d)))
      ⊢ wp frame (wpE (defs₀ (F := Ideal)) Variants.none (c : Thread nD τ) none) Set.univ (bodyAt0 t) (fun _ =>
        iprop((datsV m 0 c).Φ t.succ ∗ (datsV m 0 c).owesAt () t.succ
        ∗ owns (c : Thread nD τ) (st0_0 t) fullShare ((datsV m 0 c).after 0 t) ∗ owns (c : Thread nD τ) (st0_1 t) fullShare ((datsV m 0 c).after 1 t) ∗ owns (c : Thread nD τ) (st0_2 t) fullShare ((datsV m 0 c).after 2 t))) := by
  rw [show (datsV m 0 c).Φ t.succ = Pipeline.ΦD osem0 spec0 H0 (V m) c from rfl, show (datsV m 0 c).Φ t.castSucc = Pipeline.ΦD osem0 spec0 H0 (V m) c from rfl, after_0, after_1, after_2]
  unfold Dat.owesAt Pipeline.owesWithin
  rw [show (datsV m 0 c).owed t.castSucc = 0 from rfl, show (datsV m 0 c).owed t.succ = 0 from rfl]
  iintro ⟨HΦ, ⟨%ws, -, HO⟩, ⟨%d0, H0⟩, ⟨%d1, H1⟩, ⟨%d2, H2⟩⟩
  iapply (sound m c t (fun Y => Y = outputs m c) (fun Y => Y = codes m c) (fun Y => Y = scales m c) (fun XB WS => ⟨_, right c t hB XB WS⟩))
  isplitl [HΦ]; · iexact HΦ
  isplitl [HO]; · iexists ws; iexact HO
  isplitl [H0]; · iexists _; iexact H0
  isplitl [H1]; · iexists _; iexact H1
  isplitl [H2]; · iexists _; iexact H2
  iintro ⟨HΦ, ⟨%ws', HO⟩, ⟨%Y0, %e0, H0⟩, ⟨%Y1, %e1, H1⟩, ⟨%Y2, %e2, H2⟩⟩
  rw [e0, e1, e2]
  isplitl [HΦ]; · iexact HΦ
  isplitl [HO]
  · iexists ws'; isplitr; · ipureintro; exact fun _ _ => Or.inl trivial
    iexact HO
  isplitl [H0]; · iexact H0
  isplitl [H1]; · iexact H1
  iexact H2

theorem body_obligationV (c : Dev nD) (hB : Bounded m c) : BodyObligation (datsV m 0 c) (defs₀ (F := Ideal)) Variants.none () Set.univ := fun t => by
  rw [bigSep_W0, bigSep_W0, defs₀_row]
  exact triple_restated (sound_bodyV m c hB t) rfl .rfl fun _ => .rfl

set_option backward.isDefEq.respectTransparency.types false in
theorem run_mainV (hB : ∀ c, Bounded m c) : θ_run defs (onTc (τ := τ) (main (F := Ideal))) (s₀ m ρ)
    (Pipeline.FramePost cfgs (datsV m) 0 (V m)) :=
  Pipeline.θ_run_frame_dma cfgs (datsV m) (0 : Fin 1) launch0 osem0 defs₀ Variants.none ownSemFacts0 H0 H0_sub m ρ main
    (hbody := fun c => (body_obligationV m c (hB c)).loose) (hshare := fun c => (datsV m 0 c).share_full fun _ => rfl)
    (howed := fun _ _ => rfl) (V := V m) (hmain := hmainD m Variants.none) (hA := A_eqV m)
    (hin := fun _ => .rfl) (hout := fun _ => .rfl)

theorem zero_0 : ∀ a, win0_0.index t0_0 a = 0 := by decide +kernel
theorem zero_1 : ∀ a, win0_1.index t0_0 a = 0 := by decide +kernel
theorem zero_2 : ∀ a, win0_2.index t0_0 a = 0 := by decide +kernel

theorem result_0 (c : Dev nD) : (datsV m 0 c).arrAt 0 cfg0.N = outputs m c := by
  refine (datsV m 0 c).arrAt_eq_of_covers 0 _ (by decide +kernel) fun t hf y => ?_
  blk_simp
  rw [after_0]
  obtain rfl := fin_N0 t
  exact congrArg (outputs m c) (funext fun a => Fin.ext (Window.rect_emb_val_of_index_zero win0_0 t0_0 a (zero_0 a) y).symm)

theorem result_1 (c : Dev nD) : (datsV m 0 c).arrAt 1 cfg0.N = codes m c := by
  refine (datsV m 0 c).arrAt_eq_of_covers 1 _ (by decide +kernel) fun t hf y => ?_
  blk_simp
  rw [after_1]
  obtain rfl := fin_N0 t
  exact congrArg (codes m c) (funext fun a => Fin.ext (Window.rect_emb_val_of_index_zero win0_1 t0_0 a (zero_1 a) y).symm)

theorem result_2 (c : Dev nD) : (datsV m 0 c).arrAt 2 cfg0.N = scales m c := by
  refine (datsV m 0 c).arrAt_eq_of_covers 2 _ (by decide +kernel) fun t hf y => ?_
  blk_simp
  rw [after_2]
  obtain rfl := fin_N0 t
  exact congrArg (scales m c) (funext fun a => Fin.ext (Window.rect_emb_val_of_index_zero win0_2 t0_0 a (zero_2 a) y).symm)

/-- Of bounded activations the kernel returns `outputs`, `codes` and `scales`, and leaves its arguments be. -/
theorem kernel_run (hB : ∀ c, Bounded m c) : θ_run defs (onTc (τ := τ) (main (F := Ideal))) ⟨m, fun _ => 0, ρ⟩ (fun r => ∀ c : Dev nD,
      r.2.mem ((c.tc : Thread nD τ).loc main_v1_0) = outputs m c
      ∧ r.2.mem ((c.tc : Thread nD τ).loc main_v1_1) = codes m c
      ∧ r.2.mem ((c.tc : Thread nD τ).loc main_v1_2) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (result_0 m c), ((h c).1 1).trans (result_1 m c), ((h c).1 2).trans (result_2 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_mainV m ρ hB)

end Cert.Value
end
-- ==== Proof.Reference.lean ====
/-
  What a run of the reference leaves in its three results.
-/
module

public import proofs.«01_k».proof.Proof.Spec
public import proofs.«01_k».proof.Proof.Gen.ReferenceIdeal.Frame
public import Idealize.ShloMosaic.Lib.Pipeline.ValueKit

@[expose] public section
set_option maxRecDepth 16384
noncomputable section
namespace Cert.Value.Ref
open Cert.ReferenceIdeal Cert.ReferenceIdeal.Gen
open Idealize.ShloMosaic Idealize.ShloMosaic.TcCoe Idealize.ShloMosaic.Tactic
open Idealize.ShloMosaic.Pipeline (Dat Cfg Window)
open Idealize.SL.Sem

variable (m : (ℓ : Loc nD τ sig) → Buf (Elt Ideal) ℓ) (ρ : Dev nD → PrngReg)

def acts (c : Dev nD) : XS.Idx → EReal := V m c main_v0
def weight (c : Dev nD) : WSh.Idx → EReal := V m c main_arg1
def weightScales (c : Dev nD) : SS.Idx → EReal := V m c main_arg2

/-- The array the reference is given is the first argument, its second axis dropped. -/
theorem acts_eq (c : Dev nD) : acts m c = shapeCast S8x8192 (m ((c.tc : Thread nD τ).loc main_arg0) : S8x1x8192.Idx → EReal) shapeCasts_S8x1x8192_S8x8192 := by
  unfold acts V
  rw [StableHlo.after_cons, StableHlo.after_nil]
  exact StableHlo.reshape_result main_arg0 main_v0 rfl shapeCasts_S8x1x8192_S8x8192 _ _ (fun b => m (c, b))

def outputs (c : Dev nD) : S8x11264.Idx → EReal := fun y => output (acts m c) (weight m c) (weightScales m c) (y 0) (y 1)
def codes (c : Dev nD) : S8x8192.Idx → EReal := fun y => code (acts m c) (y 0) (y 1)
def scales (c : Dev nD) : S8x64.Idx → EReal := fun y => scale (acts m c) (y 0) (y 1)

/-! ## Each window's one block is its array -/

theorem zero_0 : ∀ (t : Fin grid0.N) (a), win0_0.index t a = 0 := by decide +kernel
theorem zero_1 : ∀ (t : Fin grid0.N) (a), win0_1.index t a = 0 := by decide +kernel
theorem zero_2 : ∀ (t : Fin grid0.N) (a), win0_2.index t a = 0 := by decide +kernel
theorem zero_3 : ∀ (t : Fin grid0.N) (a), win0_3.index t a = 0 := by decide +kernel
theorem zero_4 : ∀ (t : Fin grid0.N) (a), win0_4.index t a = 0 := by decide +kernel
theorem zero_5 : ∀ (t : Fin grid0.N) (a), win0_5.index t a = 0 := by decide +kernel

theorem iblk_0 (c : Dev nD) (t : Fin cfg0.N) : iblk m c 0 t = acts m c :=
  funext fun y => congrArg (acts m c) (funext fun a => Fin.ext (Window.rect_emb_val_of_index_zero win0_0 t a (zero_0 t a) y))
theorem iblk_1 (c : Dev nD) (t : Fin cfg0.N) : iblk m c 1 t = weight m c :=
  funext fun y => congrArg (weight m c) (funext fun a => Fin.ext (Window.rect_emb_val_of_index_zero win0_1 t a (zero_1 t a) y))
theorem iblk_2 (c : Dev nD) (t : Fin cfg0.N) : iblk m c 2 t = weightScales m c :=
  funext fun y => congrArg (weightScales m c) (funext fun a => Fin.ext (Window.rect_emb_val_of_index_zero win0_2 t a (zero_2 t a) y))

/-! ## The body's results -/

theorem zero_off : (![0, 0] : Fin 2 → ℕ) = fun _ => 0 := by decide

theorem out_3 (c : Dev nD) (t : Fin cfg0.N) : out0_3 (iblk m c 0 t) (iblk m c 1 t) (iblk m c 2 t) = outputs m c := by
  rw [iblk_0, iblk_1, iblk_2, out0_3]
  refine (View.canon_unit_zero zero_off _ _).trans ?_
  rw [View.ld_unit_zero zero_off, View.ld_unit_zero zero_off, View.ld_unit_zero zero_off]
  funext y
  obtain ⟨i, d, rfl⟩ : ∃ (i : Fin 8) (d : Fin 11264), y = ix2 i d := ⟨y 0, y 1, eq_ix2 y⟩
  exact ref_output (acts m c) (weight m c) (weightScales m c) i d

theorem out_4 (c : Dev nD) (t : Fin cfg0.N) : out0_4 (iblk m c 0 t) (iblk m c 1 t) (iblk m c 2 t) = codes m c := by
  rw [iblk_0, out0_4]
  refine (View.canon_unit_zero zero_off _ _).trans ?_
  rw [View.ld_unit_zero zero_off]
  funext y
  obtain ⟨i, d, rfl⟩ : ∃ (i : Fin 8) (d : Fin 8192), y = ix2 i d := ⟨y 0, y 1, eq_ix2 y⟩
  exact ref_code (acts m c) i d

theorem out_5 (c : Dev nD) (t : Fin cfg0.N) : out0_5 (iblk m c 0 t) (iblk m c 1 t) (iblk m c 2 t) = scales m c := by
  rw [iblk_0, out0_5]
  refine (View.canon_unit_zero zero_off _ _).trans ?_
  rw [View.ld_unit_zero zero_off]
  funext y
  obtain ⟨i, g, rfl⟩ : ∃ (i : Fin 8) (g : Fin 64), y = ix2 i g := ⟨y 0, y 1, eq_ix2 y⟩
  exact ref_scale (acts m c) i g

theorem result_0 (c : Dev nD) : (dats m 0 c).arrAt 3 cfg0.N = outputs m c := by
  refine (dats m 0 c).arrAt_eq_of_covers 3 _ (by decide +kernel) fun t hf y => ?_
  blk_simp
  rw [after0_3, out_3]
  exact congrArg (outputs m c) (funext fun a => Fin.ext (Window.rect_emb_val_of_index_zero win0_3 t a (zero_3 t a) y).symm)
theorem result_1 (c : Dev nD) : (dats m 0 c).arrAt 4 cfg0.N = codes m c := by
  refine (dats m 0 c).arrAt_eq_of_covers 4 _ (by decide +kernel) fun t hf y => ?_
  blk_simp
  rw [after0_4, out_4]
  exact congrArg (codes m c) (funext fun a => Fin.ext (Window.rect_emb_val_of_index_zero win0_4 t a (zero_4 t a) y).symm)
theorem result_2 (c : Dev nD) : (dats m 0 c).arrAt 5 cfg0.N = scales m c := by
  refine (dats m 0 c).arrAt_eq_of_covers 5 _ (by decide +kernel) fun t hf y => ?_
  blk_simp
  rw [after0_5, out_5]
  exact congrArg (scales m c) (funext fun a => Fin.ext (Window.rect_emb_val_of_index_zero win0_5 t a (zero_5 t a) y).symm)

/-- The reference returns `outputs`, `codes` and `scales`, and leaves its arguments be. -/
theorem reference_run : θ_run defs (onTc (τ := τ) (main (F := Ideal))) ⟨m, fun _ => 0, ρ⟩ (fun r => ∀ c : Dev nD,
      r.2.mem ((c.tc : Thread nD τ).loc main_v1_0) = outputs m c
      ∧ r.2.mem ((c.tc : Thread nD τ).loc main_v1_1) = codes m c
      ∧ r.2.mem ((c.tc : Thread nD τ).loc main_v1_2) = scales m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (result_0 m c), ((h c).1 4).trans (result_1 m c), ((h c).1 5).trans (result_2 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.Value.Ref
end
-- ==== Proof.Agree.lean ====
/-
  The kernel's results and the reference's, of the same finite activations.
-/
module

public import proofs.«01_k».proof.Defs
public import proofs.«01_k».proof.Proof.Result
public import proofs.«01_k».proof.Proof.Reference

@[expose] public section
set_option maxRecDepth 16384
noncomputable section
namespace Cert.Value
open Idealize.ShloMosaic Idealize.ShloMosaic.TcCoe Idealize.ShloMosaic.Tactic
open Idealize.SL.Sem

theorem of_bit {p : Prop} [Decidable p] (h : BitVec.ofBool (decide p) = 1#1) : p := by
  by_contra hp
  rw [decide_eq_false hp] at h
  exact absurd h (by decide)

/-- The precondition's own side conditions. -/
theorem preFacts : Cert.Pre_finite_activations.Facts := ⟨by decide, by decide⟩

section
open Cert.KernelIdeal Cert.KernelIdeal.Gen
variable (m : (ℓ : Loc nD τ sig) → Buf (Elt Ideal) ℓ)

/-- The array the kernel is given is the first argument, its second axis dropped. -/
theorem acts_eq (c : Dev nD) : acts m c = shapeCast S8x8192 (m ((c.tc : Thread nD τ).loc main_arg0) : S8x1x8192.Idx → EReal) shapeCasts_S8x1x8192_S8x8192 := by
  unfold acts V
  rw [StableHlo.after_cons, StableHlo.after_nil]
  exact StableHlo.reshape_result main_arg0 main_v0 rfl shapeCasts_S8x1x8192_S8x8192 _ _ (fun b => m (c, b))

theorem dropped (A : S8x1x8192.Idx → EReal) (h) (i : Fin 8) (d : Fin 8192) : shapeCast S8x8192 A h (ix2 i d) = A (ix3 i 0 d) := by
  pointwise []

theorem acts_apply (c : Dev nD) (i : Fin 8) (d : Fin 8192) : acts m c (ix2 i d) = (m ((c.tc : Thread nD τ).loc main_arg0) : S8x1x8192.Idx → EReal) (ix3 i 0 d) := by
  rw [acts_eq]
  exact dropped _ _ i d

/-- Of finite activations the bound holds. -/
theorem bounded (h : Cert.Pre_KernelIdeal_finite_activations (hPre_finite_activations := preFacts) m) (c : Dev nD) : Bounded m c := fun y => by
  obtain ⟨i, d, rfl⟩ : ∃ (i : Fin 8) (d : Fin 8192), y = ix2 i d := ⟨y 0, y 1, eq_ix2 y⟩
  have e := congrFun (h c) (ix3 i 0 d)
  rw [acts_apply]
  revert e
  pointwise [Cert.Pre_finite_activations.fn]
  exact fun e => of_bit e
end

/-- The two programs are given the same arrays when their arguments are equal. -/
theorem same_acts (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Ref.acts m' c = acts m c := by
  rw [Ref.acts_eq, acts_eq]
  exact congrArg (fun A : Cert.KernelIdeal.S8x1x8192.Idx → EReal => shapeCast Cert.KernelIdeal.S8x8192 A Cert.KernelIdeal.Gen.facts.shapeCasts_S8x1x8192_S8x8192) h

theorem same_weight (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Ref.weight m' c = weight m c :=
  (Cert.ReferenceIdeal.Gen.V_main_arg1 m' c).trans (h.trans (Cert.KernelIdeal.Gen.V_main_arg1 m c).symm)

theorem same_weightScales (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Ref.weightScales m' c = weightScales m c :=
  (Cert.ReferenceIdeal.Gen.V_main_arg2 m' c).trans (h.trans (Cert.KernelIdeal.Gen.V_main_arg2 m c).symm)

/-- The claim: on finite activations the kernel returns what the reference does. -/
theorem algebraic : Cert.algebraic_KernelIdeal_ReferenceIdeal_pre_finite_activations (hPre_finite_activations := preFacts) :=
  fun m g m' g' hp he => by
    refine ⟨outputs m, codes m, scales m, kernel_run m g (bounded m hp), ?_⟩
    have e0 : ∀ c, Ref.acts m' c = acts m c := fun c => same_acts m m' c (he c).1
    have e1 : ∀ c, Ref.weight m' c = weight m c := fun c => same_weight m m' c (he c).2.1
    have e2 : ∀ c, Ref.weightScales m' c = weightScales m c := fun c => same_weightScales m m' c (he c).2.2
    refine (θ_run _ _ _).mono (fun r h c => ?_) (Ref.reference_run m' g')
    obtain ⟨h0, h1, h2, h3⟩ := h c
    refine ⟨h0.trans ?_, h1.trans ?_, h2.trans ?_, h3⟩
    · unfold Ref.outputs outputs; rw [e0, e1, e2]
    · unfold Ref.codes codes; rw [e0]
    · unfold Ref.scales scales; rw [e0]

end Cert.Value
end
-- ==== Proof.lean ====
/-  The proof of `Cert.Claim`. -/
module

public import proofs.«01_k».proof.Defs
public import proofs.«01_k».proof.Proof.Frame
public import proofs.«01_k».proof.Proof.BitsFrame
public import proofs.«01_k».proof.Proof.Agree
public import proofs.«01_k».proof.Proof.Gen.ReferenceIdeal.Frame

@[expose] public section

theorem Cert.Proof.claim : Cert.Claim :=
  ⟨Cert.Kernel.Gen.facts, Cert.KernelIdeal.Gen.facts, Cert.ReferenceIdeal.Gen.facts, Cert.Value.preFacts,
    fun m ρ _ => Cert.Kernel.Hand.frame_run m ρ,
    fun m ρ _ => Cert.KernelIdeal.Hand.frame_run m ρ,
    fun m ρ _ => Cert.KernelIdeal.Hand.frame_run m ρ,
    fun m ρ _ => Cert.ReferenceIdeal.Gen.frame m ρ,
    fun m ρ _ => Cert.ReferenceIdeal.Gen.frame m ρ,
    trivial,
    Cert.Value.algebraic⟩

end
